-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "pad" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x100 : Shape := ⟨2, ![4096, 100]⟩
abbrev S200x512 : Shape := ⟨2, ![200, 512]⟩
abbrev S512 : Shape := ⟨1, ![512]⟩
abbrev S512x100000 : Shape := ⟨2, ![512, 100000]⟩
abbrev S100000 : Shape := ⟨1, ![100000]⟩
abbrev S_ : Shape := ⟨0, ![]⟩

class Facts : Prop where
  bcast_S_S4096x100 : S_.BroadcastsInDim S4096x100 (![] : Fin 0 → Fin S4096x100.rank)
  reducesTo_S4096x100_S_d0_1 : S4096x100.ReducesTo [0, 1] S_
  h_S_ : 0 < S_.numel
  bcast_S_S200x512 : S_.BroadcastsInDim S200x512 (![] : Fin 0 → Fin S200x512.rank)
  reducesTo_S200x512_S_d0_1 : S200x512.ReducesTo [0, 1] S_
  bcast_S_S512 : S_.BroadcastsInDim S512 (![] : Fin 0 → Fin S512.rank)
  reducesTo_S512_S_d0 : S512.ReducesTo [0] S_
  bcast_S_S512x100000 : S_.BroadcastsInDim S512x100000 (![] : Fin 0 → Fin S512x100000.rank)
  reducesTo_S512x100000_S_d0_1 : S512x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg4 : FVec F S512x100000 .f32) (main_arg5 : FVec F S100000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x100000 .f32 := Host.absf main_arg4
  let main_cst_6 : FVec F S_ .f32 := constant S_ .f32 0x49800000#32
  let main_v20 : FVec F S512x100000 .f32 := broadcastInDim S512x100000 ![] bcast_S_S512x100000 main_cst_6
  let main_v21 : IVec S512x100000 1 := cmpf .ole main_v19 main_v20
  let main_c_7 : IVec S_ 1 := constantI S_ 1 1#1
  let main_v22 : IVec S_ 1 := (fun x v => Host.reduce IntOp.andi x v reducesTo_S512x100000_S_d0_1 h_S_) main_v21 main_c_7
  let main_v23 : IVec S_ 1 := andi main_v18 main_v22
  let main_cst_8 : FVec F S_ .f32 := constant S_ .f32 0x00000000#32
  let main_v24 : FVec F S100000 .f32 := broadcastInDim S100000 ![] bcast_S_S100000 main_cst_8
  let main_v25 : IVec S100000 1 := cmpf .oeq main_arg5 main_v24
  let main_c_9 : IVec S_ 1 := constantI S_ 1 1#1
  let main_v26 : IVec S_ 1 := (fun x v => Host.reduce IntOp.andi x v reducesTo_S100000_S_d0 h_S_) main_v25 main_c_9
  let main_v27 : IVec S_ 1 := andi main_v23 main_v26
  main_v27

def fn {F : FTy → Type} [FloatOps F] (main_arg0 : FVec F S4096x100 .f32) (main_arg1 : FVec F S4096x100 .f32) (main_arg2 : FVec F S200x512 .f32) (main_arg3 : FVec F S512 .f32) (main_arg4 : FVec F S512x100000 .f32) (main_arg5 : FVec F S100000 .f32) : IVec S_ 1 :=
  let main_v0 : FVec F S4096x100 .f32 := Host.absf main_arg0
  let main_cst : FVec F S_ .f32 := constant S_ .f32 0x49800000#32
  let main_v1 : FVec F S4096x100 .f32 := broadcastInDim S4096x100 ![] bcast_S_S4096x100 main_cst
  let main_v2 : IVec S4096x100 1 := cmpf .ole main_v0 main_v1
  let main_c : IVec S_ 1 := constantI S_ 1 1#1
  let main_v3 : IVec S_ 1 := (fun x v => Host.reduce IntOp.andi x v reducesTo_S4096x100_S_d0_1 h_S_) main_v2 main_c
  let main_v4 : FVec F S4096x100 .f32 := Host.absf main_arg1
  let main_cst_0 : FVec F S_ .f32 := constant S_ .f32 0x49800000#32
  let main_v5 : FVec F S4096x100 .f32 := broadcastInDim S4096x100 ![] bcast_S_S4096x100 main_cst_0
  let main_v6 : IVec S4096x100 1 := cmpf .ole main_v4 main_v5
  let main_c_1 : IVec S_ 1 := constantI S_ 1 1#1
  let main_v7 : IVec S_ 1 := (fun x v => Host.reduce IntOp.andi x v reducesTo_S4096x100_S_d0_1 h_S_) main_v6 main_c_1
  let main_v8 : IVec S_ 1 := andi main_v3 main_v7
  let main_v9 : FVec F S200x512 .f32 := Host.absf main_arg2
  let main_cst_2 : FVec F S_ .f32 := constant S_ .f32 0x49800000#32
  let main_v10 : FVec F S200x512 .f32 := broadcastInDim S200x512 ![] bcast_S_S200x512 main_cst_2
  let main_v11 : IVec S200x512 1 := cmpf .ole main_v9 main_v10
  let main_c_3 : IVec S_ 1 := constantI S_ 1 1#1
  let main_v12 : IVec S_ 1 := (fun x v => Host.reduce IntOp.andi x v reducesTo_S200x512_S_d0_1 h_S_) main_v11 main_c_3
  let main_v13 : IVec S_ 1 := andi main_v8 main_v12
  let main_v14 : FVec F S512 .f32 := Host.absf main_arg3
  let main_cst_4 : FVec F S_ .f32 := constant S_ .f32 0x49800000#32
  let main_v15 : FVec F S512 .f32 := broadcastInDim S512 ![] bcast_S_S512 main_cst_4
  let main_v16 : IVec S512 1 := cmpf .ole main_v14 main_v15
  fn_part1 (F := F) main_arg4 main_arg5 main_v13 main_v16
-- ==== Kernel.lean ====
abbrev S4096x100 : Shape := ⟨2, ![4096, 100]⟩
abbrev S200x512 : Shape := ⟨2, ![200, 512]⟩
abbrev S512 : Shape := ⟨1, ![512]⟩
abbrev S512x100000 : Shape := ⟨2, ![512, 100000]⟩
abbrev S100000 : Shape := ⟨1, ![100000]⟩
abbrev S4096x200 : Shape := ⟨2, ![4096, 200]⟩
abbrev S1x512 : Shape := ⟨2, ![1, 512]⟩
abbrev S4096x1 : Shape := ⟨2, ![4096, 1]⟩
abbrev S2048x200 : Shape := ⟨2, ![2048, 200]⟩
abbrev S512x512 : Shape := ⟨2, ![512, 512]⟩
abbrev S2048x1 : Shape := ⟨2, ![2048, 1]⟩
abbrev S2048x512 : Shape := ⟨2, ![2048, 512]⟩
abbrev S2048x128 : Shape := ⟨2, ![2048, 128]⟩
abbrev S1x128 : Shape := ⟨2, ![1, 128]⟩
abbrev S2048 : Shape := ⟨1, ![2048]⟩
abbrev S4096 : Shape := ⟨1, ![4096]⟩

abbrev nBuf : Space → Nat
  | .hbm => 16
  | .vmem => 22
  | .smem => 0
  | _ => 0

abbrev bufTy : (tb : Table) → Fin (tcTables nBuf tb) → BufTy
  | .hbm, ⟨0, _⟩ => ⟨S4096x100, .f32⟩
  | .hbm, ⟨1, _⟩ => ⟨S4096x100, .f32⟩
  | .hbm, ⟨2, _⟩ => ⟨S200x512, .f32⟩
  | .hbm, ⟨3, _⟩ => ⟨S512, .f32⟩
  | .hbm, ⟨4, _⟩ => ⟨S512x100000, .f32⟩
  | .hbm, ⟨5, _⟩ => ⟨S100000, .f32⟩
  | .hbm, ⟨6, _⟩ => ⟨S4096x200, .f32⟩
  | .hbm, ⟨7, _⟩ => ⟨S1x512, .f32⟩
  | .hbm, ⟨8, _⟩ => ⟨S4096x1, .i32⟩
  | .hbm, ⟨9, _⟩ => ⟨S4096x1, .f32⟩
  | .hbm, ⟨10, _⟩ => ⟨S4096x1, .f32⟩
  | .hbm, ⟨11, _⟩ => ⟨S4096x1, .i32⟩
  | .hbm, ⟨12, _⟩ => ⟨S4096, .i32⟩
  | .hbm, ⟨13, _⟩ => ⟨S4096, .f32⟩
  | .hbm, ⟨14, _⟩ => ⟨S4096, .f32⟩
  | .hbm, ⟨15, _⟩ => ⟨S4096, .i32⟩
  | .local _ .vmem, ⟨0, _⟩ => ⟨S2048x200, .f32⟩
  | .local _ .vmem, ⟨1, _⟩ => ⟨S2048x200, .f32⟩
  | .local _ .vmem, ⟨2, _⟩ => ⟨S200x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S2048x1, .i32⟩
  | .local _ .vmem, ⟨7, _⟩ => ⟨S2048x1, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .i32⟩
  | .local _ .vmem, ⟨13, _⟩ => ⟨S2048x1, .i32⟩
  | .local _ .vmem, ⟨14, _⟩ => ⟨S2048x512, .f32⟩
  | .local _ .vmem, ⟨15, _⟩ => ⟨S2048x512, .i32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .i32⟩
  | .local _ .vmem, ⟨20, _⟩ => ⟨S2048x128, .f32⟩
  | .local _ .vmem, ⟨21, _⟩ => ⟨S2048x128, .i32⟩
  | _, _ => ⟨S4096x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 196], ![false, false]⟩

def k0_cond2 (i : grid0.Coords) : BitVec 1 :=
  let arg1 : BitVec 32 := BitVec.ofNat 32 (i 1).val
  let c195_i32 : BitVec 32 := 195#32
  let v303 : BitVec 1 := Scalar.cmpi .eq arg1 c195_i32
  let v304 : BitVec 32 := Scalar.extui v303
  let c0_i32_75 : BitVec 32 := 0#32
  let v305 : BitVec 1 := Scalar.cmpi .ne v304 c0_i32_75
  v305

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S200x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "pad" => some ⊥
  | _ => none
-- ==== ReferenceIdeal.lean ====
abbrev S4096x100 : Shape := ⟨2, ![4096, 100]⟩
abbrev S200x512 : Shape := ⟨2, ![200, 512]⟩
abbrev S512 : Shape := ⟨1, ![512]⟩
abbrev S512x100000 : Shape := ⟨2, ![512, 100000]⟩
abbrev S100000 : Shape := ⟨1, ![100000]⟩
abbrev S4096x200 : Shape := ⟨2, ![4096, 200]⟩
abbrev S4096x512 : Shape := ⟨2, ![4096, 512]⟩
abbrev S1x512 : Shape := ⟨2, ![1, 512]⟩
abbrev S_ : Shape := ⟨0, ![]⟩
abbrev S4096x100000 : Shape := ⟨2, ![4096, 100000]⟩
abbrev S1x100000 : Shape := ⟨2, ![1, 100000]⟩
abbrev S4096 : Shape := ⟨1, ![4096]⟩
abbrev S4096x1 : Shape := ⟨2, ![4096, 1]⟩
abbrev S1 : Shape := ⟨1, ![1]⟩
abbrev S2 : Shape := ⟨1, ![2]⟩
abbrev S4096x1x1 : Shape := ⟨3, ![4096, 1, 1]⟩
abbrev S1x1x1 : Shape := ⟨3, ![1, 1, 1]⟩

abbrev nBuf : Space → Nat
  | .hbm => 347
  | .vmem => 0
  | .smem => 0
  | _ => 0

abbrev hbmTy0_0 (i : Nat) : BufTy := match i % 128 with
  | 0 => ⟨S4096x100, .f32⟩
  | 1 => ⟨S4096x100, .f32⟩
  | 2 => ⟨S200x512, .f32⟩
  | 3 => ⟨S512, .f32⟩
  | 4 => ⟨S512x100000, .f32⟩
  | 5 => ⟨S100000, .f32⟩
  | 6 => ⟨S4096x200, .f32⟩
  | 7 => ⟨S4096x512, .f32⟩
  | 8 => ⟨S1x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S4096x100000, .f32⟩
  | 15 => ⟨S1x100000, .f32⟩
  | 16 => ⟨S4096x100000, .f32⟩
  | 17 => ⟨S4096x100000, .f32⟩
  | 18 => ⟨S_, .f32⟩
  | 19 => ⟨S4096, .f32⟩
  | 20 => ⟨S_, .f32⟩
  | 21 => ⟨S4096, .f32⟩
  | 22 => ⟨S4096, .f32⟩
  | 23 => ⟨S4096x1, .f32⟩
  | 24 => ⟨S4096x100000, .f32⟩
  | 25 => ⟨S4096x100000, .f32⟩
  | 26 => ⟨S4096x100000, .f32⟩
  | 27 => ⟨S_, .f32⟩
  | 28 => ⟨S4096, .f32⟩
  | 29 => ⟨S4096x1, .f32⟩
  | 30 => ⟨S4096x1, .f32⟩
  | 31 => ⟨S4096x100000, .f32⟩
  | 32 => ⟨S4096x100000, .f32⟩
  | 33 => ⟨S_, .i32⟩
  | 34 => ⟨S_, .i32⟩
  | 35 => ⟨S_, .i32⟩
  | 36 => ⟨S_, .i32⟩
  | 37 => ⟨S1, .i32⟩
  | 38 => ⟨S_, .i32⟩
  | 39 => ⟨S_, .i32⟩
  | 40 => ⟨S_, .i32⟩
  | 41 => ⟨S1, .i32⟩
  | 42 => ⟨S2, .i32⟩
  | 43 => ⟨S1, .i32⟩
  | 44 => ⟨S_, .i32⟩
  | 45 => ⟨S1, .i32⟩
  | 46 => ⟨S_, .i32⟩
  | 47 => ⟨S4096x100000, .i64⟩
  | 48 => ⟨S4096x100000, .i64⟩
  | 49 => ⟨S_, .i64⟩
  | 50 => ⟨S4096x100000, .i64⟩
  | 51 => ⟨S4096x100000, .i64⟩
  | 52 => ⟨S_, .i64⟩
  | 53 => ⟨S4096x100000, .i64⟩
  | 54 => ⟨S4096x100000, .i64⟩
  | 55 => ⟨S4096x100000, .i64⟩
  | 56 => ⟨S_, .i64⟩
  | 57 => ⟨S4096x100000, .i64⟩
  | 58 => ⟨S4096x100000, .i64⟩
  | 59 => ⟨S4096x100000, .i32⟩
  | 60 => ⟨S4096x100000, .i32⟩
  | 61 => ⟨S_, .i32⟩
  | 62 => ⟨S_, .i32⟩
  | 63 => ⟨S_, .i32⟩
  | 64 => ⟨S4096x100000, .i32⟩
  | 65 => ⟨S4096x100000, .i32⟩
  | 66 => ⟨S4096x100000, .i32⟩
  | 67 => ⟨S4096x100000, .i32⟩
  | 68 => ⟨S4096x100000, .i32⟩
  | 69 => ⟨S_, .i32⟩
  | 70 => ⟨S4096x100000, .i32⟩
  | 71 => ⟨S4096x100000, .i32⟩
  | 72 => ⟨S_, .i32⟩
  | 73 => ⟨S4096x100000, .i32⟩
  | 74 => ⟨S4096x100000, .i32⟩
  | 75 => ⟨S4096x100000, .i32⟩
  | 76 => ⟨S4096x100000, .i32⟩
  | 77 => ⟨S4096x100000, .i32⟩
  | 78 => ⟨S_, .i32⟩
  | 79 => ⟨S4096x100000, .i32⟩
  | 80 => ⟨S4096x100000, .i32⟩
  | 81 => ⟨S_, .i32⟩
  | 82 => ⟨S4096x100000, .i32⟩
  | 83 => ⟨S4096x100000, .i32⟩
  | 84 => ⟨S4096x100000, .i32⟩
  | 85 => ⟨S4096x100000, .i32⟩
  | 86 => ⟨S4096x100000, .i32⟩
  | 87 => ⟨S_, .i32⟩
  | 88 => ⟨S4096x100000, .i32⟩
  | 89 => ⟨S4096x100000, .i32⟩
  | 90 => ⟨S_, .i32⟩
  | 91 => ⟨S4096x100000, .i32⟩
  | 92 => ⟨S4096x100000, .i32⟩
  | 93 => ⟨S4096x100000, .i32⟩
  | 94 => ⟨S4096x100000, .i32⟩
  | 95 => ⟨S4096x100000, .i32⟩
  | 96 => ⟨S_, .i32⟩
  | 97 => ⟨S4096x100000, .i32⟩
  | 98 => ⟨S4096x100000, .i32⟩
  | 99 => ⟨S_, .i32⟩
  | 100 => ⟨S4096x100000, .i32⟩
  | 101 => ⟨S4096x100000, .i32⟩
  | 102 => ⟨S4096x100000, .i32⟩
  | 103 => ⟨S4096x100000, .i32⟩
  | 104 => ⟨S4096x100000, .i32⟩
  | 105 => ⟨S4096x100000, .i32⟩
  | 106 => ⟨S4096x100000, .i32⟩
  | 107 => ⟨S4096x100000, .i32⟩
  | 108 => ⟨S_, .i32⟩
  | 109 => ⟨S4096x100000, .i32⟩
  | 110 => ⟨S4096x100000, .i32⟩
  | 111 => ⟨S4096x100000, .i32⟩
  | 112 => ⟨S_, .i32⟩
  | 113 => ⟨S4096x100000, .i32⟩
  | 114 => ⟨S4096x100000, .i32⟩
  | 115 => ⟨S_, .i32⟩
  | 116 => ⟨S4096x100000, .i32⟩
  | 117 => ⟨S4096x100000, .i32⟩
  | 118 => ⟨S4096x100000, .i32⟩
  | 119 => ⟨S4096x100000, .i32⟩
  | 120 => ⟨S4096x100000, .i32⟩
  | 121 => ⟨S_, .i32⟩
  | 122 => ⟨S4096x100000, .i32⟩
  | 123 => ⟨S4096x100000, .i32⟩
  | 124 => ⟨S_, .i32⟩
  | 125 => ⟨S4096x100000, .i32⟩
  | 126 => ⟨S4096x100000, .i32⟩
  | 127 => ⟨S4096x100000, .i32⟩
  | _ => ⟨S4096x100, .f32⟩

abbrev hbmTy0_1 (i : Nat) : BufTy := match i % 128 with
  | 0 => ⟨S4096x100000, .i32⟩
  | 1 => ⟨S4096x100000, .i32⟩
  | 2 => ⟨S_, .i32⟩
  | 3 => ⟨S4096x100000, .i32⟩
  | 4 => ⟨S4096x100000, .i32⟩
  | 5 => ⟨S_, .i32⟩
  | 6 => ⟨S4096x100000, .i32⟩
  | 7 => ⟨S4096x100000, .i32⟩
  | 8 => ⟨S4096x100000, .i32⟩
  | 9 => ⟨S4096x100000, .i32⟩
  | 10 => ⟨S4096x100000, .i32⟩
  | 11 => ⟨S_, .i32⟩
  | 12 => ⟨S4096x100000, .i32⟩
  | 13 => ⟨S4096x100000, .i32⟩
  | 14 => ⟨S_, .i32⟩
  | 15 => ⟨S4096x100000, .i32⟩
  | 16 => ⟨S4096x100000, .i32⟩
  | 17 => ⟨S4096x100000, .i32⟩
  | 18 => ⟨S4096x100000, .i32⟩
  | 19 => ⟨S4096x100000, .i32⟩
  | 20 => ⟨S4096x100000, .i32⟩
  | 21 => ⟨S4096x100000, .i32⟩
  | 22 => ⟨S4096x100000, .i32⟩
  | 23 => ⟨S_, .i32⟩
  | 24 => ⟨S4096x100000, .i32⟩
  | 25 => ⟨S4096x100000, .i32⟩
  | 26 => ⟨S4096x100000, .i32⟩
  | 27 => ⟨S_, .i32⟩
  | 28 => ⟨S4096x100000, .i32⟩
  | 29 => ⟨S4096x100000, .i32⟩
  | 30 => ⟨S_, .i32⟩
  | 31 => ⟨S4096x100000, .i32⟩
  | 32 => ⟨S4096x100000, .i32⟩
  | 33 => ⟨S4096x100000, .i32⟩
  | 34 => ⟨S4096x100000, .i32⟩
  | 35 => ⟨S4096x100000, .i32⟩
  | 36 => ⟨S_, .i32⟩
  | 37 => ⟨S4096x100000, .i32⟩
  | 38 => ⟨S4096x100000, .i32⟩
  | 39 => ⟨S_, .i32⟩
  | 40 => ⟨S4096x100000, .i32⟩
  | 41 => ⟨S4096x100000, .i32⟩
  | 42 => ⟨S4096x100000, .i32⟩
  | 43 => ⟨S4096x100000, .i32⟩
  | 44 => ⟨S4096x100000, .i32⟩
  | 45 => ⟨S_, .i32⟩
  | 46 => ⟨S4096x100000, .i32⟩
  | 47 => ⟨S4096x100000, .i32⟩
  | 48 => ⟨S_, .i32⟩
  | 49 => ⟨S4096x100000, .i32⟩
  | 50 => ⟨S4096x100000, .i32⟩
  | 51 => ⟨S4096x100000, .i32⟩
  | 52 => ⟨S4096x100000, .i32⟩
  | 53 => ⟨S4096x100000, .i32⟩
  | 54 => ⟨S_, .i32⟩
  | 55 => ⟨S4096x100000, .i32⟩
  | 56 => ⟨S4096x100000, .i32⟩
  | 57 => ⟨S_, .i32⟩
  | 58 => ⟨S4096x100000, .i32⟩
  | 59 => ⟨S4096x100000, .i32⟩
  | 60 => ⟨S4096x100000, .i32⟩
  | 61 => ⟨S4096x100000, .i32⟩
  | 62 => ⟨S4096x100000, .i32⟩
  | 63 => ⟨S4096x100000, .i32⟩
  | 64 => ⟨S4096x100000, .i32⟩
  | 65 => ⟨S4096x100000, .i32⟩
  | 66 => ⟨S_, .i32⟩
  | 67 => ⟨S4096x100000, .i32⟩
  | 68 => ⟨S4096x100000, .i32⟩
  | 69 => ⟨S4096x100000, .i32⟩
  | 70 => ⟨S_, .i32⟩
  | 71 => ⟨S4096x100000, .i32⟩
  | 72 => ⟨S4096x100000, .i32⟩
  | 73 => ⟨S_, .i32⟩
  | 74 => ⟨S4096x100000, .i32⟩
  | 75 => ⟨S4096x100000, .i32⟩
  | 76 => ⟨S4096x100000, .i32⟩
  | 77 => ⟨S4096x100000, .i32⟩
  | 78 => ⟨S4096x100000, .i32⟩
  | 79 => ⟨S_, .i32⟩
  | 80 => ⟨S4096x100000, .i32⟩
  | 81 => ⟨S4096x100000, .i32⟩
  | 82 => ⟨S_, .i32⟩
  | 83 => ⟨S4096x100000, .i32⟩
  | 84 => ⟨S4096x100000, .i32⟩
  | 85 => ⟨S4096x100000, .i32⟩
  | 86 => ⟨S4096x100000, .i32⟩
  | 87 => ⟨S4096x100000, .i32⟩
  | 88 => ⟨S_, .i32⟩
  | 89 => ⟨S4096x100000, .i32⟩
  | 90 => ⟨S4096x100000, .i32⟩
  | 91 => ⟨S_, .i32⟩
  | 92 => ⟨S4096x100000, .i32⟩
  | 93 => ⟨S4096x100000, .i32⟩
  | 94 => ⟨S4096x100000, .i32⟩
  | 95 => ⟨S4096x100000, .i32⟩
  | 96 => ⟨S4096x100000, .i32⟩
  | 97 => ⟨S_, .i32⟩
  | 98 => ⟨S4096x100000, .i32⟩
  | 99 => ⟨S4096x100000, .i32⟩
  | 100 => ⟨S_, .i32⟩
  | 101 => ⟨S4096x100000, .i32⟩
  | 102 => ⟨S4096x100000, .i32⟩
  | 103 => ⟨S4096x100000, .i32⟩
  | 104 => ⟨S4096x100000, .i32⟩
  | 105 => ⟨S4096x100000, .i32⟩
  | 106 => ⟨S4096x100000, .i32⟩
  | 107 => ⟨S4096x100000, .i32⟩
  | 108 => ⟨S4096x100000, .i32⟩
  | 109 => ⟨S_, .i32⟩
  | 110 => ⟨S4096x100000, .i32⟩
  | 111 => ⟨S4096x100000, .i32⟩
  | 112 => ⟨S4096x100000, .i32⟩
  | 113 => ⟨S_, .i32⟩
  | 114 => ⟨S4096x100000, .i32⟩
  | 115 => ⟨S4096x100000, .i32⟩
  | 116 => ⟨S_, .i32⟩
  | 117 => ⟨S4096x100000, .i32⟩
  | 118 => ⟨S4096x100000, .i32⟩
  | 119 => ⟨S4096x100000, .i32⟩
  | 120 => ⟨S4096x100000, .i32⟩
  | 121 => ⟨S4096x100000, .i32⟩
  | 122 => ⟨S_, .i32⟩
  | 123 => ⟨S4096x100000, .i32⟩
  | 124 => ⟨S4096x100000, .i32⟩
  | 125 => ⟨S_, .i32⟩
  | 126 => ⟨S4096x100000, .i32⟩
  | 127 => ⟨S4096x100000, .i32⟩
  | _ => ⟨S4096x100, .f32⟩

abbrev hbmTy0_2 (i : Nat) : BufTy := match i % 128 with
  | 0 => ⟨S4096x100000, .i32⟩
  | 1 => ⟨S4096x100000, .i32⟩
  | 2 => ⟨S4096x100000, .i32⟩
  | 3 => ⟨S_, .i32⟩
  | 4 => ⟨S4096x100000, .i32⟩
  | 5 => ⟨S4096x100000, .i32⟩
  | 6 => ⟨S_, .i32⟩
  | 7 => ⟨S4096x100000, .i32⟩
  | 8 => ⟨S4096x100000, .i32⟩
  | 9 => ⟨S4096x100000, .i32⟩
  | 10 => ⟨S4096x100000, .i32⟩
  | 11 => ⟨S4096x100000, .i32⟩
  | 12 => ⟨S_, .i32⟩
  | 13 => ⟨S4096x100000, .i32⟩
  | 14 => ⟨S4096x100000, .i32⟩
  | 15 => ⟨S_, .i32⟩
  | 16 => ⟨S4096x100000, .i32⟩
  | 17 => ⟨S4096x100000, .i32⟩
  | 18 => ⟨S4096x100000, .i32⟩
  | 19 => ⟨S4096x100000, .i32⟩
  | 20 => ⟨S4096x100000, .i32⟩
  | 21 => ⟨S4096x100000, .i32⟩
  | 22 => ⟨S4096x100000, .i32⟩
  | 23 => ⟨S4096x100000, .i32⟩
  | 24 => ⟨S_, .i32⟩
  | 25 => ⟨S4096x100000, .i32⟩
  | 26 => ⟨S4096x100000, .i32⟩
  | 27 => ⟨S4096x100000, .i32⟩
  | 28 => ⟨S_, .i32⟩
  | 29 => ⟨S4096x100000, .i32⟩
  | 30 => ⟨S4096x100000, .i32⟩
  | 31 => ⟨S_, .i32⟩
  | 32 => ⟨S4096x100000, .i32⟩
  | 33 => ⟨S4096x100000, .i32⟩
  | 34 => ⟨S4096x100000, .f32⟩
  | 35 => ⟨S_, .f32⟩
  | 36 => ⟨S4096x100000, .f32⟩
  | 37 => ⟨S4096x100000, .f32⟩
  | 38 => ⟨S_, .f32⟩
  | 39 => ⟨S4096x100000, .f32⟩
  | 40 => ⟨S4096x100000, .f32⟩
  | 41 => ⟨S_, .f32⟩
  | 42 => ⟨S4096x100000, .f32⟩
  | 43 => ⟨S4096x100000, .f32⟩
  | 44 => ⟨S_, .f32⟩
  | 45 => ⟨S4096x100000, .f32⟩
  | 46 => ⟨S4096x100000, .f32⟩
  | 47 => ⟨S4096x100000, .f32⟩
  | 48 => ⟨S4096x100000, .f32⟩
  | 49 => ⟨S4096x100000, .f32⟩
  | 50 => ⟨S4096x100000, .f32⟩
  | 51 => ⟨S4096x100000, .f32⟩
  | 52 => ⟨S4096x100000, .i32⟩
  | 53 => ⟨S_, .f32⟩
  | 54 => ⟨S_, .i32⟩
  | 55 => ⟨S4096, .f32⟩
  | 56 => ⟨S4096, .i32⟩
  | 57 => ⟨S4096x1, .i32⟩
  | 58 => ⟨S_, .i32⟩
  | 59 => ⟨S4096x1, .i32⟩
  | 60 => ⟨S4096x1, .i1⟩
  | 61 => ⟨S_, .i32⟩
  | 62 => ⟨S4096x1, .i32⟩
  | 63 => ⟨S4096x1, .i32⟩
  | 64 => ⟨S4096x1, .i32⟩
  | 65 => ⟨S4096x1x1, .i32⟩
  | 66 => ⟨S1, .i32⟩
  | 67 => ⟨S_, .i32⟩
  | 68 => ⟨S4096x1x1, .i32⟩
  | 69 => ⟨S4096x1x1, .i1⟩
  | 70 => ⟨S1x1x1, .i32⟩
  | 71 => ⟨S4096x1x1, .i32⟩
  | 72 => ⟨S4096x1x1, .i1⟩
  | 73 => ⟨S4096x1x1, .i1⟩
  | 74 => ⟨S_, .i1⟩
  | 75 => ⟨S4096x1, .i1⟩
  | 76 => ⟨S4096x1, .f32⟩
  | 77 => ⟨S_, .f32⟩
  | 78 => ⟨S4096x1, .f32⟩
  | 79 => ⟨S4096x1, .f32⟩
  | 80 => ⟨S4096, .f32⟩
  | 81 => ⟨S4096x100000, .f32⟩
  | 82 => ⟨S4096x100000, .f32⟩
  | 83 => ⟨S_, .f32⟩
  | 84 => ⟨S4096, .f32⟩
  | 85 => ⟨S4096, .f32⟩
  | 86 => ⟨S4096x100000, .i32⟩
  | 87 => ⟨S_, .f32⟩
  | 88 => ⟨S_, .i32⟩
  | 89 => ⟨S4096, .f32⟩
  | 90 => ⟨S4096, .i32⟩
  | _ => ⟨S4096x100, .f32⟩

abbrev hbmTy (i : Nat) : BufTy := match i / 128 with
  | 0 => hbmTy0_0 i
  | 1 => hbmTy0_1 i
  | 2 => hbmTy0_2 i
  | _ => ⟨S4096x100, .f32⟩

abbrev bufTy : (tb : Table) → Fin (tcTables nBuf tb) → BufTy
  | .hbm, ⟨i, _⟩ => hbmTy i
  | _, _ => ⟨S4096x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_v10 : Ref sig .tc := ⟨.hbm, 32, rfl⟩
abbrev main_c : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_c_0 : Ref sig .tc := ⟨.hbm, 69, rfl⟩
abbrev main_call2_v7 : Ref sig .tc := ⟨.hbm, 70, rfl⟩
abbrev main_call2_v8 : Ref sig .tc := ⟨.hbm, 71, rfl⟩
abbrev main_call2_c_1 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_c_2 : Ref sig .tc := ⟨.hbm, 78, rfl⟩
abbrev main_call2_v14 : Ref sig .tc := ⟨.hbm, 79, rfl⟩
abbrev main_call2_v15 : Ref sig .tc := ⟨.hbm, 80, rfl⟩
abbrev main_call2_c_3 : Ref sig .tc := ⟨.hbm, 81, rfl⟩
abbrev main_call2_v16 : Ref sig .tc := ⟨.hbm, 82, rfl⟩
abbrev main_call2_v17 : Ref sig .tc := ⟨.hbm, 83, rfl⟩
abbrev main_call2_v18 : Ref sig .tc := ⟨.hbm, 84, rfl⟩
abbrev main_call2_v19 : Ref sig .tc := ⟨.hbm, 85, rfl⟩
abbrev main_call2_v20 : Ref sig .tc := ⟨.hbm, 86, rfl⟩
abbrev main_call2_c_4 : Ref sig .tc := ⟨.hbm, 87, rfl⟩
abbrev main_call2_v21 : Ref sig .tc := ⟨.hbm, 88, rfl⟩
abbrev main_call2_v22 : Ref sig .tc := ⟨.hbm, 89, rfl⟩
abbrev main_call2_c_5 : Ref sig .tc := ⟨.hbm, 90, rfl⟩
abbrev main_call2_v23 : Ref sig .tc := ⟨.hbm, 91, rfl⟩
abbrev main_call2_v24 : Ref sig .tc := ⟨.hbm, 92, rfl⟩
abbrev main_call2_v25 : Ref sig .tc := ⟨.hbm, 93, rfl⟩
abbrev main_call2_v26 : Ref sig .tc := ⟨.hbm, 94, rfl⟩
abbrev main_call2_v27 : Ref sig .tc := ⟨.hbm, 95, rfl⟩
abbrev main_call2_c_6 : Ref sig .tc := ⟨.hbm, 96, rfl⟩
abbrev main_call2_v28 : Ref sig .tc := ⟨.hbm, 97, rfl⟩
abbrev main_call2_v29 : Ref sig .tc := ⟨.hbm, 98, rfl⟩
abbrev main_call2_c_7 : Ref sig .tc := ⟨.hbm, 99, rfl⟩
abbrev main_call2_v30 : Ref sig .tc := ⟨.hbm, 100, rfl⟩
abbrev main_call2_v31 : Ref sig .tc := ⟨.hbm, 101, rfl⟩
abbrev main_call2_v32 : Ref sig .tc := ⟨.hbm, 102, rfl⟩
abbrev main_call2_v33 : Ref sig .tc := ⟨.hbm, 103, rfl⟩
abbrev main_call2_v34 : Ref sig .tc := ⟨.hbm, 104, rfl⟩
abbrev main_call2_v35 : Ref sig .tc := ⟨.hbm, 105, rfl⟩
abbrev main_call2_v36 : Ref sig .tc := ⟨.hbm, 106, rfl⟩
abbrev main_call2_v37 : Ref sig .tc := ⟨.hbm, 107, rfl⟩
abbrev main_call2_c_8 : Ref sig .tc := ⟨.hbm, 108, rfl⟩
abbrev main_call2_v38 : Ref sig .tc := ⟨.hbm, 109, rfl⟩
abbrev main_call2_v39 : Ref sig .tc := ⟨.hbm, 110, rfl⟩
abbrev main_call2_v40 : Ref sig .tc := ⟨.hbm, 111, rfl⟩
abbrev main_call2_c_9 : Ref sig .tc := ⟨.hbm, 112, rfl⟩
abbrev main_call2_v41 : Ref sig .tc := ⟨.hbm, 113, rfl⟩
abbrev main_call2_v42 : Ref sig .tc := ⟨.hbm, 114, rfl⟩
abbrev main_call2_c_10 : Ref sig .tc := ⟨.hbm, 115, rfl⟩
abbrev main_call2_v43 : Ref sig .tc := ⟨.hbm, 116, rfl⟩
abbrev main_call2_v44 : Ref sig .tc := ⟨.hbm, 117, rfl⟩
abbrev main_call2_v45 : Ref sig .tc := ⟨.hbm, 118, rfl⟩
abbrev main_call2_v46 : Ref sig .tc := ⟨.hbm, 119, rfl⟩
abbrev main_call2_v47 : Ref sig .tc := ⟨.hbm, 120, rfl⟩
abbrev main_call2_c_11 : Ref sig .tc := ⟨.hbm, 121, rfl⟩
abbrev main_call2_v48 : Ref sig .tc := ⟨.hbm, 122, rfl⟩
abbrev main_call2_v49 : Ref sig .tc := ⟨.hbm, 123, rfl⟩
abbrev main_call2_c_12 : Ref sig .tc := ⟨.hbm, 124, rfl⟩
abbrev main_call2_v50 : Ref sig .tc := ⟨.hbm, 125, rfl⟩
abbrev main_call2_v51 : Ref sig .tc := ⟨.hbm, 126, rfl⟩
abbrev main_call2_v52 : Ref sig .tc := ⟨.hbm, 127, rfl⟩
abbrev main_call2_v53 : Ref sig .tc := ⟨.hbm, 128, rfl⟩
abbrev main_call2_v54 : Ref sig .tc := ⟨.hbm, 129, rfl⟩
abbrev main_call2_c_13 : Ref sig .tc := ⟨.hbm, 130, rfl⟩
abbrev main_call2_v55 : Ref sig .tc := ⟨.hbm, 131, rfl⟩
abbrev main_call2_v56 : Ref sig .tc := ⟨.hbm, 132, rfl⟩
abbrev main_call2_c_14 : Ref sig .tc := ⟨.hbm, 133, rfl⟩
abbrev main_call2_v57 : Ref sig .tc := ⟨.hbm, 134, rfl⟩
abbrev main_call2_v58 : Ref sig .tc := ⟨.hbm, 135, rfl⟩
abbrev main_call2_v59 : Ref sig .tc := ⟨.hbm, 136, rfl⟩
abbrev main_call2_v60 : Ref sig .tc := ⟨.hbm, 137, rfl⟩
abbrev main_call2_v61 : Ref sig .tc := ⟨.hbm, 138, rfl⟩
abbrev main_call2_c_15 : Ref sig .tc := ⟨.hbm, 139, rfl⟩
abbrev main_call2_v62 : Ref sig .tc := ⟨.hbm, 140, rfl⟩
abbrev main_call2_v63 : Ref sig .tc := ⟨.hbm, 141, rfl⟩
abbrev main_call2_c_16 : Ref sig .tc := ⟨.hbm, 142, rfl⟩
abbrev main_call2_v64 : Ref sig .tc := ⟨.hbm, 143, rfl⟩
abbrev main_call2_v65 : Ref sig .tc := ⟨.hbm, 144, rfl⟩
abbrev main_call2_v66 : Ref sig .tc := ⟨.hbm, 145, rfl⟩
abbrev main_call2_v67 : Ref sig .tc := ⟨.hbm, 146, rfl⟩
abbrev main_call2_v68 : Ref sig .tc := ⟨.hbm, 147, rfl⟩
abbrev main_call2_v69 : Ref sig .tc := ⟨.hbm, 148, rfl⟩
abbrev main_call2_v70 : Ref sig .tc := ⟨.hbm, 149, rfl⟩
abbrev main_call2_v71 : Ref sig .tc := ⟨.hbm, 150, rfl⟩
abbrev main_call2_c_17 : Ref sig .tc := ⟨.hbm, 151, rfl⟩
abbrev main_call2_v72 : Ref sig .tc := ⟨.hbm, 152, rfl⟩
abbrev main_call2_v73 : Ref sig .tc := ⟨.hbm, 153, rfl⟩
abbrev main_call2_v74 : Ref sig .tc := ⟨.hbm, 154, rfl⟩
abbrev main_call2_c_18 : Ref sig .tc := ⟨.hbm, 155, rfl⟩
abbrev main_call2_v75 : Ref sig .tc := ⟨.hbm, 156, rfl⟩
abbrev main_call2_v76 : Ref sig .tc := ⟨.hbm, 157, rfl⟩
abbrev main_call2_c_19 : Ref sig .tc := ⟨.hbm, 158, rfl⟩
abbrev main_call2_v77 : Ref sig .tc := ⟨.hbm, 159, rfl⟩
abbrev main_call2_v78 : Ref sig .tc := ⟨.hbm, 160, rfl⟩
abbrev main_call2_v79 : Ref sig .tc := ⟨.hbm, 161, rfl⟩
abbrev main_call2_v80 : Ref sig .tc := ⟨.hbm, 162, rfl⟩
abbrev main_call2_v81 : Ref sig .tc := ⟨.hbm, 163, rfl⟩
abbrev main_call2_c_20 : Ref sig .tc := ⟨.hbm, 164, rfl⟩
abbrev main_call2_v82 : Ref sig .tc := ⟨.hbm, 165, rfl⟩
abbrev main_call2_v83 : Ref sig .tc := ⟨.hbm, 166, rfl⟩
abbrev main_call2_c_21 : Ref sig .tc := ⟨.hbm, 167, rfl⟩
abbrev main_call2_v84 : Ref sig .tc := ⟨.hbm, 168, rfl⟩
abbrev main_call2_v85 : Ref sig .tc := ⟨.hbm, 169, rfl⟩
abbrev main_call2_v86 : Ref sig .tc := ⟨.hbm, 170, rfl⟩
abbrev main_call2_v87 : Ref sig .tc := ⟨.hbm, 171, rfl⟩
abbrev main_call2_v88 : Ref sig .tc := ⟨.hbm, 172, rfl⟩
abbrev main_call2_c_22 : Ref sig .tc := ⟨.hbm, 173, rfl⟩
abbrev main_call2_v89 : Ref sig .tc := ⟨.hbm, 174, rfl⟩
abbrev main_call2_v90 : Ref sig .tc := ⟨.hbm, 175, rfl⟩
abbrev main_call2_c_23 : Ref sig .tc := ⟨.hbm, 176, rfl⟩
abbrev main_call2_v91 : Ref sig .tc := ⟨.hbm, 177, rfl⟩
abbrev main_call2_v92 : Ref sig .tc := ⟨.hbm, 178, rfl⟩
abbrev main_call2_v93 : Ref sig .tc := ⟨.hbm, 179, rfl⟩
abbrev main_call2_v94 : Ref sig .tc := ⟨.hbm, 180, rfl⟩
abbrev main_call2_v95 : Ref sig .tc := ⟨.hbm, 181, rfl⟩
abbrev main_call2_c_24 : Ref sig .tc := ⟨.hbm, 182, rfl⟩
abbrev main_call2_v96 : Ref sig .tc := ⟨.hbm, 183, rfl⟩
abbrev main_call2_v97 : Ref sig .tc := ⟨.hbm, 184, rfl⟩
abbrev main_call2_c_25 : Ref sig .tc := ⟨.hbm, 185, rfl⟩
abbrev main_call2_v98 : Ref sig .tc := ⟨.hbm, 186, rfl⟩
abbrev main_call2_v99 : Ref sig .tc := ⟨.hbm, 187, rfl⟩
abbrev main_call2_v100 : Ref sig .tc := ⟨.hbm, 188, rfl⟩
abbrev main_call2_v101 : Ref sig .tc := ⟨.hbm, 189, rfl⟩
abbrev main_call2_v102 : Ref sig .tc := ⟨.hbm, 190, rfl⟩
abbrev main_call2_v103 : Ref sig .tc := ⟨.hbm, 191, rfl⟩
abbrev main_call2_v104 : Ref sig .tc := ⟨.hbm, 192, rfl⟩
abbrev main_call2_v105 : Ref sig .tc := ⟨.hbm, 193, rfl⟩
abbrev main_call2_c_26 : Ref sig .tc := ⟨.hbm, 194, rfl⟩
abbrev main_call2_v106 : Ref sig .tc := ⟨.hbm, 195, rfl⟩
abbrev main_call2_v107 : Ref sig .tc := ⟨.hbm, 196, rfl⟩
abbrev main_call2_v108 : Ref sig .tc := ⟨.hbm, 197, rfl⟩
abbrev main_call2_c_27 : Ref sig .tc := ⟨.hbm, 198, rfl⟩
abbrev main_call2_v109 : Ref sig .tc := ⟨.hbm, 199, rfl⟩
abbrev main_call2_v110 : Ref sig .tc := ⟨.hbm, 200, rfl⟩
abbrev main_call2_c_28 : Ref sig .tc := ⟨.hbm, 201, rfl⟩
abbrev main_call2_v111 : Ref sig .tc := ⟨.hbm, 202, rfl⟩
abbrev main_call2_v112 : Ref sig .tc := ⟨.hbm, 203, rfl⟩
abbrev main_call2_v113 : Ref sig .tc := ⟨.hbm, 204, rfl⟩
abbrev main_call2_v114 : Ref sig .tc := ⟨.hbm, 205, rfl⟩
abbrev main_call2_v115 : Ref sig .tc := ⟨.hbm, 206, rfl⟩
abbrev main_call2_c_29 : Ref sig .tc := ⟨.hbm, 207, rfl⟩
abbrev main_call2_v116 : Ref sig .tc := ⟨.hbm, 208, rfl⟩
abbrev main_call2_v117 : Ref sig .tc := ⟨.hbm, 209, rfl⟩
abbrev main_call2_c_30 : Ref sig .tc := ⟨.hbm, 210, rfl⟩
abbrev main_call2_v118 : Ref sig .tc := ⟨.hbm, 211, rfl⟩
abbrev main_call2_v119 : Ref sig .tc := ⟨.hbm, 212, rfl⟩
abbrev main_call2_v120 : Ref sig .tc := ⟨.hbm, 213, rfl⟩
abbrev main_call2_v121 : Ref sig .tc := ⟨.hbm, 214, rfl⟩
abbrev main_call2_v122 : Ref sig .tc := ⟨.hbm, 215, rfl⟩
abbrev main_call2_c_31 : Ref sig .tc := ⟨.hbm, 216, rfl⟩
abbrev main_call2_v123 : Ref sig .tc := ⟨.hbm, 217, rfl⟩
abbrev main_call2_v124 : Ref sig .tc := ⟨.hbm, 218, rfl⟩
abbrev main_call2_c_32 : Ref sig .tc := ⟨.hbm, 219, rfl⟩
abbrev main_call2_v125 : Ref sig .tc := ⟨.hbm, 220, rfl⟩
abbrev main_call2_v126 : Ref sig .tc := ⟨.hbm, 221, rfl⟩
abbrev main_call2_v127 : Ref sig .tc := ⟨.hbm, 222, rfl⟩
abbrev main_call2_v128 : Ref sig .tc := ⟨.hbm, 223, rfl⟩
abbrev main_call2_v129 : Ref sig .tc := ⟨.hbm, 224, rfl⟩
abbrev main_call2_c_33 : Ref sig .tc := ⟨.hbm, 225, rfl⟩
abbrev main_call2_v130 : Ref sig .tc := ⟨.hbm, 226, rfl⟩
abbrev main_call2_v131 : Ref sig .tc := ⟨.hbm, 227, rfl⟩
abbrev main_call2_c_34 : Ref sig .tc := ⟨.hbm, 228, rfl⟩
abbrev main_call2_v132 : Ref sig .tc := ⟨.hbm, 229, rfl⟩
abbrev main_call2_v133 : Ref sig .tc := ⟨.hbm, 230, rfl⟩
abbrev main_call2_v134 : Ref sig .tc := ⟨.hbm, 231, rfl⟩
abbrev main_call2_v135 : Ref sig .tc := ⟨.hbm, 232, rfl⟩
abbrev main_call2_v136 : Ref sig .tc := ⟨.hbm, 233, rfl⟩
abbrev main_call2_v137 : Ref sig .tc := ⟨.hbm, 234, rfl⟩
abbrev main_call2_v138 : Ref sig .tc := ⟨.hbm, 235, rfl⟩
abbrev main_call2_v139 : Ref sig .tc := ⟨.hbm, 236, rfl⟩
abbrev main_call2_c_35 : Ref sig .tc := ⟨.hbm, 237, rfl⟩
abbrev main_call2_v140 : Ref sig .tc := ⟨.hbm, 238, rfl⟩
abbrev main_call2_v141 : Ref sig .tc := ⟨.hbm, 239, rfl⟩
abbrev main_call2_v142 : Ref sig .tc := ⟨.hbm, 240, rfl⟩
abbrev main_call2_c_36 : Ref sig .tc := ⟨.hbm, 241, rfl⟩
abbrev main_call2_v143 : Ref sig .tc := ⟨.hbm, 242, rfl⟩
abbrev main_call2_v144 : Ref sig .tc := ⟨.hbm, 243, rfl⟩
abbrev main_call2_c_37 : Ref sig .tc := ⟨.hbm, 244, rfl⟩
abbrev main_call2_v145 : Ref sig .tc := ⟨.hbm, 245, rfl⟩
abbrev main_call2_v146 : Ref sig .tc := ⟨.hbm, 246, rfl⟩
abbrev main_call2_v147 : Ref sig .tc := ⟨.hbm, 247, rfl⟩
abbrev main_call2_v148 : Ref sig .tc := ⟨.hbm, 248, rfl⟩
abbrev main_call2_v149 : Ref sig .tc := ⟨.hbm, 249, rfl⟩
abbrev main_call2_c_38 : Ref sig .tc := ⟨.hbm, 250, rfl⟩
abbrev main_call2_v150 : Ref sig .tc := ⟨.hbm, 251, rfl⟩
abbrev main_call2_v151 : Ref sig .tc := ⟨.hbm, 252, rfl⟩
abbrev main_call2_c_39 : Ref sig .tc := ⟨.hbm, 253, rfl⟩
abbrev main_call2_v152 : Ref sig .tc := ⟨.hbm, 254, rfl⟩
abbrev main_call2_v153 : Ref sig .tc := ⟨.hbm, 255, rfl⟩
abbrev main_call2_v154 : Ref sig .tc := ⟨.hbm, 256, rfl⟩
abbrev main_call2_v155 : Ref sig .tc := ⟨.hbm, 257, rfl⟩
abbrev main_call2_v156 : Ref sig .tc := ⟨.hbm, 258, rfl⟩
abbrev main_call2_c_40 : Ref sig .tc := ⟨.hbm, 259, rfl⟩
abbrev main_call2_v157 : Ref sig .tc := ⟨.hbm, 260, rfl⟩
abbrev main_call2_v158 : Ref sig .tc := ⟨.hbm, 261, rfl⟩
abbrev main_call2_c_41 : Ref sig .tc := ⟨.hbm, 262, rfl⟩
abbrev main_call2_v159 : Ref sig .tc := ⟨.hbm, 263, rfl⟩
abbrev main_call2_v160 : Ref sig .tc := ⟨.hbm, 264, rfl⟩
abbrev main_call2_v161 : Ref sig .tc := ⟨.hbm, 265, rfl⟩
abbrev main_call2_v162 : Ref sig .tc := ⟨.hbm, 266, rfl⟩
abbrev main_call2_v163 : Ref sig .tc := ⟨.hbm, 267, rfl⟩
abbrev main_call2_c_42 : Ref sig .tc := ⟨.hbm, 268, rfl⟩
abbrev main_call2_v164 : Ref sig .tc := ⟨.hbm, 269, rfl⟩
abbrev main_call2_v165 : Ref sig .tc := ⟨.hbm, 270, rfl⟩
abbrev main_call2_c_43 : Ref sig .tc := ⟨.hbm, 271, rfl⟩
abbrev main_call2_v166 : Ref sig .tc := ⟨.hbm, 272, rfl⟩
abbrev main_call2_v167 : Ref sig .tc := ⟨.hbm, 273, rfl⟩
abbrev main_call2_v168 : Ref sig .tc := ⟨.hbm, 274, rfl⟩
abbrev main_call2_v169 : Ref sig .tc := ⟨.hbm, 275, rfl⟩
abbrev main_call2_v170 : Ref sig .tc := ⟨.hbm, 276, rfl⟩
abbrev main_v33_0 : Ref sig .tc := ⟨.hbm, 277, rfl⟩
abbrev main_call2_v172 : Ref sig .tc := ⟨.hbm, 278, rfl⟩
abbrev main_call2_v173 : Ref sig .tc := ⟨.hbm, 279, rfl⟩
abbrev main_call2_c_44 : Ref sig .tc := ⟨.hbm, 280, rfl⟩
abbrev main_call2_v174 : Ref sig .tc := ⟨.hbm, 281, rfl⟩
abbrev main_v33_1 : Ref sig .tc := ⟨.hbm, 282, rfl⟩
abbrev main_v34 : Ref sig .tc := ⟨.hbm, 283, rfl⟩
abbrev main_c_5 : Ref sig .tc := ⟨.hbm, 284, rfl⟩
abbrev main_v35 : Ref sig .tc := ⟨.hbm, 285, rfl⟩
abbrev main_v36 : Ref sig .tc := ⟨.hbm, 286, rfl⟩
abbrev main_c_6 : Ref sig .tc := ⟨.hbm, 287, rfl⟩
abbrev main_v37 : Ref sig .tc := ⟨.hbm, 288, rfl⟩
abbrev main_v38 : Ref sig .tc := ⟨.hbm, 289, rfl⟩
abbrev main_v39 : Ref sig .tc := ⟨.hbm, 290, rfl⟩
abbrev main_cst : Ref sig .tc := ⟨.hbm, 291, rfl⟩
abbrev main_v40 : Ref sig .tc := ⟨.hbm, 292, rfl⟩
abbrev main_v41 : Ref sig .tc := ⟨.hbm, 293, rfl⟩
abbrev main_cst_7 : Ref sig .tc := ⟨.hbm, 294, rfl⟩
abbrev main_v42 : Ref sig .tc := ⟨.hbm, 295, rfl⟩
abbrev main_v43 : Ref sig .tc := ⟨.hbm, 296, rfl⟩
abbrev main_cst_8 : Ref sig .tc := ⟨.hbm, 297, rfl⟩
abbrev main_v44 : Ref sig .tc := ⟨.hbm, 298, rfl⟩
abbrev main_v45 : Ref sig .tc := ⟨.hbm, 299, rfl⟩
abbrev main_cst_9 : Ref sig .tc := ⟨.hbm, 300, rfl⟩
abbrev main_v46 : Ref sig .tc := ⟨.hbm, 301, rfl⟩
abbrev main_v47 : Ref sig .tc := ⟨.hbm, 302, rfl⟩
abbrev main_v48 : Ref sig .tc := ⟨.hbm, 303, rfl⟩
abbrev main_v49 : Ref sig .tc := ⟨.hbm, 304, rfl⟩
abbrev main_v50 : Ref sig .tc := ⟨.hbm, 305, rfl⟩
abbrev main_v51 : Ref sig .tc := ⟨.hbm, 306, rfl⟩
abbrev main_v52 : Ref sig .tc := ⟨.hbm, 307, rfl⟩
abbrev main_call3_v0 : Ref sig .tc := ⟨.hbm, 308, rfl⟩
abbrev main_call3_cst : Ref sig .tc := ⟨.hbm, 309, rfl⟩
abbrev main_call3_c : Ref sig .tc := ⟨.hbm, 310, rfl⟩
abbrev main_call3_v1_0 : Ref sig .tc := ⟨.hbm, 311, rfl⟩
abbrev main_v53 : Ref sig .tc := ⟨.hbm, 312, rfl⟩
abbrev main_v54 : Ref sig .tc := ⟨.hbm, 313, rfl⟩
abbrev main_call4_c : Ref sig .tc := ⟨.hbm, 314, rfl⟩
abbrev main_call4_v0 : Ref sig .tc := ⟨.hbm, 315, rfl⟩
abbrev main_call4_v1 : Ref sig .tc := ⟨.hbm, 316, rfl⟩
abbrev main_call4_c_0 : Ref sig .tc := ⟨.hbm, 317, rfl⟩
abbrev main_call4_v2 : Ref sig .tc := ⟨.hbm, 318, rfl⟩
abbrev main_call4_v3 : Ref sig .tc := ⟨.hbm, 319, rfl⟩
abbrev main_call4_v4 : Ref sig .tc := ⟨.hbm, 320, rfl⟩
abbrev main_call4_v5 : Ref sig .tc := ⟨.hbm, 321, rfl⟩
abbrev main_call4_c_1 : Ref sig .tc := ⟨.hbm, 322, rfl⟩
abbrev main_call4_c_2 : Ref sig .tc := ⟨.hbm, 323, rfl⟩
abbrev main_call4_v6 : Ref sig .tc := ⟨.hbm, 324, rfl⟩
abbrev main_call4_v7 : Ref sig .tc := ⟨.hbm, 325, rfl⟩
abbrev main_call4_v8 : Ref sig .tc := ⟨.hbm, 326, rfl⟩
abbrev main_call4_v9 : Ref sig .tc := ⟨.hbm, 327, rfl⟩
abbrev main_call4_v10 : Ref sig .tc := ⟨.hbm, 328, rfl⟩
abbrev main_call4_v11 : Ref sig .tc := ⟨.hbm, 329, rfl⟩
abbrev main_call4_c_3 : Ref sig .tc := ⟨.hbm, 330, rfl⟩
abbrev main_call4_v12 : Ref sig .tc := ⟨.hbm, 331, rfl⟩
abbrev main_call4_v13 : Ref sig .tc := ⟨.hbm, 332, rfl⟩
abbrev main_call4_cst : Ref sig .tc := ⟨.hbm, 333, rfl⟩
abbrev main_call4_v14 : Ref sig .tc := ⟨.hbm, 334, rfl⟩
abbrev main_v55 : Ref sig .tc := ⟨.hbm, 335, rfl⟩
abbrev main_v56 : Ref sig .tc := ⟨.hbm, 336, rfl⟩
abbrev main_v57 : Ref sig .tc := ⟨.hbm, 337, rfl⟩
abbrev main_v58 : Ref sig .tc := ⟨.hbm, 338, rfl⟩
abbrev main_cst_10 : Ref sig .tc := ⟨.hbm, 339, rfl⟩
abbrev main_v59 : Ref sig .tc := ⟨.hbm, 340, rfl⟩
abbrev main_v60 : Ref sig .tc := ⟨.hbm, 341, rfl⟩
abbrev main_call5_v0 : Ref sig .tc := ⟨.hbm, 342, rfl⟩
abbrev main_call5_cst : Ref sig .tc := ⟨.hbm, 343, rfl⟩
abbrev main_call5_c : Ref sig .tc := ⟨.hbm, 344, rfl⟩
abbrev main_call5_v1_0 : Ref sig .tc := ⟨.hbm, 345, rfl⟩
abbrev main_v61 : Ref sig .tc := ⟨.hbm, 346, rfl⟩

abbrev nD : Nat := 1
abbrev τ : Topo := Topo.v7x

variable {F : FTy → Type} [FloatOps F]
-- ==== Proof.KernelIdealState.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow

/-! The kernel's body at one grid point. The eight scratch buffers are gathered in one record `St`; the body starts
    them at the first column block of a row block (`start`), takes every column block into account (`step`), and
    after the last one writes the four results (`outAction`, `outLogProb`, `outEntropy`, `outBest`). -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the eight scratch buffers hold: the hidden layer, the flat position of each score of the current block (plus the
    key), and per lane the running sum of exponentials, the running weighted sum, the best score with its column and
    the best perturbed score with its column. -/
structure St (F : FTy → Type) where
  h : Vec F S2048x512 .f32
  f : Vec F S2048x512 .i32
  s : Vec F S2048x128 .f32
  t : Vec F S2048x128 .f32
  av : Vec F S2048x128 .f32
  ai : Vec F S2048x128 .i32
  cv : Vec F S2048x128 .f32
  ci : Vec F S2048x128 .i32

/-- The scratch at the first column block, before that block is taken into account. -/
def start (i : grid0.Coords) (x0 : Vec F S2048x200 .f32) (x1 : Vec F S200x512 .f32) (x2 : Vec F S1x512 .f32) : St F where
  h := k0_pay3 x0 x1 x2
  f := k0_pay4 (BitVec.ofNat 32 (i 0).val)
  s := k0_pay5 (F := F)
  t := k0_pay6 (F := F)
  av := k0_pay50 (Scalar.ofBits .f32 0xFF7FC99E#32)
  ai := k0_pay51
  cv := k0_pay52 (F := F)
  ci := k0_pay53

/-- The first column of the block of columns at a grid point. -/
abbrev firstCol (i : grid0.Coords) : BitVec 32 := Scalar.muli (BitVec.ofNat 32 (i 1).val) 512#32

/-- The lane numbers. -/
abbrev lanes : IVec S1x128 32 := iota .tc S1x128 32 [1] iota_S1x128_d1_w32

/-- The Gumbel draws of a block, from the flat positions. -/
def draws (f : Vec F S2048x512 .i32) : FVec F S2048x512 .f32 :=
  k0_pay92 (F := F)
    (k0_pay90 (k0_pay78 (k0_pay66 f) (k0_pay67 f)) (k0_pay79 (k0_pay66 f) (k0_pay67 f)))
    (k0_pay91 (k0_pay78 (k0_pay66 f) (k0_pay67 f)) (k0_pay79 (k0_pay66 f) (k0_pay67 f))) 42#32

/-- The scratch after one block of columns, whose weights are `w`, has been taken into account. -/
def step (i : grid0.Coords) (w : Vec F S512x512 .f32) (σ : St F) : St F where
  h := σ.h
  f := k0_pay59 σ.f
  s := k0_pay57 i σ.h w σ.s
  t := k0_pay58 (k0_pay56 i σ.h w σ.t)
  av := k0_pay122 (k0_pay54 i σ.h w) (k0_pay104 (k0_pay54 i σ.h w) σ.av)
  ai := k0_pay123 (firstCol i) (k0_pay54 i σ.h w) lanes (k0_pay104 (k0_pay54 i σ.h w) σ.av)
    (k0_pay105 (firstCol i) (k0_pay54 i σ.h w) lanes σ.av σ.ai) 256#32
  cv := k0_pay124 (k0_pay93 (k0_pay54 i σ.h w) (draws σ.f)) (k0_pay108 (k0_pay54 i σ.h w) (draws σ.f) σ.cv)
  ci := k0_pay125 (firstCol i) lanes (k0_pay93 (k0_pay54 i σ.h w) (draws σ.f)) (k0_pay108 (k0_pay54 i σ.h w) (draws σ.f) σ.cv)
    (k0_pay109 (firstCol i) (k0_pay54 i σ.h w) lanes (draws σ.f) σ.cv σ.ci) 256#32

/-- The chosen column of every row, read off the scratch. -/
def outAction (σ : St F) : Vec F S2048x1 .i32 := k0_pay12 σ.cv σ.ci

/-- The Gumbel draws at the chosen columns. -/
def drawsAt (i : grid0.Coords) (σ : St F) : FVec F S2048x1 .f32 :=
  let k := k0_pay13 (BitVec.ofNat 32 (i 0).val) σ.cv σ.ci
  let a := k0_pay23 k 13#32
  let b := k0_pay24 k 13#32
  k0_pay49 (F := F) (k0_pay47 (k0_pay35 a b) (k0_pay36 a b)) (k0_pay48 (k0_pay35 a b) (k0_pay36 a b)) 15#32

/-- The logarithm of the softmax at the chosen columns. -/
def outLogProb (i : grid0.Coords) (σ : St F) : Vec F S2048x1 .f32 := k0_pay1 (k0_pay9 σ.s) (k0_pay11 σ.cv) (drawsAt i σ)

/-- The entropy of every row's softmax. -/
def outEntropy (σ : St F) : Vec F S2048x1 .f32 := k0_pay2 (k0_pay7 σ.s) (k0_pay8 σ.t) (k0_pay9 σ.s)

/-- The column of the largest score of every row. -/
def outBest (σ : St F) : Vec F S2048x1 .i32 := k0_pay10 σ.av σ.ai

/-- The eight scratch buffers hold `σ`. -/
def holds (c : Dev nD) (σ : St F) : sProp 𝕄 :=
  iprop(owns (c : Thread nD τ) (Memref.whole cc0_scratch0) fullShare σ.h ∗ owns (c : Thread nD τ) (Memref.whole cc0_scratch1) fullShare σ.f ∗ owns (c : Thread nD τ) (Memref.whole cc0_scratch2) fullShare σ.s ∗ owns (c : Thread nD τ) (Memref.whole cc0_scratch3) fullShare σ.t ∗ owns (c : Thread nD τ) (Memref.whole cc0_scratch4) fullShare σ.av ∗ owns (c : Thread nD τ) (Memref.whole cc0_scratch5) fullShare σ.ai ∗ owns (c : Thread nD τ) (Memref.whole cc0_scratch6) fullShare σ.cv ∗ owns (c : Thread nD τ) (Memref.whole cc0_scratch7) fullShare σ.ci)

/-- A load of a whole buffer reads what the buffer holds. -/
theorem load_whole {s : Shape} {e : EltTy} {m : Memref sig .tc .vmem s e} (h : m.IsWhole) (x : Vec F s e) {off : Fin s.rank → ℕ}
    (inb : ∀ a, off a + s.size a ≤ s.size a) :
    m.view.readAt (Elt F) (Rect.unit off s.size inb).toLoadRect (h.unread x) = x := by
  rw [View.readAt_full, h.read_unread]

/-- A load of a whole buffer that was just wholly overwritten reads what was stored. -/
theorem load_stored {s : Shape} {e : EltTy} (m : Memref sig .tc .vmem s e) {off off' : Fin s.rank → ℕ}
    (inb : ∀ a, off a + s.size a ≤ s.size a) (inb' : ∀ a, off' a + s.size a ≤ s.size a) (w : Vec F s e)
    (L : List (View.Piece (Elt F) s e)) :
    m.view.readCov (⟨Rect.unit off' s.size inb', w⟩ :: L) (Rect.unit off s.size inb).toLoadRect = w :=
  View.readCov_full _ _ _ _ _

end Cert.KernelIdeal.Run

end
-- ==== Proof.KernelIdealFirst.lean ====
module

public import proofs.«01_k».proof.Proof.KernelIdealState

/-! The kernel's body at a grid point of the first column block. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- A grid point of the first column block. -/
theorem run_first (c : Dev nD) (i : grid0.Coords) (arg2 : Memref sig .tc .vmem S2048x200 .f32) (harg2 : arg2.IsWhole) (arg3 : Memref sig .tc .vmem S200x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S2048x1 .i32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .i32) (harg9 : arg9.IsWhole) (hc0 : (Scalar.cmpi .ne (Scalar.extui (Scalar.cmpi .eq (BitVec.ofNat 32 (i 1).val) 0#32)) 0#32) = 1#1) (hc1 : ¬k0_cond2 i = 1#1)
    (x0 : Vec F S2048x200 .f32) (x1 : Vec F S200x512 .f32) (x2 : Vec F S1x512 .f32) (x3 : Vec F S512x512 .f32) (d6 : Vec F S2048x1 .i32) (d7 : Vec F S2048x1 .f32) (d8 : Vec F S2048x1 .f32) (d9 : Vec F S2048x1 .i32) (σ : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ owns (c : Thread nD τ) arg9 fullShare d9 ∗ holds c σ
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ owns (c : Thread nD τ) arg9 fullShare d9 ∗ holds c (step i x3 (start i x0 x1 x2))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) K := by
  simp only [cc0__fused_kernel_eq_skeleton]; unfold cc0__fused_kernel_skel
  simp only [k0_part1_eq_skeleton, k0_part7_eq_skeleton, k0_part8_eq_skeleton, k0_part9_eq_skeleton, k0_part10_eq_skeleton, k0_part11_eq_skeleton, k0_part12_eq_skeleton, k0_part13_eq_skeleton]
  unfold holds owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := (Memref.isWhole_whole cc0_scratch0).eq_unread hf10; obtain rfl := (Memref.isWhole_whole cc0_scratch1).eq_unread hf11; obtain rfl := (Memref.isWhole_whole cc0_scratch2).eq_unread hf12; obtain rfl := (Memref.isWhole_whole cc0_scratch3).eq_unread hf13; obtain rfl := (Memref.isWhole_whole cc0_scratch4).eq_unread hf14; obtain rfl := (Memref.isWhole_whole cc0_scratch5).eq_unread hf15; obtain rfl := (Memref.isWhole_whole cc0_scratch6).eq_unread hf16; obtain rfl := (Memref.isWhole_whole cc0_scratch7).eq_unread hf17
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H11]
  · iexists _; isplitr; swap; · iexact H11
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H12]
  · iexists _; isplitr; swap; · iexact H12
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H13]
  · iexists _; isplitr; swap; · iexact H13
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H14]
  · iexists _; isplitr; swap; · iexact H14
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H15]
  · iexists _; isplitr; swap; · iexact H15
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H16]
  · iexists _; isplitr; swap; · iexact H16
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  iexists _; isplitr; swap; · iexact H17
  ipureintro
  sl_unfold_run_names
  refine (View.read_writes_full _ _ _ _ _).trans ?_
  repeat (first | rw [load_stored (s := S2048x512)] | rw [load_stored (s := S2048x128)] | rw [load_whole (s := S2048x512)] | rw [load_whole (s := S2048x128)] | rw [load_whole])
  first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)

end Cert.KernelIdeal.Run

end
-- ==== Proof.KernelIdealMid.lean ====
module

public import proofs.«01_k».proof.Proof.KernelIdealState

/-! The kernel's body at a grid point between the first and the last column block. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- A grid point between the first and the last column block. -/
theorem run_mid (c : Dev nD) (i : grid0.Coords) (arg2 : Memref sig .tc .vmem S2048x200 .f32) (harg2 : arg2.IsWhole) (arg3 : Memref sig .tc .vmem S200x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S2048x1 .i32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .i32) (harg9 : arg9.IsWhole) (hc0 : ¬(Scalar.cmpi .ne (Scalar.extui (Scalar.cmpi .eq (BitVec.ofNat 32 (i 1).val) 0#32)) 0#32) = 1#1) (hc1 : ¬k0_cond2 i = 1#1)
    (x0 : Vec F S2048x200 .f32) (x1 : Vec F S200x512 .f32) (x2 : Vec F S1x512 .f32) (x3 : Vec F S512x512 .f32) (d6 : Vec F S2048x1 .i32) (d7 : Vec F S2048x1 .f32) (d8 : Vec F S2048x1 .f32) (d9 : Vec F S2048x1 .i32) (σ : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ owns (c : Thread nD τ) arg9 fullShare d9 ∗ holds c σ
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ owns (c : Thread nD τ) arg9 fullShare d9 ∗ holds c (step i x3 σ)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) K := by
  simp only [cc0__fused_kernel_eq_skeleton]; unfold cc0__fused_kernel_skel
  simp only [k0_part7_eq_skeleton, k0_part8_eq_skeleton, k0_part9_eq_skeleton, k0_part10_eq_skeleton, k0_part11_eq_skeleton, k0_part12_eq_skeleton, k0_part13_eq_skeleton]
  unfold holds owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := (Memref.isWhole_whole cc0_scratch0).eq_unread hf10; obtain rfl := (Memref.isWhole_whole cc0_scratch1).eq_unread hf11; obtain rfl := (Memref.isWhole_whole cc0_scratch2).eq_unread hf12; obtain rfl := (Memref.isWhole_whole cc0_scratch3).eq_unread hf13; obtain rfl := (Memref.isWhole_whole cc0_scratch4).eq_unread hf14; obtain rfl := (Memref.isWhole_whole cc0_scratch5).eq_unread hf15; obtain rfl := (Memref.isWhole_whole cc0_scratch6).eq_unread hf16; obtain rfl := (Memref.isWhole_whole cc0_scratch7).eq_unread hf17
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact (Memref.isWhole_whole cc0_scratch0).read_unread _
    iexact H10
  isplitl [H11]
  · iexists _; isplitr; swap; · iexact H11
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H12]
  · iexists _; isplitr; swap; · iexact H12
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H13]
  · iexists _; isplitr; swap; · iexact H13
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H14]
  · iexists _; isplitr; swap; · iexact H14
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H15]
  · iexists _; isplitr; swap; · iexact H15
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H16]
  · iexists _; isplitr; swap; · iexact H16
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  iexists _; isplitr; swap; · iexact H17
  ipureintro
  sl_unfold_run_names
  refine (View.read_writes_full _ _ _ _ _).trans ?_
  repeat (first | rw [load_stored (s := S2048x512)] | rw [load_stored (s := S2048x128)] | rw [load_whole (s := S2048x512)] | rw [load_whole (s := S2048x128)] | rw [load_whole])
  first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)

end Cert.KernelIdeal.Run

end
-- ==== Proof.KernelIdealLast.lean ====
module

public import proofs.«01_k».proof.Proof.KernelIdealState

/-! The kernel's body at a grid point of the last column block. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- A grid point of the last column block. -/
theorem run_last (c : Dev nD) (i : grid0.Coords) (arg2 : Memref sig .tc .vmem S2048x200 .f32) (harg2 : arg2.IsWhole) (arg3 : Memref sig .tc .vmem S200x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S2048x1 .i32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .i32) (harg9 : arg9.IsWhole) (hc0 : ¬(Scalar.cmpi .ne (Scalar.extui (Scalar.cmpi .eq (BitVec.ofNat 32 (i 1).val) 0#32)) 0#32) = 1#1) (hc1 : k0_cond2 i = 1#1)
    (x0 : Vec F S2048x200 .f32) (x1 : Vec F S200x512 .f32) (x2 : Vec F S1x512 .f32) (x3 : Vec F S512x512 .f32) (d6 : Vec F S2048x1 .i32) (d7 : Vec F S2048x1 .f32) (d8 : Vec F S2048x1 .f32) (d9 : Vec F S2048x1 .i32) (σ : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ owns (c : Thread nD τ) arg9 fullShare d9 ∗ holds c σ
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outAction (step i x3 σ)) ∗ owns (c : Thread nD τ) arg7 fullShare (outLogProb i (step i x3 σ)) ∗ owns (c : Thread nD τ) arg8 fullShare (outEntropy (step i x3 σ)) ∗ owns (c : Thread nD τ) arg9 fullShare (outBest (step i x3 σ)) ∗ holds c (step i x3 σ)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) K := by
  simp only [cc0__fused_kernel_eq_skeleton]; unfold cc0__fused_kernel_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold holds owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := (Memref.isWhole_whole cc0_scratch0).eq_unread hf10; obtain rfl := (Memref.isWhole_whole cc0_scratch1).eq_unread hf11; obtain rfl := (Memref.isWhole_whole cc0_scratch2).eq_unread hf12; obtain rfl := (Memref.isWhole_whole cc0_scratch3).eq_unread hf13; obtain rfl := (Memref.isWhole_whole cc0_scratch4).eq_unread hf14; obtain rfl := (Memref.isWhole_whole cc0_scratch5).eq_unread hf15; obtain rfl := (Memref.isWhole_whole cc0_scratch6).eq_unread hf16; obtain rfl := (Memref.isWhole_whole cc0_scratch7).eq_unread hf17
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H7]
  · iexists _; isplitr; swap; · iexact H7
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H8]
  · iexists _; isplitr; swap; · iexact H8
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H9]
  · iexists _; isplitr; swap; · iexact H9
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H10]
  · iexists _; isplitr; · ipureintro; exact (Memref.isWhole_whole cc0_scratch0).read_unread _
    iexact H10
  isplitl [H11]
  · iexists _; isplitr; swap; · iexact H11
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H12]
  · iexists _; isplitr; swap; · iexact H12
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H13]
  · iexists _; isplitr; swap; · iexact H13
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H14]
  · iexists _; isplitr; swap; · iexact H14
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H15]
  · iexists _; isplitr; swap; · iexact H15
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  isplitl [H16]
  · iexists _; isplitr; swap; · iexact H16
    ipureintro
    sl_unfold_run_names
    refine (View.read_writes_full _ _ _ _ _).trans ?_
    repeat (first | rw [load_stored (s := S2048x512)] | rw [load_stored (s := S2048x128)] | rw [load_whole (s := S2048x512)] | rw [load_whole (s := S2048x128)] | rw [load_whole])
    first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)
  iexists _; isplitr; swap; · iexact H17
  ipureintro
  sl_unfold_run_names
  refine (View.read_writes_full _ _ _ _ _).trans ?_
  repeat (first | rw [load_stored (s := S2048x512)] | rw [load_stored (s := S2048x128)] | rw [load_whole (s := S2048x512)] | rw [load_whole (s := S2048x128)] | rw [load_whole])
  first | (dsimp only [step, start, draws, firstCol, lanes, outAction, drawsAt, outLogProb, outEntropy, outBest]; done) | (dsimp only [step, start, draws, firstCol, lanes, outAction, drawsAt, outLogProb, outEntropy, outBest, k0_pay3, k0_pay4, k0_pay5, k0_pay6]; done)

end Cert.KernelIdeal.Run

end
-- ==== Proof.KernelIdealCases.lean ====
module

public import proofs.«01_k».proof.Proof.KernelIdealFirst
public import proofs.«01_k».proof.Proof.KernelIdealMid
public import proofs.«01_k».proof.Proof.KernelIdealLast

/-! When a grid point is the first or the last of its row block, the staging buffers the body is handed, and the scratch buffers as one record. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's first branch is taken at the first column block of a row block. -/
theorem first_iff (t : Fin cfg0.N) :
    (Scalar.cmpi .ne (Scalar.extui (Scalar.cmpi .eq (BitVec.ofNat 32 ((grid0.coords t) 1).val) 0#32)) 0#32) = 1#1 ↔ t.val % 196 = 0 := by
  have ht : t.val < 392 := Nat.lt_of_lt_of_eq t.isLt N_0
  have e1 : (grid0.coords t 1).val = t.val / 1 % 196 := Pipeline.Grid.coords_val t 1 (by decide) rfl
  simp only [e1]
  word_cmp

/-- The body's second branch is taken at the last column block of a row block. -/
theorem last_iff (t : Fin cfg0.N) : k0_cond2 (grid0.coords t) = 1#1 ↔ t.val % 196 = 195 := by
  have ht : t.val < 392 := Nat.lt_of_lt_of_eq t.isLt N_0
  have e1 : (grid0.coords t 1).val = t.val / 1 % 196 := Pipeline.Grid.coords_val t 1 (by decide) rfl
  simp only [k0_cond2, e1]
  word_cmp

/-! The staging buffers at a grid point. -/

abbrev stg0 (t : Fin cfg0.N) : Memref sig .tc .vmem S2048x200 .f32 := win0_0.stage (cfg0.slots t 0)
theorem stg0_whole (t : Fin cfg0.N) : (stg0 t).IsWhole := hstage0_0 ((cfg0.slots t 0).cast nbuf0_0)
abbrev stg1 (t : Fin cfg0.N) : Memref sig .tc .vmem S200x512 .f32 := win0_1.stage (cfg0.slots t 1)
theorem stg1_whole (t : Fin cfg0.N) : (stg1 t).IsWhole := hstage0_1 ((cfg0.slots t 1).cast nbuf0_1)
abbrev stg2 (t : Fin cfg0.N) : Memref sig .tc .vmem S1x512 .f32 := win0_2.stage (cfg0.slots t 2)
theorem stg2_whole (t : Fin cfg0.N) : (stg2 t).IsWhole := hstage0_2 ((cfg0.slots t 2).cast nbuf0_2)
abbrev stg3 (t : Fin cfg0.N) : Memref sig .tc .vmem S512x512 .f32 := win0_3.stage (cfg0.slots t 3)
theorem stg3_whole (t : Fin cfg0.N) : (stg3 t).IsWhole := hstage0_3 ((cfg0.slots t 3).cast nbuf0_3)
abbrev stg4 (t : Fin cfg0.N) : Memref sig .tc .vmem S2048x1 .i32 := win0_4.stage (cfg0.slots t 4)
theorem stg4_whole (t : Fin cfg0.N) : (stg4 t).IsWhole := hstage0_4 ((cfg0.slots t 4).cast nbuf0_4)
abbrev stg5 (t : Fin cfg0.N) : Memref sig .tc .vmem S2048x1 .f32 := win0_5.stage (cfg0.slots t 5)
theorem stg5_whole (t : Fin cfg0.N) : (stg5 t).IsWhole := hstage0_5 ((cfg0.slots t 5).cast nbuf0_5)
abbrev stg6 (t : Fin cfg0.N) : Memref sig .tc .vmem S2048x1 .f32 := win0_6.stage (cfg0.slots t 6)
theorem stg6_whole (t : Fin cfg0.N) : (stg6 t).IsWhole := hstage0_6 ((cfg0.slots t 6).cast nbuf0_6)
abbrev stg7 (t : Fin cfg0.N) : Memref sig .tc .vmem S2048x1 .i32 := win0_7.stage (cfg0.slots t 7)
theorem stg7_whole (t : Fin cfg0.N) : (stg7 t).IsWhole := hstage0_7 ((cfg0.slots t 7).cast nbuf0_7)

/-- The scratch buffers and the generator register, at anything: the record at some value. -/
theorem scratch_some (c : Dev nD) :
    (Pipeline.ΦA spec0 c : sProp 𝕄) ⊢ iprop((∃ σ : St F, holds c σ) ∗ (∃ r, prngReg c r)) := by
  unfold Pipeline.ΦA holds
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hg⟩
  isplitl [H0 H1 H2 H3 H4 H5 H6 H7]
  · iexists ({ h := f0, f := f1, s := f2, t := f3, av := f4, ai := f5, cv := f6, ci := f7 } : St F)
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- The record at some value, forgotten. -/
theorem some_scratch (c : Dev nD) :
    iprop((∃ σ : St F, holds c σ) ∗ (∃ r, prngReg c r)) ⊢ (Pipeline.ΦA spec0 c : sProp 𝕄) := by
  unfold Pipeline.ΦA holds
  rw [scopedRest0_eq]
  simp only [owns_whole]
  iintro ⟨⟨%σ, H0, H1, H2, H3, H4, H5, H6, H7⟩, Hg⟩
  isplitl [H0 H1 H2 H3 H4 H5 H6 H7]
  · isplitl [H0]; · iexists σ.h; iexact H0
    isplitl [H1]; · iexists σ.f; iexact H1
    isplitl [H2]; · iexists σ.s; iexact H2
    isplitl [H3]; · iexists σ.t; iexact H3
    isplitl [H4]; · iexists σ.av; iexact H4
    isplitl [H5]; · iexists σ.ai; iexact H5
    isplitl [H6]; · iexists σ.cv; iexact H6
    iexists σ.ci; iexact H7
  iexact Hg

/-- The body table's row at a grid point is the body on the staging buffers of that point. -/
theorem row (t : Fin cfg0.N) : defs₀ (F := F) .tc cfg0.body (cfg0.bodyArgs t (cfg0.slots t)) = bodyAt0 t := by
  unfold defs₀; rw [Defs.onTc_tc]

end Cert.KernelIdeal.Run

end
-- ==== Proof.KernelIdealFrame.lean ====
module

public import proofs.«01_k».proof.Proof.KernelIdealCases

/-! The run of the program with nothing said of what the kernel writes: it ends, the argument arrays are as before, and every semaphore counter is zero. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The results of the lines after the kernel. -/
def results : Finset (Ref sig .tc) := {main_v3, main_v4, main_v5, main_v6}

theorem tail_writes : ∀ ops ∈ ([hostOps1] : List (List (HloOp τ sig (Elt F)))), ∀ op ∈ ops,
    ∀ b : Ref sig .tc, Proc.devRef .tc b ∈ op.writes → b ∈ results := by
  intro ops hops op hop
  obtain rfl := List.mem_singleton.mp hops
  simp only [hostOps1, List.mem_cons, List.mem_nil_iff, or_false] at hop
  rcases hop with rfl | rfl | rfl | rfl
  all_goals
    intro b hb
    simp only [StableHlo.nullary_writes, StableHlo.unary_writes, StableHlo.reshape_writes, Finset.mem_singleton] at hb
    cases Proc.devRef_injective _ hb
    decide

/-- Every window's buffer at anything, before and after every point. -/
def forgets : Fin cfg0.W → Bool := fun _ => true

/-- The arrays as the kernel finds them, the buffers at anything. -/
def loose (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem loose_A (c : Dev nD) (w : Fin cfg0.W) : (loose m 0 c).A w = V m c (Pipeline.arrRef spec0 w) := by
  dsimp only [loose]

/-- The buffers of the eight windows, each at anything. -/
def buffers (c : Dev nD) (t : Fin cfg0.N) : sProp 𝕄 :=
  iprop((∃ d, owns (c : Thread nD τ) (stg0 t) fullShare d) ∗ (∃ d, owns (c : Thread nD τ) (stg1 t) fullShare d) ∗ (∃ d, owns (c : Thread nD τ) (stg2 t) fullShare d) ∗ (∃ d, owns (c : Thread nD τ) (stg3 t) fullShare d) ∗ (∃ d, owns (c : Thread nD τ) (stg4 t) fullShare d) ∗ (∃ d, owns (c : Thread nD τ) (stg5 t) fullShare d) ∗ (∃ d, owns (c : Thread nD τ) (stg6 t) fullShare d) ∗ (∃ d, owns (c : Thread nD τ) (stg7 t) fullShare d))

/-- The body at any point, nothing said of the contents. -/
theorem body_any (c : Dev nD) (t : Fin cfg0.N) :
    iprop(Pipeline.ΦA spec0 c ∗ (loose m 0 c).owesAt () t.castSucc ∗ buffers c t)
      ⊢ wp frame (wpE (defs₀ (F := F)) Variants.none c none) Set.univ (bodyAt0 t) (fun _ =>
        iprop(Pipeline.ΦA spec0 c ∗ (loose m 0 c).owesAt () t.castSucc ∗ buffers c t)) := by
  unfold buffers bodyAt0
  refine BIBase.Entails.trans (BIClass.sep_mono (scratch_some c) .rfl) ?_
  iintro ⟨⟨⟨%σ, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 196 = 0
  · have h1 : ¬ t.val % 196 = 195 := by omega
    iapply (run_first c (grid0.coords t) _ (stg0_whole t) _ (stg1_whole t) _ (stg2_whole t) _ (stg3_whole t) _ (stg4_whole t) _ (stg5_whole t) _ (stg6_whole t) _ (stg7_whole t) ((first_iff t).mpr h0) (fun h => h1 ((last_iff t).mp h)) d0 d1 d2 d3 d4 d5 d6 d7 σ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · iapply (some_scratch c)
      isplitl [HS]
      · iexists _; iexact HS
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  · by_cases h1 : t.val % 196 = 195
    · skip
      iapply (run_last c (grid0.coords t) _ (stg0_whole t) _ (stg1_whole t) _ (stg2_whole t) _ (stg3_whole t) _ (stg4_whole t) _ (stg5_whole t) _ (stg6_whole t) _ (stg7_whole t) (fun h => h0 ((first_iff t).mp h)) ((last_iff t).mpr h1) d0 d1 d2 d3 d4 d5 d6 d7 σ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · iapply (some_scratch c)
        isplitl [HS]
        · iexists _; iexact HS
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      iexists _; iexact H7
    · skip
      iapply (run_mid c (grid0.coords t) _ (stg0_whole t) _ (stg1_whole t) _ (stg2_whole t) _ (stg3_whole t) _ (stg4_whole t) _ (stg5_whole t) _ (stg6_whole t) _ (stg7_whole t) (fun h => h0 ((first_iff t).mp h)) (fun h => h1 ((last_iff t).mp h)) d0 d1 d2 d3 d4 d5 d6 d7 σ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · iapply (some_scratch c)
        isplitl [HS]
        · iexists _; iexact HS
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      iexists _; iexact H7

theorem obligation_any (c : Dev nD) : BodyObligation (loose (F := F) m 0 c) (defs₀ (F := F)) Variants.none () Set.univ forgets := fun t => by
  rw [bigSep_W0, bigSep_W0, row]
  exact triple_restated (body_any m c t) rfl .rfl fun _ => .rfl

set_option backward.isDefEq.respectTransparency.types false in
set_option maxHeartbeats 800000 in
/-- The run, nothing said of the outputs. -/
theorem run_any : θ_run defs (onTc (τ := τ) (main (F := F))) (s₀ m ρ)
    (fun r => (Pipeline.RDat.FramePostR (cfgs 0) (fun c => (loose m 0 c).toRForget forgets) results (V m)) r ∧ r.2.sem = fun _ => 0) :=
  Pipeline.θ_run_frame_around_T_forget (Q' := _) cfgs (loose m) (0 : Fin 1) launch0 defs₀ Variants.none forgets results m ρ main
    (hbody := fun c => (obligation_any m c).loose) (hshare := fun c => (loose m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := loose_A m) (hΦ := fun _ _ => rfl)

/-- The program ends, its arguments as before and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r hr => ⟨fun c => ?_, hr.2⟩) (run_any m ρ)
  have h := hr.1
  have kept (b : Ref sig .tc) (hb : b ∈ Pipeline.restRefs sig spec0 \ results) : r.2.mem ((c.tc : Thread nD τ).loc b) = V m c b := (h c).2 b hb
  have rest (b : Ref sig .tc) (h1) (h2) (h3 : b ∉ results) := kept b (Finset.mem_sdiff.mpr ⟨Pipeline.mem_restRefs_of b h1 h2, h3⟩)
  exact ⟨(rest main_arg0 (by decide) (by decide) (by decide)).trans (V_main_arg0 m c),
    (rest main_arg1 (by decide) (by decide) (by decide)).trans (V_main_arg1 m c),
    (Pipeline.RDat.FramePostR.arr_in h c 1 rfl).trans ((loose_A m c 1).trans (V_main_arg2 m c)),
    (rest main_arg3 (by decide) (by decide) (by decide)).trans (V_main_arg3 m c),
    (Pipeline.RDat.FramePostR.arr_in h c 3 rfl).trans ((loose_A m c 3).trans (V_main_arg4 m c)),
    (rest main_arg5 (by decide) (by decide) (by decide)).trans (V_main_arg5 m c)⟩

end Cert.KernelIdeal.Run

end
-- ==== Proof.RefLine.lean ====
/- The reference's @main as one line of host operations: each operation's result buffer, in order, and what it holds at
   the end as a function of what its operands hold at the end (every buffer is written once and read only later). -/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

abbrev arg0 : TRef sig ⟨S4096x100, .f32⟩ := .of main_arg0
abbrev arg1 : TRef sig ⟨S4096x100, .f32⟩ := .of main_arg1
abbrev arg2 : TRef sig ⟨S200x512, .f32⟩ := .of main_arg2
abbrev arg3 : TRef sig ⟨S512, .f32⟩ := .of main_arg3
abbrev arg4 : TRef sig ⟨S512x100000, .f32⟩ := .of main_arg4
abbrev arg5 : TRef sig ⟨S100000, .f32⟩ := .of main_arg5
abbrev v0 : TRef sig ⟨S4096x200, .f32⟩ := .of main_v0
abbrev v1 : TRef sig ⟨S4096x512, .f32⟩ := .of main_v1
abbrev v2 : TRef sig ⟨S1x512, .f32⟩ := .of main_v2
abbrev v3 : TRef sig ⟨S4096x512, .f32⟩ := .of main_v3
abbrev v4 : TRef sig ⟨S4096x512, .f32⟩ := .of main_v4
abbrev call0_cst : TRef sig ⟨S_, .f32⟩ := .of main_call0_cst
abbrev call0_v0 : TRef sig ⟨S4096x512, .f32⟩ := .of main_call0_v0
abbrev v5 : TRef sig ⟨S4096x512, .f32⟩ := .of main_v5
abbrev v6 : TRef sig ⟨S4096x100000, .f32⟩ := .of main_v6
abbrev v7 : TRef sig ⟨S1x100000, .f32⟩ := .of main_v7
abbrev v8 : TRef sig ⟨S4096x100000, .f32⟩ := .of main_v8
abbrev v9 : TRef sig ⟨S4096x100000, .f32⟩ := .of main_v9
abbrev call1_cst : TRef sig ⟨S_, .f32⟩ := .of main_call1_cst
abbrev call1_v0 : TRef sig ⟨S4096, .f32⟩ := .of main_call1_v0
abbrev call1_cst_0 : TRef sig ⟨S_, .f32⟩ := .of main_call1_cst_0
abbrev call1_v1 : TRef sig ⟨S4096, .f32⟩ := .of main_call1_v1
abbrev call1_v2 : TRef sig ⟨S4096, .f32⟩ := .of main_call1_v2
abbrev call1_v3 : TRef sig ⟨S4096x1, .f32⟩ := .of main_call1_v3
abbrev call1_v4 : TRef sig ⟨S4096x100000, .f32⟩ := .of main_call1_v4
abbrev call1_v5 : TRef sig ⟨S4096x100000, .f32⟩ := .of main_call1_v5
abbrev call1_v6 : TRef sig ⟨S4096x100000, .f32⟩ := .of main_call1_v6
abbrev call1_cst_1 : TRef sig ⟨S_, .f32⟩ := .of main_call1_cst_1
abbrev call1_v7 : TRef sig ⟨S4096, .f32⟩ := .of main_call1_v7
abbrev call1_v8 : TRef sig ⟨S4096x1, .f32⟩ := .of main_call1_v8
abbrev call1_v9 : TRef sig ⟨S4096x1, .f32⟩ := .of main_call1_v9
abbrev call1_v10 : TRef sig ⟨S4096x100000, .f32⟩ := .of main_call1_v10
abbrev v10 : TRef sig ⟨S4096x100000, .f32⟩ := .of main_v10
abbrev c : TRef sig ⟨S_, .i32⟩ := .of main_c
abbrev c_0 : TRef sig ⟨S_, .i32⟩ := .of main_c_0
abbrev v11 : TRef sig ⟨S_, .i32⟩ := .of main_v11
abbrev v12 : TRef sig ⟨S_, .i32⟩ := .of main_v12
abbrev v13 : TRef sig ⟨S1, .i32⟩ := .of main_v13
abbrev c_1 : TRef sig ⟨S_, .i32⟩ := .of main_c_1
abbrev v14 : TRef sig ⟨S_, .i32⟩ := .of main_v14
abbrev v15 : TRef sig ⟨S_, .i32⟩ := .of main_v15
abbrev v16 : TRef sig ⟨S1, .i32⟩ := .of main_v16
abbrev v17 : TRef sig ⟨S2, .i32⟩ := .of main_v17
abbrev v18 : TRef sig ⟨S1, .i32⟩ := .of main_v18
abbrev v19 : TRef sig ⟨S_, .i32⟩ := .of main_v19
abbrev v20 : TRef sig ⟨S1, .i32⟩ := .of main_v20
abbrev v21 : TRef sig ⟨S_, .i32⟩ := .of main_v21
abbrev v22 : TRef sig ⟨S4096x100000, .i64⟩ := .of main_v22
abbrev v23 : TRef sig ⟨S4096x100000, .i64⟩ := .of main_v23
abbrev c_2 : TRef sig ⟨S_, .i64⟩ := .of main_c_2
abbrev v24 : TRef sig ⟨S4096x100000, .i64⟩ := .of main_v24
abbrev v25 : TRef sig ⟨S4096x100000, .i64⟩ := .of main_v25
abbrev c_3 : TRef sig ⟨S_, .i64⟩ := .of main_c_3
abbrev v26 : TRef sig ⟨S4096x100000, .i64⟩ := .of main_v26
abbrev v27 : TRef sig ⟨S4096x100000, .i64⟩ := .of main_v27
abbrev v28 : TRef sig ⟨S4096x100000, .i64⟩ := .of main_v28
abbrev c_4 : TRef sig ⟨S_, .i64⟩ := .of main_c_4
abbrev v29 : TRef sig ⟨S4096x100000, .i64⟩ := .of main_v29
abbrev v30 : TRef sig ⟨S4096x100000, .i64⟩ := .of main_v30
abbrev v31 : TRef sig ⟨S4096x100000, .i32⟩ := .of main_v31
abbrev v32 : TRef sig ⟨S4096x100000, .i32⟩ := .of main_v32
abbrev call2_v0 : TRef sig ⟨S_, .i32⟩ := .of main_call2_v0
abbrev call2_c : TRef sig ⟨S_, .i32⟩ := .of main_call2_c
abbrev call2_v1 : TRef sig ⟨S_, .i32⟩ := .of main_call2_v1
abbrev call2_v2 : TRef sig ⟨S4096x100000, .i32⟩ := .of main_call2_v2
abbrev call2_v3 : TRef sig ⟨S4096x100000, .i32⟩ := .of main_call2_v3
abbrev call2_v4 : TRef sig ⟨S4096x100000, .i32⟩ := .of main_call2_v4
abbrev call2_v5 : TRef sig ⟨S4096x100000, .i32⟩ := .of main_call2_v5
abbrev call2_v6 : TRef sig ⟨S4096x100000, .i32⟩ := .of main_call2_v6
abbrev call2_c_0 : TRef sig ⟨S_, .i32⟩ := .of main_call2_c_0
abbrev call2_v7 : TRef sig ⟨S4096x100000, .i32⟩ := .of main_call2_v7
abbrev call2_v8 : TRef sig ⟨S4096x100000, .i32⟩ := .of main_call2_v8
abbrev call2_c_1 : TRef sig ⟨S_, .i32⟩ := .of main_call2_c_1
abbrev call2_v9 : TRef sig ⟨S4096x100000, .i32⟩ := .of main_call2_v9
abbrev call2_v10 : TRef sig ⟨S4096x100000, .i32⟩ := .of main_call2_v10
abbrev call2_v11 : TRef sig ⟨S4096x100000, .i32⟩ := .of main_call2_v11
abbrev call2_v12 : TRef sig ⟨S4096x100000, .i32⟩ := .of main_call2_v12
abbrev call2_v13 : TRef sig ⟨S4096x100000, .i32⟩ := .of main_call2_v13
abbrev call2_c_2 : TRef sig ⟨S_, .i32⟩ := .of main_call2_c_2
abbrev call2_v14 : TRef sig ⟨S4096x100000, .i32⟩ := .of main_call2_v14
abbrev call2_v15 : TRef sig ⟨S4096x100000, .i32⟩ := .of main_call2_v15
abbrev call2_c_3 : TRef sig ⟨S_, .i32⟩ := .of main_call2_c_3
abbrev call2_v16 : TRef sig ⟨S4096x100000, .i32⟩ := .of main_call2_v16
abbrev call2_v17 : TRef sig ⟨S4096x100000, .i32⟩ := .of main_call2_v17
abbrev call2_v18 : TRef sig ⟨S4096x100000, .i32⟩ := .of main_call2_v18
abbrev call2_v19 : TRef sig ⟨S4096x100000, .i32⟩ := .of main_call2_v19
abbrev call2_v20 : TRef sig ⟨S4096x100000, .i32⟩ := .of main_call2_v20
abbrev call2_c_4 : TRef sig ⟨S_, .i32⟩ := .of main_call2_c_4
abbrev call2_v21 : TRef sig ⟨S4096x100000, .i32⟩ := .of main_call2_v21
abbrev call2_v22 : TRef sig ⟨S4096x100000, .i32⟩ := .of main_call2_v22
abbrev call2_c_5 : TRef sig ⟨S_, .i32⟩ := .of main_call2_c_5
abbrev call2_v23 : TRef sig ⟨S4096x100000, .i32⟩ := .of main_call2_v23
abbrev call2_v24 : TRef sig ⟨S4096x100000, .i32⟩ := .of main_call2_v24
abbrev call2_v25 : TRef sig ⟨S4096x100000, .i32⟩ := .of main_call2_v25
abbrev call2_v26 : TRef sig ⟨S4096x100000, .i32⟩ := .of main_call2_v26
abbrev call2_v27 : TRef sig ⟨S4096x100000, .i32⟩ := .of main_call2_v27
abbrev call2_c_6 : TRef sig ⟨S_, .i32⟩ := .of main_call2_c_6
abbrev call2_v28 : TRef sig ⟨S4096x100000, .i32⟩ := .of main_call2_v28
abbrev call2_v29 : TRef sig ⟨S4096x100000, .i32⟩ := .of main_call2_v29
abbrev call2_c_7 : TRef sig ⟨S_, .i32⟩ := .of main_call2_c_7
abbrev call2_v30 : TRef sig ⟨S4096x100000, .i32⟩ := .of main_call2_v30
abbrev call2_v31 : TRef sig ⟨S4096x100000, .i32⟩ := .of main_call2_v31
abbrev call2_v32 : TRef sig ⟨S4096x100000, .i32⟩ := .of main_call2_v32
abbrev call2_v33 : TRef sig ⟨S4096x100000, .i32⟩ := .of main_call2_v33
abbrev call2_v34 : TRef sig ⟨S4096x100000, .i32⟩ := .of main_call2_v34
abbrev call2_v35 : TRef sig ⟨S4096x100000, .i32⟩ := .of main_call2_v35
abbrev call2_v36 : TRef sig ⟨S4096x100000, .i32⟩ := .of main_call2_v36
abbrev call2_v37 : TRef sig ⟨S4096x100000, .i32⟩ := .of main_call2_v37
abbrev call2_c_8 : TRef sig ⟨S_, .i32⟩ := .of main_call2_c_8
abbrev call2_v38 : TRef sig ⟨S4096x100000, .i32⟩ := .of main_call2_v38
abbrev call2_v39 : TRef sig ⟨S4096x100000, .i32⟩ := .of main_call2_v39
abbrev call2_v40 : TRef sig ⟨S4096x100000, .i32⟩ := .of main_call2_v40
abbrev call2_c_9 : TRef sig ⟨S_, .i32⟩ := .of main_call2_c_9
abbrev call2_v41 : TRef sig ⟨S4096x100000, .i32⟩ := .of main_call2_v41
abbrev call2_v42 : TRef sig ⟨S4096x100000, .i32⟩ := .of main_call2_v42
abbrev call2_c_10 : TRef sig ⟨S_, .i32⟩ := .of main_call2_c_10
abbrev call2_v43 : TRef sig ⟨S4096x100000, .i32⟩ := .of main_call2_v43
abbrev call2_v44 : TRef sig ⟨S4096x100000, .i32⟩ := .of main_call2_v44
abbrev call2_v45 : TRef sig ⟨S4096x100000, .i32⟩ := .of main_call2_v45
abbrev call2_v46 : TRef sig ⟨S4096x100000, .i32⟩ := .of main_call2_v46
abbrev call2_v47 : TRef sig ⟨S4096x100000, .i32⟩ := .of main_call2_v47
abbrev call2_c_11 : TRef sig ⟨S_, .i32⟩ := .of main_call2_c_11
abbrev call2_v48 : TRef sig ⟨S4096x100000, .i32⟩ := .of main_call2_v48
abbrev call2_v49 : TRef sig ⟨S4096x100000, .i32⟩ := .of main_call2_v49
abbrev call2_c_12 : TRef sig ⟨S_, .i32⟩ := .of main_call2_c_12
abbrev call2_v50 : TRef sig ⟨S4096x100000, .i32⟩ := .of main_call2_v50
abbrev call2_v51 : TRef sig ⟨S4096x100000, .i32⟩ := .of main_call2_v51
abbrev call2_v52 : TRef sig ⟨S4096x100000, .i32⟩ := .of main_call2_v52
abbrev call2_v53 : TRef sig ⟨S4096x100000, .i32⟩ := .of main_call2_v53
abbrev call2_v54 : TRef sig ⟨S4096x100000, .i32⟩ := .of main_call2_v54
abbrev call2_c_13 : TRef sig ⟨S_, .i32⟩ := .of main_call2_c_13
abbrev call2_v55 : TRef sig ⟨S4096x100000, .i32⟩ := .of main_call2_v55
abbrev call2_v56 : TRef sig ⟨S4096x100000, .i32⟩ := .of main_call2_v56
abbrev call2_c_14 : TRef sig ⟨S_, .i32⟩ := .of main_call2_c_14
abbrev call2_v57 : TRef sig ⟨S4096x100000, .i32⟩ := .of main_call2_v57
abbrev call2_v58 : TRef sig ⟨S4096x100000, .i32⟩ := .of main_call2_v58
abbrev call2_v59 : TRef sig ⟨S4096x100000, .i32⟩ := .of main_call2_v59
abbrev call2_v60 : TRef sig ⟨S4096x100000, .i32⟩ := .of main_call2_v60
abbrev call2_v61 : TRef sig ⟨S4096x100000, .i32⟩ := .of main_call2_v61
abbrev call2_c_15 : TRef sig ⟨S_, .i32⟩ := .of main_call2_c_15
abbrev call2_v62 : TRef sig ⟨S4096x100000, .i32⟩ := .of main_call2_v62
abbrev call2_v63 : TRef sig ⟨S4096x100000, .i32⟩ := .of main_call2_v63
abbrev call2_c_16 : TRef sig ⟨S_, .i32⟩ := .of main_call2_c_16
abbrev call2_v64 : TRef sig ⟨S4096x100000, .i32⟩ := .of main_call2_v64
abbrev call2_v65 : TRef sig ⟨S4096x100000, .i32⟩ := .of main_call2_v65
abbrev call2_v66 : TRef sig ⟨S4096x100000, .i32⟩ := .of main_call2_v66
abbrev call2_v67 : TRef sig ⟨S4096x100000, .i32⟩ := .of main_call2_v67
abbrev call2_v68 : TRef sig ⟨S4096x100000, .i32⟩ := .of main_call2_v68
abbrev call2_v69 : TRef sig ⟨S4096x100000, .i32⟩ := .of main_call2_v69
abbrev call2_v70 : TRef sig ⟨S4096x100000, .i32⟩ := .of main_call2_v70
abbrev call2_v71 : TRef sig ⟨S4096x100000, .i32⟩ := .of main_call2_v71
abbrev call2_c_17 : TRef sig ⟨S_, .i32⟩ := .of main_call2_c_17
abbrev call2_v72 : TRef sig ⟨S4096x100000, .i32⟩ := .of main_call2_v72
abbrev call2_v73 : TRef sig ⟨S4096x100000, .i32⟩ := .of main_call2_v73
abbrev call2_v74 : TRef sig ⟨S4096x100000, .i32⟩ := .of main_call2_v74
abbrev call2_c_18 : TRef sig ⟨S_, .i32⟩ := .of main_call2_c_18
abbrev call2_v75 : TRef sig ⟨S4096x100000, .i32⟩ := .of main_call2_v75
abbrev call2_v76 : TRef sig ⟨S4096x100000, .i32⟩ := .of main_call2_v76
abbrev call2_c_19 : TRef sig ⟨S_, .i32⟩ := .of main_call2_c_19
abbrev call2_v77 : TRef sig ⟨S4096x100000, .i32⟩ := .of main_call2_v77
abbrev call2_v78 : TRef sig ⟨S4096x100000, .i32⟩ := .of main_call2_v78
abbrev call2_v79 : TRef sig ⟨S4096x100000, .i32⟩ := .of main_call2_v79
abbrev call2_v80 : TRef sig ⟨S4096x100000, .i32⟩ := .of main_call2_v80
abbrev call2_v81 : TRef sig ⟨S4096x100000, .i32⟩ := .of main_call2_v81
abbrev call2_c_20 : TRef sig ⟨S_, .i32⟩ := .of main_call2_c_20
abbrev call2_v82 : TRef sig ⟨S4096x100000, .i32⟩ := .of main_call2_v82
abbrev call2_v83 : TRef sig ⟨S4096x100000, .i32⟩ := .of main_call2_v83
abbrev call2_c_21 : TRef sig ⟨S_, .i32⟩ := .of main_call2_c_21
abbrev call2_v84 : TRef sig ⟨S4096x100000, .i32⟩ := .of main_call2_v84
abbrev call2_v85 : TRef sig ⟨S4096x100000, .i32⟩ := .of main_call2_v85
abbrev call2_v86 : TRef sig ⟨S4096x100000, .i32⟩ := .of main_call2_v86
abbrev call2_v87 : TRef sig ⟨S4096x100000, .i32⟩ := .of main_call2_v87
abbrev call2_v88 : TRef sig ⟨S4096x100000, .i32⟩ := .of main_call2_v88
abbrev call2_c_22 : TRef sig ⟨S_, .i32⟩ := .of main_call2_c_22
abbrev call2_v89 : TRef sig ⟨S4096x100000, .i32⟩ := .of main_call2_v89
abbrev call2_v90 : TRef sig ⟨S4096x100000, .i32⟩ := .of main_call2_v90
abbrev call2_c_23 : TRef sig ⟨S_, .i32⟩ := .of main_call2_c_23
abbrev call2_v91 : TRef sig ⟨S4096x100000, .i32⟩ := .of main_call2_v91
abbrev call2_v92 : TRef sig ⟨S4096x100000, .i32⟩ := .of main_call2_v92
abbrev call2_v93 : TRef sig ⟨S4096x100000, .i32⟩ := .of main_call2_v93
abbrev call2_v94 : TRef sig ⟨S4096x100000, .i32⟩ := .of main_call2_v94
abbrev call2_v95 : TRef sig ⟨S4096x100000, .i32⟩ := .of main_call2_v95
abbrev call2_c_24 : TRef sig ⟨S_, .i32⟩ := .of main_call2_c_24
abbrev call2_v96 : TRef sig ⟨S4096x100000, .i32⟩ := .of main_call2_v96
abbrev call2_v97 : TRef sig ⟨S4096x100000, .i32⟩ := .of main_call2_v97
abbrev call2_c_25 : TRef sig ⟨S_, .i32⟩ := .of main_call2_c_25
abbrev call2_v98 : TRef sig ⟨S4096x100000, .i32⟩ := .of main_call2_v98
abbrev call2_v99 : TRef sig ⟨S4096x100000, .i32⟩ := .of main_call2_v99
abbrev call2_v100 : TRef sig ⟨S4096x100000, .i32⟩ := .of main_call2_v100
abbrev call2_v101 : TRef sig ⟨S4096x100000, .i32⟩ := .of main_call2_v101
abbrev call2_v102 : TRef sig ⟨S4096x100000, .i32⟩ := .of main_call2_v102
abbrev call2_v103 : TRef sig ⟨S4096x100000, .i32⟩ := .of main_call2_v103
abbrev call2_v104 : TRef sig ⟨S4096x100000, .i32⟩ := .of main_call2_v104
abbrev call2_v105 : TRef sig ⟨S4096x100000, .i32⟩ := .of main_call2_v105
abbrev call2_c_26 : TRef sig ⟨S_, .i32⟩ := .of main_call2_c_26
abbrev call2_v106 : TRef sig ⟨S4096x100000, .i32⟩ := .of main_call2_v106
abbrev call2_v107 : TRef sig ⟨S4096x100000, .i32⟩ := .of main_call2_v107
abbrev call2_v108 : TRef sig ⟨S4096x100000, .i32⟩ := .of main_call2_v108
abbrev call2_c_27 : TRef sig ⟨S_, .i32⟩ := .of main_call2_c_27
abbrev call2_v109 : TRef sig ⟨S4096x100000, .i32⟩ := .of main_call2_v109
abbrev call2_v110 : TRef sig ⟨S4096x100000, .i32⟩ := .of main_call2_v110
abbrev call2_c_28 : TRef sig ⟨S_, .i32⟩ := .of main_call2_c_28
abbrev call2_v111 : TRef sig ⟨S4096x100000, .i32⟩ := .of main_call2_v111
abbrev call2_v112 : TRef sig ⟨S4096x100000, .i32⟩ := .of main_call2_v112
abbrev call2_v113 : TRef sig ⟨S4096x100000, .i32⟩ := .of main_call2_v113
abbrev call2_v114 : TRef sig ⟨S4096x100000, .i32⟩ := .of main_call2_v114
abbrev call2_v115 : TRef sig ⟨S4096x100000, .i32⟩ := .of main_call2_v115
abbrev call2_c_29 : TRef sig ⟨S_, .i32⟩ := .of main_call2_c_29
abbrev call2_v116 : TRef sig ⟨S4096x100000, .i32⟩ := .of main_call2_v116
abbrev call2_v117 : TRef sig ⟨S4096x100000, .i32⟩ := .of main_call2_v117
abbrev call2_c_30 : TRef sig ⟨S_, .i32⟩ := .of main_call2_c_30
abbrev call2_v118 : TRef sig ⟨S4096x100000, .i32⟩ := .of main_call2_v118
abbrev call2_v119 : TRef sig ⟨S4096x100000, .i32⟩ := .of main_call2_v119
abbrev call2_v120 : TRef sig ⟨S4096x100000, .i32⟩ := .of main_call2_v120
abbrev call2_v121 : TRef sig ⟨S4096x100000, .i32⟩ := .of main_call2_v121
abbrev call2_v122 : TRef sig ⟨S4096x100000, .i32⟩ := .of main_call2_v122
abbrev call2_c_31 : TRef sig ⟨S_, .i32⟩ := .of main_call2_c_31
abbrev call2_v123 : TRef sig ⟨S4096x100000, .i32⟩ := .of main_call2_v123
abbrev call2_v124 : TRef sig ⟨S4096x100000, .i32⟩ := .of main_call2_v124
abbrev call2_c_32 : TRef sig ⟨S_, .i32⟩ := .of main_call2_c_32
abbrev call2_v125 : TRef sig ⟨S4096x100000, .i32⟩ := .of main_call2_v125
abbrev call2_v126 : TRef sig ⟨S4096x100000, .i32⟩ := .of main_call2_v126
abbrev call2_v127 : TRef sig ⟨S4096x100000, .i32⟩ := .of main_call2_v127
abbrev call2_v128 : TRef sig ⟨S4096x100000, .i32⟩ := .of main_call2_v128
abbrev call2_v129 : TRef sig ⟨S4096x100000, .i32⟩ := .of main_call2_v129
abbrev call2_c_33 : TRef sig ⟨S_, .i32⟩ := .of main_call2_c_33
abbrev call2_v130 : TRef sig ⟨S4096x100000, .i32⟩ := .of main_call2_v130
abbrev call2_v131 : TRef sig ⟨S4096x100000, .i32⟩ := .of main_call2_v131
abbrev call2_c_34 : TRef sig ⟨S_, .i32⟩ := .of main_call2_c_34
abbrev call2_v132 : TRef sig ⟨S4096x100000, .i32⟩ := .of main_call2_v132
abbrev call2_v133 : TRef sig ⟨S4096x100000, .i32⟩ := .of main_call2_v133
abbrev call2_v134 : TRef sig ⟨S4096x100000, .i32⟩ := .of main_call2_v134
abbrev call2_v135 : TRef sig ⟨S4096x100000, .i32⟩ := .of main_call2_v135
abbrev call2_v136 : TRef sig ⟨S4096x100000, .i32⟩ := .of main_call2_v136
abbrev call2_v137 : TRef sig ⟨S4096x100000, .i32⟩ := .of main_call2_v137
abbrev call2_v138 : TRef sig ⟨S4096x100000, .i32⟩ := .of main_call2_v138
abbrev call2_v139 : TRef sig ⟨S4096x100000, .i32⟩ := .of main_call2_v139
abbrev call2_c_35 : TRef sig ⟨S_, .i32⟩ := .of main_call2_c_35
abbrev call2_v140 : TRef sig ⟨S4096x100000, .i32⟩ := .of main_call2_v140
abbrev call2_v141 : TRef sig ⟨S4096x100000, .i32⟩ := .of main_call2_v141
abbrev call2_v142 : TRef sig ⟨S4096x100000, .i32⟩ := .of main_call2_v142
abbrev call2_c_36 : TRef sig ⟨S_, .i32⟩ := .of main_call2_c_36
abbrev call2_v143 : TRef sig ⟨S4096x100000, .i32⟩ := .of main_call2_v143
abbrev call2_v144 : TRef sig ⟨S4096x100000, .i32⟩ := .of main_call2_v144
abbrev call2_c_37 : TRef sig ⟨S_, .i32⟩ := .of main_call2_c_37
abbrev call2_v145 : TRef sig ⟨S4096x100000, .i32⟩ := .of main_call2_v145
abbrev call2_v146 : TRef sig ⟨S4096x100000, .i32⟩ := .of main_call2_v146
abbrev call2_v147 : TRef sig ⟨S4096x100000, .i32⟩ := .of main_call2_v147
abbrev call2_v148 : TRef sig ⟨S4096x100000, .i32⟩ := .of main_call2_v148
abbrev call2_v149 : TRef sig ⟨S4096x100000, .i32⟩ := .of main_call2_v149
abbrev call2_c_38 : TRef sig ⟨S_, .i32⟩ := .of main_call2_c_38
abbrev call2_v150 : TRef sig ⟨S4096x100000, .i32⟩ := .of main_call2_v150
abbrev call2_v151 : TRef sig ⟨S4096x100000, .i32⟩ := .of main_call2_v151
abbrev call2_c_39 : TRef sig ⟨S_, .i32⟩ := .of main_call2_c_39
abbrev call2_v152 : TRef sig ⟨S4096x100000, .i32⟩ := .of main_call2_v152
abbrev call2_v153 : TRef sig ⟨S4096x100000, .i32⟩ := .of main_call2_v153
abbrev call2_v154 : TRef sig ⟨S4096x100000, .i32⟩ := .of main_call2_v154
abbrev call2_v155 : TRef sig ⟨S4096x100000, .i32⟩ := .of main_call2_v155
abbrev call2_v156 : TRef sig ⟨S4096x100000, .i32⟩ := .of main_call2_v156
abbrev call2_c_40 : TRef sig ⟨S_, .i32⟩ := .of main_call2_c_40
abbrev call2_v157 : TRef sig ⟨S4096x100000, .i32⟩ := .of main_call2_v157
abbrev call2_v158 : TRef sig ⟨S4096x100000, .i32⟩ := .of main_call2_v158
abbrev call2_c_41 : TRef sig ⟨S_, .i32⟩ := .of main_call2_c_41
abbrev call2_v159 : TRef sig ⟨S4096x100000, .i32⟩ := .of main_call2_v159
abbrev call2_v160 : TRef sig ⟨S4096x100000, .i32⟩ := .of main_call2_v160
abbrev call2_v161 : TRef sig ⟨S4096x100000, .i32⟩ := .of main_call2_v161
abbrev call2_v162 : TRef sig ⟨S4096x100000, .i32⟩ := .of main_call2_v162
abbrev call2_v163 : TRef sig ⟨S4096x100000, .i32⟩ := .of main_call2_v163
abbrev call2_c_42 : TRef sig ⟨S_, .i32⟩ := .of main_call2_c_42
abbrev call2_v164 : TRef sig ⟨S4096x100000, .i32⟩ := .of main_call2_v164
abbrev call2_v165 : TRef sig ⟨S4096x100000, .i32⟩ := .of main_call2_v165
abbrev call2_c_43 : TRef sig ⟨S_, .i32⟩ := .of main_call2_c_43
abbrev call2_v166 : TRef sig ⟨S4096x100000, .i32⟩ := .of main_call2_v166
abbrev call2_v167 : TRef sig ⟨S4096x100000, .i32⟩ := .of main_call2_v167
abbrev call2_v168 : TRef sig ⟨S4096x100000, .i32⟩ := .of main_call2_v168
abbrev call2_v169 : TRef sig ⟨S4096x100000, .i32⟩ := .of main_call2_v169
abbrev call2_v170 : TRef sig ⟨S4096x100000, .i32⟩ := .of main_call2_v170
abbrev v33_0 : TRef sig ⟨S4096x100000, .i32⟩ := .of main_v33_0
abbrev call2_v172 : TRef sig ⟨S4096x100000, .i32⟩ := .of main_call2_v172
abbrev call2_v173 : TRef sig ⟨S4096x100000, .i32⟩ := .of main_call2_v173
abbrev call2_c_44 : TRef sig ⟨S_, .i32⟩ := .of main_call2_c_44
abbrev call2_v174 : TRef sig ⟨S4096x100000, .i32⟩ := .of main_call2_v174
abbrev v33_1 : TRef sig ⟨S4096x100000, .i32⟩ := .of main_v33_1
abbrev v34 : TRef sig ⟨S4096x100000, .i32⟩ := .of main_v34
abbrev c_5 : TRef sig ⟨S_, .i32⟩ := .of main_c_5
abbrev v35 : TRef sig ⟨S4096x100000, .i32⟩ := .of main_v35
abbrev v36 : TRef sig ⟨S4096x100000, .i32⟩ := .of main_v36
abbrev c_6 : TRef sig ⟨S_, .i32⟩ := .of main_c_6
abbrev v37 : TRef sig ⟨S4096x100000, .i32⟩ := .of main_v37
abbrev v38 : TRef sig ⟨S4096x100000, .i32⟩ := .of main_v38
abbrev v39 : TRef sig ⟨S4096x100000, .f32⟩ := .of main_v39
abbrev cst : TRef sig ⟨S_, .f32⟩ := .of main_cst
abbrev v40 : TRef sig ⟨S4096x100000, .f32⟩ := .of main_v40
abbrev v41 : TRef sig ⟨S4096x100000, .f32⟩ := .of main_v41
abbrev cst_7 : TRef sig ⟨S_, .f32⟩ := .of main_cst_7
abbrev v42 : TRef sig ⟨S4096x100000, .f32⟩ := .of main_v42
abbrev v43 : TRef sig ⟨S4096x100000, .f32⟩ := .of main_v43
abbrev cst_8 : TRef sig ⟨S_, .f32⟩ := .of main_cst_8
abbrev v44 : TRef sig ⟨S4096x100000, .f32⟩ := .of main_v44
abbrev v45 : TRef sig ⟨S4096x100000, .f32⟩ := .of main_v45
abbrev cst_9 : TRef sig ⟨S_, .f32⟩ := .of main_cst_9
abbrev v46 : TRef sig ⟨S4096x100000, .f32⟩ := .of main_v46
abbrev v47 : TRef sig ⟨S4096x100000, .f32⟩ := .of main_v47
abbrev v48 : TRef sig ⟨S4096x100000, .f32⟩ := .of main_v48
abbrev v49 : TRef sig ⟨S4096x100000, .f32⟩ := .of main_v49
abbrev v50 : TRef sig ⟨S4096x100000, .f32⟩ := .of main_v50
abbrev v51 : TRef sig ⟨S4096x100000, .f32⟩ := .of main_v51
abbrev v52 : TRef sig ⟨S4096x100000, .f32⟩ := .of main_v52
abbrev call3_v0 : TRef sig ⟨S4096x100000, .i32⟩ := .of main_call3_v0
abbrev call3_cst : TRef sig ⟨S_, .f32⟩ := .of main_call3_cst
abbrev call3_c : TRef sig ⟨S_, .i32⟩ := .of main_call3_c
abbrev call3_v1_0 : TRef sig ⟨S4096, .f32⟩ := .of main_call3_v1_0
abbrev v53 : TRef sig ⟨S4096, .i32⟩ := .of main_v53
abbrev v54 : TRef sig ⟨S4096x1, .i32⟩ := .of main_v54
abbrev call4_c : TRef sig ⟨S_, .i32⟩ := .of main_call4_c
abbrev call4_v0 : TRef sig ⟨S4096x1, .i32⟩ := .of main_call4_v0
abbrev call4_v1 : TRef sig ⟨S4096x1, .i1⟩ := .of main_call4_v1
abbrev call4_c_0 : TRef sig ⟨S_, .i32⟩ := .of main_call4_c_0
abbrev call4_v2 : TRef sig ⟨S4096x1, .i32⟩ := .of main_call4_v2
abbrev call4_v3 : TRef sig ⟨S4096x1, .i32⟩ := .of main_call4_v3
abbrev call4_v4 : TRef sig ⟨S4096x1, .i32⟩ := .of main_call4_v4
abbrev call4_v5 : TRef sig ⟨S4096x1x1, .i32⟩ := .of main_call4_v5
abbrev call4_c_1 : TRef sig ⟨S1, .i32⟩ := .of main_call4_c_1
abbrev call4_c_2 : TRef sig ⟨S_, .i32⟩ := .of main_call4_c_2
abbrev call4_v6 : TRef sig ⟨S4096x1x1, .i32⟩ := .of main_call4_v6
abbrev call4_v7 : TRef sig ⟨S4096x1x1, .i1⟩ := .of main_call4_v7
abbrev call4_v8 : TRef sig ⟨S1x1x1, .i32⟩ := .of main_call4_v8
abbrev call4_v9 : TRef sig ⟨S4096x1x1, .i32⟩ := .of main_call4_v9
abbrev call4_v10 : TRef sig ⟨S4096x1x1, .i1⟩ := .of main_call4_v10
abbrev call4_v11 : TRef sig ⟨S4096x1x1, .i1⟩ := .of main_call4_v11
abbrev call4_c_3 : TRef sig ⟨S_, .i1⟩ := .of main_call4_c_3
abbrev call4_v12 : TRef sig ⟨S4096x1, .i1⟩ := .of main_call4_v12
abbrev call4_v13 : TRef sig ⟨S4096x1, .f32⟩ := .of main_call4_v13
abbrev call4_cst : TRef sig ⟨S_, .f32⟩ := .of main_call4_cst
abbrev call4_v14 : TRef sig ⟨S4096x1, .f32⟩ := .of main_call4_v14
abbrev v55 : TRef sig ⟨S4096x1, .f32⟩ := .of main_v55
abbrev v56 : TRef sig ⟨S4096, .f32⟩ := .of main_v56
abbrev v57 : TRef sig ⟨S4096x100000, .f32⟩ := .of main_v57
abbrev v58 : TRef sig ⟨S4096x100000, .f32⟩ := .of main_v58
abbrev cst_10 : TRef sig ⟨S_, .f32⟩ := .of main_cst_10
abbrev v59 : TRef sig ⟨S4096, .f32⟩ := .of main_v59
abbrev v60 : TRef sig ⟨S4096, .f32⟩ := .of main_v60
abbrev call5_v0 : TRef sig ⟨S4096x100000, .i32⟩ := .of main_call5_v0
abbrev call5_cst : TRef sig ⟨S_, .f32⟩ := .of main_call5_cst
abbrev call5_c : TRef sig ⟨S_, .i32⟩ := .of main_call5_c
abbrev call5_v1_0 : TRef sig ⟨S4096, .f32⟩ := .of main_call5_v1_0
abbrev v61 : TRef sig ⟨S4096, .i32⟩ := .of main_v61

abbrev line0 : List (HloOp τ sig (Elt F)) :=
  [ TRef.binary arg0 arg1 v0 ((fun a b => concatenate S4096x200 1 [⟨S4096x100, a⟩, ⟨S4096x100, b⟩] concatenates_S4096x100_S4096x100_S4096x200_d1) : (⟨S4096x100, .f32⟩ : BufTy).Contents (Elt F) → (⟨S4096x100, .f32⟩ : BufTy).Contents (Elt F) → (⟨S4096x200, .f32⟩ : BufTy).Contents (Elt F)),
    TRef.binary v0 arg2 v1 ((fun l r => Host.dotGeneral dot_S4096x200_S200x512_S4096x512_1_0_0_1_n_n none l r) : (⟨S4096x200, .f32⟩ : BufTy).Contents (Elt F) → (⟨S200x512, .f32⟩ : BufTy).Contents (Elt F) → (⟨S4096x512, .f32⟩ : BufTy).Contents (Elt F)),
    TRef.unary arg3 v2 (broadcastInDim S1x512 ![1] bcast_S512_S1x512_1 : (⟨S512, .f32⟩ : BufTy).Contents (Elt F) → (⟨S1x512, .f32⟩ : BufTy).Contents (Elt F)),
    TRef.unary v2 v3 (broadcastInDim S4096x512 ![0, 1] bcast_S1x512_S4096x512_0_1 : (⟨S1x512, .f32⟩ : BufTy).Contents (Elt F) → (⟨S4096x512, .f32⟩ : BufTy).Contents (Elt F)),
    TRef.binary v1 v3 v4 (addf : (⟨S4096x512, .f32⟩ : BufTy).Contents (Elt F) → (⟨S4096x512, .f32⟩ : BufTy).Contents (Elt F) → (⟨S4096x512, .f32⟩ : BufTy).Contents (Elt F)),
    TRef.nullary call0_cst (constant S_ .f32 0x00000000#32),
    TRef.unary call0_cst call0_v0 (broadcastInDim S4096x512 ![] bcast_S_S4096x512),
    TRef.binary v4 call0_v0 v5 maximumf,
    TRef.binary v5 arg4 v6 ((fun l r => Host.dotGeneral dot_S4096x512_S512x100000_S4096x100000_1_0_0_1_n_n none l r) : (⟨S4096x512, .f32⟩ : BufTy).Contents (Elt F) → (⟨S512x100000, .f32⟩ : BufTy).Contents (Elt F) → (⟨S4096x100000, .f32⟩ : BufTy).Contents (Elt F)),
    TRef.unary arg5 v7 (broadcastInDim S1x100000 ![1] bcast_S100000_S1x100000_1 : (⟨S100000, .f32⟩ : BufTy).Contents (Elt F) → (⟨S1x100000, .f32⟩ : BufTy).Contents (Elt F)),
    TRef.unary v7 v8 (broadcastInDim S4096x100000 ![0, 1] bcast_S1x100000_S4096x100000_0_1 : (⟨S1x100000, .f32⟩ : BufTy).Contents (Elt F) → (⟨S4096x100000, .f32⟩ : BufTy).Contents (Elt F)),
    TRef.binary v6 v8 v9 (addf : (⟨S4096x100000, .f32⟩ : BufTy).Contents (Elt F) → (⟨S4096x100000, .f32⟩ : BufTy).Contents (Elt F) → (⟨S4096x100000, .f32⟩ : BufTy).Contents (Elt F)),
    TRef.nullary call1_cst (constant S_ .f32 0xFF800000#32),
    TRef.binary v9 call1_cst call1_v0 (fun x v => Host.reduce FloatOps.maximumf x v reducesTo_S4096x100000_S4096_d1 h_S_),
    TRef.nullary call1_cst_0 (constant S_ .f32 0xFF800000#32),
    TRef.unary call1_cst_0 call1_v1 (broadcastInDim S4096 ![] bcast_S_S4096),
    TRef.binary call1_v1 call1_v0 call1_v2 maximumf,
    TRef.unary call1_v2 call1_v3 (broadcastInDim S4096x1 ![0] bcast_S4096_S4096x1_0),
    TRef.unary call1_v3 call1_v4 (broadcastInDim S4096x100000 ![0, 1] bcast_S4096x1_S4096x100000_0_1),
    TRef.binary v9 call1_v4 call1_v5 subf,
    TRef.unary call1_v5 call1_v6 Host.exp,
    TRef.nullary call1_cst_1 (constant S_ .f32 0x00000000#32),
    TRef.binary call1_v6 call1_cst_1 call1_v7 (fun x v => Host.reduceAdd x v reducesTo_S4096x100000_S4096_d1 h_S_),
    TRef.unary call1_v7 call1_v8 (broadcastInDim S4096x1 ![0] bcast_S4096_S4096x1_0),
    TRef.unary call1_v8 call1_v9 Host.log,
    TRef.unary call1_v9 call1_v10 (broadcastInDim S4096x100000 ![0, 1] bcast_S4096x1_S4096x100000_0_1),
    TRef.binary call1_v5 call1_v10 v10 subf,
    TRef.nullary c (constantI S_ 32 42#32),
    TRef.nullary c_0 (constantI S_ 32 32#32),
    TRef.binary c c_0 v11 (Host.shrui : (⟨S_, .i32⟩ : BufTy).Contents (Elt F) → (⟨S_, .i32⟩ : BufTy).Contents (Elt F) → (⟨S_, .i32⟩ : BufTy).Contents (Elt F)),
    TRef.unary v11 v12 (id : (⟨S_, .i32⟩ : BufTy).Contents (Elt F) → (⟨S_, .i32⟩ : BufTy).Contents (Elt F)),
    TRef.unary v12 v13 (broadcastInDim S1 ![] bcast_S_S1 : (⟨S_, .i32⟩ : BufTy).Contents (Elt F) → (⟨S1, .i32⟩ : BufTy).Contents (Elt F)),
    TRef.nullary c_1 (constantI S_ 32 4294967295#32),
    TRef.binary c c_1 v14 (andi : (⟨S_, .i32⟩ : BufTy).Contents (Elt F) → (⟨S_, .i32⟩ : BufTy).Contents (Elt F) → (⟨S_, .i32⟩ : BufTy).Contents (Elt F)),
    TRef.unary v14 v15 (id : (⟨S_, .i32⟩ : BufTy).Contents (Elt F) → (⟨S_, .i32⟩ : BufTy).Contents (Elt F)),
    TRef.unary v15 v16 (broadcastInDim S1 ![] bcast_S_S1 : (⟨S_, .i32⟩ : BufTy).Contents (Elt F) → (⟨S1, .i32⟩ : BufTy).Contents (Elt F)),
    TRef.binary v13 v16 v17 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    TRef.unary v17 v18 ((extractStridedSlice S1 ![0] · slices_S2_S1_0) : (⟨S2, .i32⟩ : BufTy).Contents (Elt F) → (⟨S1, .i32⟩ : BufTy).Contents (Elt F)),
    TRef.reshape v18 v19 (rfl : (.i32 : EltTy) = .i32) shapeCasts_S1_S_,
    TRef.unary v17 v20 ((extractStridedSlice S1 ![1] · slices_S2_S1_1) : (⟨S2, .i32⟩ : BufTy).Contents (Elt F) → (⟨S1, .i32⟩ : BufTy).Contents (Elt F)) ]

abbrev line1 : List (HloOp τ sig (Elt F)) :=
  [ TRef.reshape v20 v21 (rfl : (.i32 : EltTy) = .i32) shapeCasts_S1_S_,
    TRef.nullary v22 (iotaInDim S4096x100000 64 0),
    TRef.nullary v23 (iotaInDim S4096x100000 64 1),
    TRef.nullary c_2 (constantI S_ 64 100000#64),
    TRef.unary c_2 v24 (broadcastInDim S4096x100000 ![] bcast_S_S4096x100000 : (⟨S_, .i64⟩ : BufTy).Contents (Elt F) → (⟨S4096x100000, .i64⟩ : BufTy).Contents (Elt F)),
    TRef.binary v24 v22 v25 (muli : (⟨S4096x100000, .i64⟩ : BufTy).Contents (Elt F) → (⟨S4096x100000, .i64⟩ : BufTy).Contents (Elt F) → (⟨S4096x100000, .i64⟩ : BufTy).Contents (Elt F)),
    TRef.nullary c_3 (constantI S_ 64 1#64),
    TRef.unary c_3 v26 (broadcastInDim S4096x100000 ![] bcast_S_S4096x100000 : (⟨S_, .i64⟩ : BufTy).Contents (Elt F) → (⟨S4096x100000, .i64⟩ : BufTy).Contents (Elt F)),
    TRef.binary v26 v23 v27 (muli : (⟨S4096x100000, .i64⟩ : BufTy).Contents (Elt F) → (⟨S4096x100000, .i64⟩ : BufTy).Contents (Elt F) → (⟨S4096x100000, .i64⟩ : BufTy).Contents (Elt F)),
    TRef.binary v25 v27 v28 (addi : (⟨S4096x100000, .i64⟩ : BufTy).Contents (Elt F) → (⟨S4096x100000, .i64⟩ : BufTy).Contents (Elt F) → (⟨S4096x100000, .i64⟩ : BufTy).Contents (Elt F)),
    TRef.nullary c_4 (constantI S_ 64 32#64),
    TRef.unary c_4 v29 (broadcastInDim S4096x100000 ![] bcast_S_S4096x100000 : (⟨S_, .i64⟩ : BufTy).Contents (Elt F) → (⟨S4096x100000, .i64⟩ : BufTy).Contents (Elt F)),
    TRef.binary v28 v29 v30 (Host.shrui : (⟨S4096x100000, .i64⟩ : BufTy).Contents (Elt F) → (⟨S4096x100000, .i64⟩ : BufTy).Contents (Elt F) → (⟨S4096x100000, .i64⟩ : BufTy).Contents (Elt F)),
    TRef.unary v28 v31 ((trunci 32 · natLt_32_64) : (⟨S4096x100000, .i64⟩ : BufTy).Contents (Elt F) → (⟨S4096x100000, .i32⟩ : BufTy).Contents (Elt F)),
    TRef.unary v30 v32 ((trunci 32 · natLt_32_64) : (⟨S4096x100000, .i64⟩ : BufTy).Contents (Elt F) → (⟨S4096x100000, .i32⟩ : BufTy).Contents (Elt F)),
    TRef.binary v19 v21 call2_v0 xori,
    TRef.nullary call2_c (constantI S_ 32 466688986#32),
    TRef.binary call2_v0 call2_c call2_v1 xori,
    TRef.unary v19 call2_v2 (broadcastInDim S4096x100000 ![] bcast_S_S4096x100000),
    TRef.binary v32 call2_v2 call2_v3 addi,
    TRef.unary v21 call2_v4 (broadcastInDim S4096x100000 ![] bcast_S_S4096x100000),
    TRef.binary v31 call2_v4 call2_v5 addi,
    TRef.binary call2_v3 call2_v5 call2_v6 addi,
    TRef.nullary call2_c_0 (constantI S_ 32 13#32),
    TRef.unary call2_c_0 call2_v7 (broadcastInDim S4096x100000 ![] bcast_S_S4096x100000),
    TRef.binary call2_v5 call2_v7 call2_v8 Host.shli,
    TRef.nullary call2_c_1 (constantI S_ 32 19#32),
    TRef.unary call2_c_1 call2_v9 (broadcastInDim S4096x100000 ![] bcast_S_S4096x100000),
    TRef.binary call2_v5 call2_v9 call2_v10 Host.shrui,
    TRef.binary call2_v8 call2_v10 call2_v11 ori,
    TRef.binary call2_v6 call2_v11 call2_v12 xori,
    TRef.binary call2_v6 call2_v12 call2_v13 addi,
    TRef.nullary call2_c_2 (constantI S_ 32 15#32),
    TRef.unary call2_c_2 call2_v14 (broadcastInDim S4096x100000 ![] bcast_S_S4096x100000),
    TRef.binary call2_v12 call2_v14 call2_v15 Host.shli,
    TRef.nullary call2_c_3 (constantI S_ 32 17#32),
    TRef.unary call2_c_3 call2_v16 (broadcastInDim S4096x100000 ![] bcast_S_S4096x100000),
    TRef.binary call2_v12 call2_v16 call2_v17 Host.shrui,
    TRef.binary call2_v15 call2_v17 call2_v18 ori,
    TRef.binary call2_v13 call2_v18 call2_v19 xori ]

abbrev line2 : List (HloOp τ sig (Elt F)) :=
  [ TRef.binary call2_v13 call2_v19 call2_v20 addi,
    TRef.nullary call2_c_4 (constantI S_ 32 26#32),
    TRef.unary call2_c_4 call2_v21 (broadcastInDim S4096x100000 ![] bcast_S_S4096x100000),
    TRef.binary call2_v19 call2_v21 call2_v22 Host.shli,
    TRef.nullary call2_c_5 (constantI S_ 32 6#32),
    TRef.unary call2_c_5 call2_v23 (broadcastInDim S4096x100000 ![] bcast_S_S4096x100000),
    TRef.binary call2_v19 call2_v23 call2_v24 Host.shrui,
    TRef.binary call2_v22 call2_v24 call2_v25 ori,
    TRef.binary call2_v20 call2_v25 call2_v26 xori,
    TRef.binary call2_v20 call2_v26 call2_v27 addi,
    TRef.nullary call2_c_6 (constantI S_ 32 6#32),
    TRef.unary call2_c_6 call2_v28 (broadcastInDim S4096x100000 ![] bcast_S_S4096x100000),
    TRef.binary call2_v26 call2_v28 call2_v29 Host.shli,
    TRef.nullary call2_c_7 (constantI S_ 32 26#32),
    TRef.unary call2_c_7 call2_v30 (broadcastInDim S4096x100000 ![] bcast_S_S4096x100000),
    TRef.binary call2_v26 call2_v30 call2_v31 Host.shrui,
    TRef.binary call2_v29 call2_v31 call2_v32 ori,
    TRef.binary call2_v27 call2_v32 call2_v33 xori,
    TRef.unary v21 call2_v34 (broadcastInDim S4096x100000 ![] bcast_S_S4096x100000),
    TRef.binary call2_v27 call2_v34 call2_v35 addi,
    TRef.unary call2_v1 call2_v36 (broadcastInDim S4096x100000 ![] bcast_S_S4096x100000),
    TRef.binary call2_v33 call2_v36 call2_v37 addi,
    TRef.nullary call2_c_8 (constantI S_ 32 1#32),
    TRef.unary call2_c_8 call2_v38 (broadcastInDim S4096x100000 ![] bcast_S_S4096x100000),
    TRef.binary call2_v37 call2_v38 call2_v39 addi,
    TRef.binary call2_v35 call2_v39 call2_v40 addi,
    TRef.nullary call2_c_9 (constantI S_ 32 17#32),
    TRef.unary call2_c_9 call2_v41 (broadcastInDim S4096x100000 ![] bcast_S_S4096x100000),
    TRef.binary call2_v39 call2_v41 call2_v42 Host.shli,
    TRef.nullary call2_c_10 (constantI S_ 32 15#32),
    TRef.unary call2_c_10 call2_v43 (broadcastInDim S4096x100000 ![] bcast_S_S4096x100000),
    TRef.binary call2_v39 call2_v43 call2_v44 Host.shrui,
    TRef.binary call2_v42 call2_v44 call2_v45 ori,
    TRef.binary call2_v40 call2_v45 call2_v46 xori,
    TRef.binary call2_v40 call2_v46 call2_v47 addi,
    TRef.nullary call2_c_11 (constantI S_ 32 29#32),
    TRef.unary call2_c_11 call2_v48 (broadcastInDim S4096x100000 ![] bcast_S_S4096x100000),
    TRef.binary call2_v46 call2_v48 call2_v49 Host.shli,
    TRef.nullary call2_c_12 (constantI S_ 32 3#32),
    TRef.unary call2_c_12 call2_v50 (broadcastInDim S4096x100000 ![] bcast_S_S4096x100000) ]

abbrev line3 : List (HloOp τ sig (Elt F)) :=
  [ TRef.binary call2_v46 call2_v50 call2_v51 Host.shrui,
    TRef.binary call2_v49 call2_v51 call2_v52 ori,
    TRef.binary call2_v47 call2_v52 call2_v53 xori,
    TRef.binary call2_v47 call2_v53 call2_v54 addi,
    TRef.nullary call2_c_13 (constantI S_ 32 16#32),
    TRef.unary call2_c_13 call2_v55 (broadcastInDim S4096x100000 ![] bcast_S_S4096x100000),
    TRef.binary call2_v53 call2_v55 call2_v56 Host.shli,
    TRef.nullary call2_c_14 (constantI S_ 32 16#32),
    TRef.unary call2_c_14 call2_v57 (broadcastInDim S4096x100000 ![] bcast_S_S4096x100000),
    TRef.binary call2_v53 call2_v57 call2_v58 Host.shrui,
    TRef.binary call2_v56 call2_v58 call2_v59 ori,
    TRef.binary call2_v54 call2_v59 call2_v60 xori,
    TRef.binary call2_v54 call2_v60 call2_v61 addi,
    TRef.nullary call2_c_15 (constantI S_ 32 24#32),
    TRef.unary call2_c_15 call2_v62 (broadcastInDim S4096x100000 ![] bcast_S_S4096x100000),
    TRef.binary call2_v60 call2_v62 call2_v63 Host.shli,
    TRef.nullary call2_c_16 (constantI S_ 32 8#32),
    TRef.unary call2_c_16 call2_v64 (broadcastInDim S4096x100000 ![] bcast_S_S4096x100000),
    TRef.binary call2_v60 call2_v64 call2_v65 Host.shrui,
    TRef.binary call2_v63 call2_v65 call2_v66 ori,
    TRef.binary call2_v61 call2_v66 call2_v67 xori,
    TRef.unary call2_v1 call2_v68 (broadcastInDim S4096x100000 ![] bcast_S_S4096x100000),
    TRef.binary call2_v61 call2_v68 call2_v69 addi,
    TRef.unary v19 call2_v70 (broadcastInDim S4096x100000 ![] bcast_S_S4096x100000),
    TRef.binary call2_v67 call2_v70 call2_v71 addi,
    TRef.nullary call2_c_17 (constantI S_ 32 2#32),
    TRef.unary call2_c_17 call2_v72 (broadcastInDim S4096x100000 ![] bcast_S_S4096x100000),
    TRef.binary call2_v71 call2_v72 call2_v73 addi,
    TRef.binary call2_v69 call2_v73 call2_v74 addi,
    TRef.nullary call2_c_18 (constantI S_ 32 13#32),
    TRef.unary call2_c_18 call2_v75 (broadcastInDim S4096x100000 ![] bcast_S_S4096x100000),
    TRef.binary call2_v73 call2_v75 call2_v76 Host.shli,
    TRef.nullary call2_c_19 (constantI S_ 32 19#32),
    TRef.unary call2_c_19 call2_v77 (broadcastInDim S4096x100000 ![] bcast_S_S4096x100000),
    TRef.binary call2_v73 call2_v77 call2_v78 Host.shrui,
    TRef.binary call2_v76 call2_v78 call2_v79 ori,
    TRef.binary call2_v74 call2_v79 call2_v80 xori,
    TRef.binary call2_v74 call2_v80 call2_v81 addi,
    TRef.nullary call2_c_20 (constantI S_ 32 15#32),
    TRef.unary call2_c_20 call2_v82 (broadcastInDim S4096x100000 ![] bcast_S_S4096x100000) ]

abbrev line4 : List (HloOp τ sig (Elt F)) :=
  [ TRef.binary call2_v80 call2_v82 call2_v83 Host.shli,
    TRef.nullary call2_c_21 (constantI S_ 32 17#32),
    TRef.unary call2_c_21 call2_v84 (broadcastInDim S4096x100000 ![] bcast_S_S4096x100000),
    TRef.binary call2_v80 call2_v84 call2_v85 Host.shrui,
    TRef.binary call2_v83 call2_v85 call2_v86 ori,
    TRef.binary call2_v81 call2_v86 call2_v87 xori,
    TRef.binary call2_v81 call2_v87 call2_v88 addi,
    TRef.nullary call2_c_22 (constantI S_ 32 26#32),
    TRef.unary call2_c_22 call2_v89 (broadcastInDim S4096x100000 ![] bcast_S_S4096x100000),
    TRef.binary call2_v87 call2_v89 call2_v90 Host.shli,
    TRef.nullary call2_c_23 (constantI S_ 32 6#32),
    TRef.unary call2_c_23 call2_v91 (broadcastInDim S4096x100000 ![] bcast_S_S4096x100000),
    TRef.binary call2_v87 call2_v91 call2_v92 Host.shrui,
    TRef.binary call2_v90 call2_v92 call2_v93 ori,
    TRef.binary call2_v88 call2_v93 call2_v94 xori,
    TRef.binary call2_v88 call2_v94 call2_v95 addi,
    TRef.nullary call2_c_24 (constantI S_ 32 6#32),
    TRef.unary call2_c_24 call2_v96 (broadcastInDim S4096x100000 ![] bcast_S_S4096x100000),
    TRef.binary call2_v94 call2_v96 call2_v97 Host.shli,
    TRef.nullary call2_c_25 (constantI S_ 32 26#32),
    TRef.unary call2_c_25 call2_v98 (broadcastInDim S4096x100000 ![] bcast_S_S4096x100000),
    TRef.binary call2_v94 call2_v98 call2_v99 Host.shrui,
    TRef.binary call2_v97 call2_v99 call2_v100 ori,
    TRef.binary call2_v95 call2_v100 call2_v101 xori,
    TRef.unary v19 call2_v102 (broadcastInDim S4096x100000 ![] bcast_S_S4096x100000),
    TRef.binary call2_v95 call2_v102 call2_v103 addi,
    TRef.unary v21 call2_v104 (broadcastInDim S4096x100000 ![] bcast_S_S4096x100000),
    TRef.binary call2_v101 call2_v104 call2_v105 addi,
    TRef.nullary call2_c_26 (constantI S_ 32 3#32),
    TRef.unary call2_c_26 call2_v106 (broadcastInDim S4096x100000 ![] bcast_S_S4096x100000),
    TRef.binary call2_v105 call2_v106 call2_v107 addi,
    TRef.binary call2_v103 call2_v107 call2_v108 addi,
    TRef.nullary call2_c_27 (constantI S_ 32 17#32),
    TRef.unary call2_c_27 call2_v109 (broadcastInDim S4096x100000 ![] bcast_S_S4096x100000),
    TRef.binary call2_v107 call2_v109 call2_v110 Host.shli,
    TRef.nullary call2_c_28 (constantI S_ 32 15#32),
    TRef.unary call2_c_28 call2_v111 (broadcastInDim S4096x100000 ![] bcast_S_S4096x100000),
    TRef.binary call2_v107 call2_v111 call2_v112 Host.shrui,
    TRef.binary call2_v110 call2_v112 call2_v113 ori,
    TRef.binary call2_v108 call2_v113 call2_v114 xori ]

abbrev line5 : List (HloOp τ sig (Elt F)) :=
  [ TRef.binary call2_v108 call2_v114 call2_v115 addi,
    TRef.nullary call2_c_29 (constantI S_ 32 29#32),
    TRef.unary call2_c_29 call2_v116 (broadcastInDim S4096x100000 ![] bcast_S_S4096x100000),
    TRef.binary call2_v114 call2_v116 call2_v117 Host.shli,
    TRef.nullary call2_c_30 (constantI S_ 32 3#32),
    TRef.unary call2_c_30 call2_v118 (broadcastInDim S4096x100000 ![] bcast_S_S4096x100000),
    TRef.binary call2_v114 call2_v118 call2_v119 Host.shrui,
    TRef.binary call2_v117 call2_v119 call2_v120 ori,
    TRef.binary call2_v115 call2_v120 call2_v121 xori,
    TRef.binary call2_v115 call2_v121 call2_v122 addi,
    TRef.nullary call2_c_31 (constantI S_ 32 16#32),
    TRef.unary call2_c_31 call2_v123 (broadcastInDim S4096x100000 ![] bcast_S_S4096x100000),
    TRef.binary call2_v121 call2_v123 call2_v124 Host.shli,
    TRef.nullary call2_c_32 (constantI S_ 32 16#32),
    TRef.unary call2_c_32 call2_v125 (broadcastInDim S4096x100000 ![] bcast_S_S4096x100000),
    TRef.binary call2_v121 call2_v125 call2_v126 Host.shrui,
    TRef.binary call2_v124 call2_v126 call2_v127 ori,
    TRef.binary call2_v122 call2_v127 call2_v128 xori,
    TRef.binary call2_v122 call2_v128 call2_v129 addi,
    TRef.nullary call2_c_33 (constantI S_ 32 24#32),
    TRef.unary call2_c_33 call2_v130 (broadcastInDim S4096x100000 ![] bcast_S_S4096x100000),
    TRef.binary call2_v128 call2_v130 call2_v131 Host.shli,
    TRef.nullary call2_c_34 (constantI S_ 32 8#32),
    TRef.unary call2_c_34 call2_v132 (broadcastInDim S4096x100000 ![] bcast_S_S4096x100000),
    TRef.binary call2_v128 call2_v132 call2_v133 Host.shrui,
    TRef.binary call2_v131 call2_v133 call2_v134 ori,
    TRef.binary call2_v129 call2_v134 call2_v135 xori,
    TRef.unary v21 call2_v136 (broadcastInDim S4096x100000 ![] bcast_S_S4096x100000),
    TRef.binary call2_v129 call2_v136 call2_v137 addi,
    TRef.unary call2_v1 call2_v138 (broadcastInDim S4096x100000 ![] bcast_S_S4096x100000),
    TRef.binary call2_v135 call2_v138 call2_v139 addi,
    TRef.nullary call2_c_35 (constantI S_ 32 4#32),
    TRef.unary call2_c_35 call2_v140 (broadcastInDim S4096x100000 ![] bcast_S_S4096x100000),
    TRef.binary call2_v139 call2_v140 call2_v141 addi,
    TRef.binary call2_v137 call2_v141 call2_v142 addi,
    TRef.nullary call2_c_36 (constantI S_ 32 13#32),
    TRef.unary call2_c_36 call2_v143 (broadcastInDim S4096x100000 ![] bcast_S_S4096x100000),
    TRef.binary call2_v141 call2_v143 call2_v144 Host.shli,
    TRef.nullary call2_c_37 (constantI S_ 32 19#32),
    TRef.unary call2_c_37 call2_v145 (broadcastInDim S4096x100000 ![] bcast_S_S4096x100000) ]

abbrev line6 : List (HloOp τ sig (Elt F)) :=
  [ TRef.binary call2_v141 call2_v145 call2_v146 Host.shrui,
    TRef.binary call2_v144 call2_v146 call2_v147 ori,
    TRef.binary call2_v142 call2_v147 call2_v148 xori,
    TRef.binary call2_v142 call2_v148 call2_v149 addi,
    TRef.nullary call2_c_38 (constantI S_ 32 15#32),
    TRef.unary call2_c_38 call2_v150 (broadcastInDim S4096x100000 ![] bcast_S_S4096x100000),
    TRef.binary call2_v148 call2_v150 call2_v151 Host.shli,
    TRef.nullary call2_c_39 (constantI S_ 32 17#32),
    TRef.unary call2_c_39 call2_v152 (broadcastInDim S4096x100000 ![] bcast_S_S4096x100000),
    TRef.binary call2_v148 call2_v152 call2_v153 Host.shrui,
    TRef.binary call2_v151 call2_v153 call2_v154 ori,
    TRef.binary call2_v149 call2_v154 call2_v155 xori,
    TRef.binary call2_v149 call2_v155 call2_v156 addi,
    TRef.nullary call2_c_40 (constantI S_ 32 26#32),
    TRef.unary call2_c_40 call2_v157 (broadcastInDim S4096x100000 ![] bcast_S_S4096x100000),
    TRef.binary call2_v155 call2_v157 call2_v158 Host.shli,
    TRef.nullary call2_c_41 (constantI S_ 32 6#32),
    TRef.unary call2_c_41 call2_v159 (broadcastInDim S4096x100000 ![] bcast_S_S4096x100000),
    TRef.binary call2_v155 call2_v159 call2_v160 Host.shrui,
    TRef.binary call2_v158 call2_v160 call2_v161 ori,
    TRef.binary call2_v156 call2_v161 call2_v162 xori,
    TRef.binary call2_v156 call2_v162 call2_v163 addi,
    TRef.nullary call2_c_42 (constantI S_ 32 6#32),
    TRef.unary call2_c_42 call2_v164 (broadcastInDim S4096x100000 ![] bcast_S_S4096x100000),
    TRef.binary call2_v162 call2_v164 call2_v165 Host.shli,
    TRef.nullary call2_c_43 (constantI S_ 32 26#32),
    TRef.unary call2_c_43 call2_v166 (broadcastInDim S4096x100000 ![] bcast_S_S4096x100000),
    TRef.binary call2_v162 call2_v166 call2_v167 Host.shrui,
    TRef.binary call2_v165 call2_v167 call2_v168 ori,
    TRef.binary call2_v163 call2_v168 call2_v169 xori,
    TRef.unary call2_v1 call2_v170 (broadcastInDim S4096x100000 ![] bcast_S_S4096x100000),
    TRef.binary call2_v163 call2_v170 v33_0 addi,
    TRef.unary v19 call2_v172 (broadcastInDim S4096x100000 ![] bcast_S_S4096x100000),
    TRef.binary call2_v169 call2_v172 call2_v173 addi,
    TRef.nullary call2_c_44 (constantI S_ 32 5#32),
    TRef.unary call2_c_44 call2_v174 (broadcastInDim S4096x100000 ![] bcast_S_S4096x100000),
    TRef.binary call2_v173 call2_v174 v33_1 addi,
    TRef.binary v33_0 v33_1 v34 (xori : (⟨S4096x100000, .i32⟩ : BufTy).Contents (Elt F) → (⟨S4096x100000, .i32⟩ : BufTy).Contents (Elt F) → (⟨S4096x100000, .i32⟩ : BufTy).Contents (Elt F)),
    TRef.nullary c_5 (constantI S_ 32 9#32),
    TRef.unary c_5 v35 (broadcastInDim S4096x100000 ![] bcast_S_S4096x100000 : (⟨S_, .i32⟩ : BufTy).Contents (Elt F) → (⟨S4096x100000, .i32⟩ : BufTy).Contents (Elt F)) ]

abbrev line7 : List (HloOp τ sig (Elt F)) :=
  [ TRef.binary v34 v35 v36 (Host.shrui : (⟨S4096x100000, .i32⟩ : BufTy).Contents (Elt F) → (⟨S4096x100000, .i32⟩ : BufTy).Contents (Elt F) → (⟨S4096x100000, .i32⟩ : BufTy).Contents (Elt F)),
    TRef.nullary c_6 (constantI S_ 32 1065353216#32),
    TRef.unary c_6 v37 (broadcastInDim S4096x100000 ![] bcast_S_S4096x100000 : (⟨S_, .i32⟩ : BufTy).Contents (Elt F) → (⟨S4096x100000, .i32⟩ : BufTy).Contents (Elt F)),
    TRef.binary v36 v37 v38 (ori : (⟨S4096x100000, .i32⟩ : BufTy).Contents (Elt F) → (⟨S4096x100000, .i32⟩ : BufTy).Contents (Elt F) → (⟨S4096x100000, .i32⟩ : BufTy).Contents (Elt F)),
    TRef.unary v38 v39 (bitcastToFloat .f32 : (⟨S4096x100000, .i32⟩ : BufTy).Contents (Elt F) → (⟨S4096x100000, .f32⟩ : BufTy).Contents (Elt F)),
    TRef.nullary cst (constant S_ .f32 0x3F800000#32),
    TRef.unary cst v40 (broadcastInDim S4096x100000 ![] bcast_S_S4096x100000 : (⟨S_, .f32⟩ : BufTy).Contents (Elt F) → (⟨S4096x100000, .f32⟩ : BufTy).Contents (Elt F)),
    TRef.binary v39 v40 v41 (subf : (⟨S4096x100000, .f32⟩ : BufTy).Contents (Elt F) → (⟨S4096x100000, .f32⟩ : BufTy).Contents (Elt F) → (⟨S4096x100000, .f32⟩ : BufTy).Contents (Elt F)),
    TRef.nullary cst_7 (constant S_ .f32 0x3F800000#32),
    TRef.unary cst_7 v42 (broadcastInDim S4096x100000 ![] bcast_S_S4096x100000 : (⟨S_, .f32⟩ : BufTy).Contents (Elt F) → (⟨S4096x100000, .f32⟩ : BufTy).Contents (Elt F)),
    TRef.binary v41 v42 v43 (mulf : (⟨S4096x100000, .f32⟩ : BufTy).Contents (Elt F) → (⟨S4096x100000, .f32⟩ : BufTy).Contents (Elt F) → (⟨S4096x100000, .f32⟩ : BufTy).Contents (Elt F)),
    TRef.nullary cst_8 (constant S_ .f32 0x00800000#32),
    TRef.unary cst_8 v44 (broadcastInDim S4096x100000 ![] bcast_S_S4096x100000 : (⟨S_, .f32⟩ : BufTy).Contents (Elt F) → (⟨S4096x100000, .f32⟩ : BufTy).Contents (Elt F)),
    TRef.binary v43 v44 v45 (addf : (⟨S4096x100000, .f32⟩ : BufTy).Contents (Elt F) → (⟨S4096x100000, .f32⟩ : BufTy).Contents (Elt F) → (⟨S4096x100000, .f32⟩ : BufTy).Contents (Elt F)),
    TRef.nullary cst_9 (constant S_ .f32 0x00800000#32),
    TRef.unary cst_9 v46 (broadcastInDim S4096x100000 ![] bcast_S_S4096x100000 : (⟨S_, .f32⟩ : BufTy).Contents (Elt F) → (⟨S4096x100000, .f32⟩ : BufTy).Contents (Elt F)),
    TRef.binary v46 v45 v47 (maximumf : (⟨S4096x100000, .f32⟩ : BufTy).Contents (Elt F) → (⟨S4096x100000, .f32⟩ : BufTy).Contents (Elt F) → (⟨S4096x100000, .f32⟩ : BufTy).Contents (Elt F)) ]

abbrev line8 : List (HloOp τ sig (Elt F)) :=
  [ TRef.unary v47 v48 (Host.log : (⟨S4096x100000, .f32⟩ : BufTy).Contents (Elt F) → (⟨S4096x100000, .f32⟩ : BufTy).Contents (Elt F)),
    TRef.unary v48 v49 (Host.negf : (⟨S4096x100000, .f32⟩ : BufTy).Contents (Elt F) → (⟨S4096x100000, .f32⟩ : BufTy).Contents (Elt F)),
    TRef.unary v49 v50 (Host.log : (⟨S4096x100000, .f32⟩ : BufTy).Contents (Elt F) → (⟨S4096x100000, .f32⟩ : BufTy).Contents (Elt F)),
    TRef.unary v50 v51 (Host.negf : (⟨S4096x100000, .f32⟩ : BufTy).Contents (Elt F) → (⟨S4096x100000, .f32⟩ : BufTy).Contents (Elt F)),
    TRef.binary v51 v9 v52 (addf : (⟨S4096x100000, .f32⟩ : BufTy).Contents (Elt F) → (⟨S4096x100000, .f32⟩ : BufTy).Contents (Elt F) → (⟨S4096x100000, .f32⟩ : BufTy).Contents (Elt F)),
    TRef.nullary call3_v0 (iotaInDim S4096x100000 32 1),
    TRef.nullary call3_cst (constant S_ .f32 0xFF800000#32),
    TRef.nullary call3_c (constantI S_ 32 0#32),
    TRef.quaternary v52 call3_v0 call3_cst call3_c call3_v1_0 (fun x y u v j => (Host.argReduce reducer_argmax_f32_i32 x y u v reducesTo_S4096x100000_S4096_d1 h_S_ j).1),
    TRef.quaternary v52 call3_v0 call3_cst call3_c v53 (fun x y u v j => (Host.argReduce reducer_argmax_f32_i32 x y u v reducesTo_S4096x100000_S4096_d1 h_S_ j).2),
    TRef.unary v53 v54 (broadcastInDim S4096x1 ![0] bcast_S4096_S4096x1_0 : (⟨S4096, .i32⟩ : BufTy).Contents (Elt F) → (⟨S4096x1, .i32⟩ : BufTy).Contents (Elt F)),
    TRef.nullary call4_c (constantI S_ 32 0#32),
    TRef.unary call4_c call4_v0 (broadcastInDim S4096x1 ![] bcast_S_S4096x1),
    TRef.binary v54 call4_v0 call4_v1 (cmpi .slt),
    TRef.nullary call4_c_0 (constantI S_ 32 100000#32),
    TRef.unary call4_c_0 call4_v2 (broadcastInDim S4096x1 ![] bcast_S_S4096x1),
    TRef.binary v54 call4_v2 call4_v3 addi,
    TRef.ternary call4_v1 call4_v3 v54 call4_v4 select,
    TRef.reshape call4_v4 call4_v5 (rfl : (.i32 : EltTy) = .i32) shapeCasts_S4096x1_S4096x1x1,
    TRef.nullary call4_c_1 (constantI S1 32 99999#32),
    TRef.nullary call4_c_2 (constantI S_ 32 0#32),
    TRef.unary call4_c_2 call4_v6 (broadcastInDim S4096x1x1 ![] bcast_S_S4096x1x1),
    TRef.binary call4_v5 call4_v6 call4_v7 (cmpi .sge),
    TRef.unary call4_c_1 call4_v8 (broadcastInDim S1x1x1 ![2] bcast_S1_S1x1x1_2),
    TRef.unary call4_v8 call4_v9 (broadcastInDim S4096x1x1 ![0, 1, 2] bcast_S1x1x1_S4096x1x1_0_1_2),
    TRef.binary call4_v5 call4_v9 call4_v10 (cmpi .sle),
    TRef.binary call4_v7 call4_v10 call4_v11 andi,
    TRef.nullary call4_c_3 (constantI S_ 1 1#1),
    TRef.binary call4_v11 call4_c_3 call4_v12 (fun x v => Host.reduce IntOp.andi x v reducesTo_S4096x1x1_S4096x1_d2 h_S_),
    TRef.binary v10 call4_v5 call4_v13 (fun x i => Host.gather gather_S4096x100000_S4096x1x1_S4096x1_n_1_0_0_1_2_11 x i),
    TRef.nullary call4_cst (constant S_ .f32 0x7FC00000#32),
    TRef.unary call4_cst call4_v14 (broadcastInDim S4096x1 ![] bcast_S_S4096x1),
    TRef.ternary call4_v12 call4_v13 call4_v14 v55 select,
    TRef.reshape v55 v56 (rfl : (.f32 : EltTy) = .f32) shapeCasts_S4096x1_S4096,
    TRef.unary v10 v57 (Host.exp : (⟨S4096x100000, .f32⟩ : BufTy).Contents (Elt F) → (⟨S4096x100000, .f32⟩ : BufTy).Contents (Elt F)),
    TRef.binary v57 v10 v58 (mulf : (⟨S4096x100000, .f32⟩ : BufTy).Contents (Elt F) → (⟨S4096x100000, .f32⟩ : BufTy).Contents (Elt F) → (⟨S4096x100000, .f32⟩ : BufTy).Contents (Elt F)),
    TRef.nullary cst_10 (constant S_ .f32 0x00000000#32),
    TRef.binary v58 cst_10 v59 ((fun x v => Host.reduceAdd x v reducesTo_S4096x100000_S4096_d1 h_S_) : (⟨S4096x100000, .f32⟩ : BufTy).Contents (Elt F) → (⟨S_, .f32⟩ : BufTy).Contents (Elt F) → (⟨S4096, .f32⟩ : BufTy).Contents (Elt F)),
    TRef.unary v59 v60 (Host.negf : (⟨S4096, .f32⟩ : BufTy).Contents (Elt F) → (⟨S4096, .f32⟩ : BufTy).Contents (Elt F)),
    TRef.nullary call5_v0 (iotaInDim S4096x100000 32 1) ]

abbrev line9 : List (HloOp τ sig (Elt F)) :=
  [ TRef.nullary call5_cst (constant S_ .f32 0xFF800000#32),
    TRef.nullary call5_c (constantI S_ 32 0#32),
    TRef.quaternary v9 call5_v0 call5_cst call5_c call5_v1_0 (fun x y u v j => (Host.argReduce reducer_argmax_f32_i32 x y u v reducesTo_S4096x100000_S4096_d1 h_S_ j).1),
    TRef.quaternary v9 call5_v0 call5_cst call5_c v61 (fun x y u v j => (Host.argReduce reducer_argmax_f32_i32 x y u v reducesTo_S4096x100000_S4096_d1 h_S_ j).2) ]

/-- The operations of window 0 of @main. -/
def window0 : List (HloOp τ sig (Elt F)) :=
  line0 ++ (line1 ++ (line2 ++ (line3 ++ (line4 ++ (line5 ++ (line6 ++ (line7)))))))

/-- The operations of window 1 of @main. -/
def window1 : List (HloOp τ sig (Elt F)) :=
  line8 ++ (line9)

/-- @main's operations, in order. -/
def ops : List (HloOp τ sig (Elt F)) := window0 ++ window1

set_option maxHeartbeats 8000000 in
theorem window0_eq (c : Dev nD) : main_part0 (F := F) c = seq window0 := rfl

theorem window1_eq (c : Dev nD) : main_part1 (F := F) c = seq window1 := rfl

theorem main_eq (c : Dev nD) : main (F := F) c = seq ops := by
  rw [ops, seq_append, ← window0_eq c, ← window1_eq c]
  rfl

/-- What `x`'s buffer holds after the whole line, at its value's type. -/
def val {T : BufTy} (V : Valuation τ sig (Elt F)) (x : TRef sig T) : T.Contents (Elt F) :=
  x.ofBuf (after ops V (Proc.devRef .tc x.ref))

/-- A buffer's number. -/
def num (r : Ref sig .tc) : Nat := r.idx.val

/-- The numbers of the buffers the operations write, in order. -/
theorem writes_num : ∃ W : List (Ref sig .tc),
    (ops (F := F)).map HloOp.writes = W.map (fun r => {Proc.devRef (τ := τ) .tc r}) ∧ W.map num = List.range' 6 341 :=
  ⟨[main_v0, main_v1, main_v2, main_v3, main_v4, main_call0_cst, main_call0_v0, main_v5, main_v6, main_v7, main_v8, main_v9, main_call1_cst, main_call1_v0, main_call1_cst_0, main_call1_v1, main_call1_v2, main_call1_v3, main_call1_v4, main_call1_v5, main_call1_v6, main_call1_cst_1, main_call1_v7, main_call1_v8, main_call1_v9, main_call1_v10, main_v10, main_c, main_c_0, main_v11, main_v12, main_v13, main_c_1, main_v14, main_v15, main_v16, main_v17, main_v18, main_v19, main_v20, main_v21, main_v22, main_v23, main_c_2, main_v24, main_v25, main_c_3, main_v26, main_v27, main_v28, main_c_4, main_v29, main_v30, main_v31, main_v32, main_call2_v0, main_call2_c, main_call2_v1, main_call2_v2, main_call2_v3, main_call2_v4, main_call2_v5, main_call2_v6, main_call2_c_0, main_call2_v7, main_call2_v8, main_call2_c_1, main_call2_v9, main_call2_v10, main_call2_v11, main_call2_v12, main_call2_v13, main_call2_c_2, main_call2_v14, main_call2_v15, main_call2_c_3, main_call2_v16, main_call2_v17, main_call2_v18, main_call2_v19, main_call2_v20, main_call2_c_4, main_call2_v21, main_call2_v22, main_call2_c_5, main_call2_v23, main_call2_v24, main_call2_v25, main_call2_v26, main_call2_v27, main_call2_c_6, main_call2_v28, main_call2_v29, main_call2_c_7, main_call2_v30, main_call2_v31, main_call2_v32, main_call2_v33, main_call2_v34, main_call2_v35, main_call2_v36, main_call2_v37, main_call2_c_8, main_call2_v38, main_call2_v39, main_call2_v40, main_call2_c_9, main_call2_v41, main_call2_v42, main_call2_c_10, main_call2_v43, main_call2_v44, main_call2_v45, main_call2_v46, main_call2_v47, main_call2_c_11, main_call2_v48, main_call2_v49, main_call2_c_12, main_call2_v50, main_call2_v51, main_call2_v52, main_call2_v53, main_call2_v54, main_call2_c_13, main_call2_v55, main_call2_v56, main_call2_c_14, main_call2_v57, main_call2_v58, main_call2_v59, main_call2_v60, main_call2_v61, main_call2_c_15, main_call2_v62, main_call2_v63, main_call2_c_16, main_call2_v64, main_call2_v65, main_call2_v66, main_call2_v67, main_call2_v68, main_call2_v69, main_call2_v70, main_call2_v71, main_call2_c_17, main_call2_v72, main_call2_v73, main_call2_v74, main_call2_c_18, main_call2_v75, main_call2_v76, main_call2_c_19, main_call2_v77, main_call2_v78, main_call2_v79, main_call2_v80, main_call2_v81, main_call2_c_20, main_call2_v82, main_call2_v83, main_call2_c_21, main_call2_v84, main_call2_v85, main_call2_v86, main_call2_v87, main_call2_v88, main_call2_c_22, main_call2_v89, main_call2_v90, main_call2_c_23, main_call2_v91, main_call2_v92, main_call2_v93, main_call2_v94, main_call2_v95, main_call2_c_24, main_call2_v96, main_call2_v97, main_call2_c_25, main_call2_v98, main_call2_v99, main_call2_v100, main_call2_v101, main_call2_v102, main_call2_v103, main_call2_v104, main_call2_v105, main_call2_c_26, main_call2_v106, main_call2_v107, main_call2_v108, main_call2_c_27, main_call2_v109, main_call2_v110, main_call2_c_28, main_call2_v111, main_call2_v112, main_call2_v113, main_call2_v114, main_call2_v115, main_call2_c_29, main_call2_v116, main_call2_v117, main_call2_c_30, main_call2_v118, main_call2_v119, main_call2_v120, main_call2_v121, main_call2_v122, main_call2_c_31, main_call2_v123, main_call2_v124, main_call2_c_32, main_call2_v125, main_call2_v126, main_call2_v127, main_call2_v128, main_call2_v129, main_call2_c_33, main_call2_v130, main_call2_v131, main_call2_c_34, main_call2_v132, main_call2_v133, main_call2_v134, main_call2_v135, main_call2_v136, main_call2_v137, main_call2_v138, main_call2_v139, main_call2_c_35, main_call2_v140, main_call2_v141, main_call2_v142, main_call2_c_36, main_call2_v143, main_call2_v144, main_call2_c_37, main_call2_v145, main_call2_v146, main_call2_v147, main_call2_v148, main_call2_v149, main_call2_c_38, main_call2_v150, main_call2_v151, main_call2_c_39, main_call2_v152, main_call2_v153, main_call2_v154, main_call2_v155, main_call2_v156, main_call2_c_40, main_call2_v157, main_call2_v158, main_call2_c_41, main_call2_v159, main_call2_v160, main_call2_v161, main_call2_v162, main_call2_v163, main_call2_c_42, main_call2_v164, main_call2_v165, main_call2_c_43, main_call2_v166, main_call2_v167, main_call2_v168, main_call2_v169, main_call2_v170, main_v33_0, main_call2_v172, main_call2_v173, main_call2_c_44, main_call2_v174, main_v33_1, main_v34, main_c_5, main_v35, main_v36, main_c_6, main_v37, main_v38, main_v39, main_cst, main_v40, main_v41, main_cst_7, main_v42, main_v43, main_cst_8, main_v44, main_v45, main_cst_9, main_v46, main_v47, main_v48, main_v49, main_v50, main_v51, main_v52, main_call3_v0, main_call3_cst, main_call3_c, main_call3_v1_0, main_v53, main_v54, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v55, main_v56, main_v57, main_v58, main_cst_10, main_v59, main_v60, main_call5_v0, main_call5_cst, main_call5_c, main_call5_v1_0, main_v61], rfl, by decide +kernel⟩

section Generic
variable {Val : EltTy → Type}

/-- A line's tail keeps every buffer whose number is below those the tail writes. -/
theorem tail_keeps {ops : List (HloOp τ sig Val)} {n : Nat}
    (hw : ∃ W : List (Ref sig .tc), ops.map HloOp.writes = W.map (fun r => {Proc.devRef (τ := τ) .tc r}) ∧ W.map num = List.range' 6 n)
    (k : Nat) (V : Valuation τ sig Val) (r : Ref sig .tc) (hr : num r < k + 6) :
    after (ops.drop k) V (Proc.devRef .tc r) = V (Proc.devRef .tc r) := by
  obtain ⟨W, hW, hn⟩ := hw
  refine after_of_writes_sub (W := W.drop k) _ V (forall_writes_sub_of_map ?_) fun hm => ?_
  · rw [List.map_drop, hW, List.map_drop]
  · have h1 : num r ∈ (W.map num).drop k := by
      rw [← List.map_drop]; exact List.mem_map_of_mem hm
    rw [hn, List.drop_range', List.mem_range'] at h1
    obtain ⟨i, -, hi⟩ := h1
    omega

/-- The line cut at an operation: what comes before it, the operation, what comes after. -/
theorem cut_at {ops : List (HloOp τ sig Val)} {k : Nat} {op : HloOp τ sig Val} (h : ops[k]? = some op) :
    ops = ops.take k ++ op :: ops.drop (k + 1) := by
  obtain ⟨hk, rfl⟩ := List.getElem?_eq_some_iff.mp h
  rw [← List.drop_eq_getElem_cons hk, List.take_append_drop]

theorem after_result {ops : List (HloOp τ sig Val)} {n : Nat}
    (hw : ∃ W : List (Ref sig .tc), ops.map HloOp.writes = W.map (fun r => {Proc.devRef (τ := τ) .tc r}) ∧ W.map num = List.range' 6 n)
    {k : Nat} {op : HloOp τ sig Val} (h : ops[k]? = some op) (V : Valuation τ sig Val) (y : Ref sig .tc) (hy : num y = k + 6) :
    after ops V (Proc.devRef .tc y) = op.result (after (ops.take k) V) (Proc.devRef .tc y) := by
  conv_lhs => rw [cut_at h, StableHlo.after_append, after_cons]
  exact tail_keeps hw (k + 1) _ y (by omega)

theorem after_operand {ops : List (HloOp τ sig Val)} {n : Nat}
    (hw : ∃ W : List (Ref sig .tc), ops.map HloOp.writes = W.map (fun r => {Proc.devRef (τ := τ) .tc r}) ∧ W.map num = List.range' 6 n)
    (k : Nat) (V : Valuation τ sig Val) (x : Ref sig .tc) (hx : num x < k + 6) :
    after (ops.take k) V (Proc.devRef .tc x) = after ops V (Proc.devRef .tc x) := by
  conv_rhs => rw [← List.take_append_drop k ops, StableHlo.after_append]
  exact (tail_keeps hw k _ x hx).symm

end Generic

/-- A buffer's value through a cast to its own type and back. -/
theorem ofBuf_toBuf {Val : EltTy → Type} {T : BufTy} (x : TRef sig T) (v : T.Contents Val) : x.ofBuf (x.toBuf v) = v := by
  obtain ⟨r, rfl, _, _⟩ := x; rfl

/-- An argument's buffer holds at the end what it held at the start. -/
theorem val_arg {T : BufTy} (V : Valuation τ sig (Elt F)) (x : TRef sig T) (hx : num x.ref < 6) :
    val V x = x.ofBuf (V (Proc.devRef .tc x.ref)) :=
  congrArg x.ofBuf (tail_keeps (ops := ops) writes_num 0 V x.ref (by omega))

theorem at_nullary {Ty : BufTy} {y : TRef sig Ty} {v : Ty.Contents (Elt F)} (V : Valuation τ sig (Elt F)) (k : Nat)
    (h : (ops (F := F))[k]? = some (TRef.nullary y v)) (hy : num y.ref = k + 6) : val V y = v := by
  rw [val, after_result writes_num h V _ hy, nullary_result', ofBuf_toBuf]

theorem at_unary {Tx Ty : BufTy} {x : TRef sig Tx} {y : TRef sig Ty} {f : Tx.Contents (Elt F) → Ty.Contents (Elt F)}
    (V : Valuation τ sig (Elt F)) (k : Nat) (h : (ops (F := F))[k]? = some (TRef.unary x y f)) (hy : num y.ref = k + 6)
    (hx : num x.ref < k + 6) : val V y = f (val V x) := by
  rw [val, after_result writes_num h V _ hy, unary_result', after_operand writes_num k V _ hx, ofBuf_toBuf, val]

theorem at_binary {Ta Tb Ty : BufTy} {a : TRef sig Ta} {b : TRef sig Tb} {y : TRef sig Ty}
    {f : Ta.Contents (Elt F) → Tb.Contents (Elt F) → Ty.Contents (Elt F)} (V : Valuation τ sig (Elt F)) (k : Nat)
    (h : (ops (F := F))[k]? = some (TRef.binary a b y f)) (hy : num y.ref = k + 6)
    (ha : num a.ref < k + 6) (hb : num b.ref < k + 6) : val V y = f (val V a) (val V b) := by
  rw [val, after_result writes_num h V _ hy, binary_result', after_operand writes_num k V _ ha,
    after_operand writes_num k V _ hb, ofBuf_toBuf, val, val]

theorem at_ternary {Tc Ta Tb Ty : BufTy} {c : TRef sig Tc} {a : TRef sig Ta} {b : TRef sig Tb} {y : TRef sig Ty}
    {f : Tc.Contents (Elt F) → Ta.Contents (Elt F) → Tb.Contents (Elt F) → Ty.Contents (Elt F)}
    (V : Valuation τ sig (Elt F)) (k : Nat) (h : (ops (F := F))[k]? = some (TRef.ternary c a b y f))
    (hy : num y.ref = k + 6) (hc : num c.ref < k + 6) (ha : num a.ref < k + 6) (hb : num b.ref < k + 6) :
    val V y = f (val V c) (val V a) (val V b) := by
  rw [val, after_result writes_num h V _ hy, ternary_result', after_operand writes_num k V _ hc,
    after_operand writes_num k V _ ha, after_operand writes_num k V _ hb, ofBuf_toBuf, val, val, val]

theorem at_quaternary {Ta Tb Tc Te Ty : BufTy} {a : TRef sig Ta} {b : TRef sig Tb} {c : TRef sig Tc} {e : TRef sig Te}
    {y : TRef sig Ty} {f : Ta.Contents (Elt F) → Tb.Contents (Elt F) → Tc.Contents (Elt F) → Te.Contents (Elt F) → Ty.Contents (Elt F)}
    (V : Valuation τ sig (Elt F)) (k : Nat) (h : (ops (F := F))[k]? = some (TRef.quaternary a b c e y f))
    (hy : num y.ref = k + 6) (ha : num a.ref < k + 6) (hb : num b.ref < k + 6) (hc : num c.ref < k + 6) (he : num e.ref < k + 6) :
    val V y = f (val V a) (val V b) (val V c) (val V e) := by
  rw [val, after_result writes_num h V _ hy, quaternary_result', after_operand writes_num k V _ ha,
    after_operand writes_num k V _ hb, after_operand writes_num k V _ hc, after_operand writes_num k V _ he,
    ofBuf_toBuf, val, val, val, val]

theorem at_reshape {Tx Ty : BufTy} {x : TRef sig Tx} {y : TRef sig Ty} {he : Tx.elt = Ty.elt} {hn : Tx.shape.ShapeCasts Ty.shape}
    (V : Valuation τ sig (Elt F)) (k : Nat) (h : (ops (F := F))[k]? = some (TRef.reshape x y he hn)) (hy : num y.ref = k + 6)
    (hx : num x.ref < k + 6) : val V y = fun i => he ▸ shapeCast Ty.shape (val V x) hn i := by
  rw [val, after_result writes_num h V _ hy, reshape_result', after_operand writes_num k V _ hx, val]
  obtain ⟨rx, rfl, _, _⟩ := x
  obtain ⟨ry, rfl, _, _⟩ := y
  rfl

theorem line0_sub : (line0 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., unary_bufs_sub .., reshape_bufs_sub .., unary_bufs_sub ..⟩
theorem line1_sub : (line1 : List (HloOp τ sig (Elt F))).Forall fun op => op.bufs ⊆ tcRefs τ sig :=
  ⟨reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem line2_sub : (line2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
theorem line3_sub : (line3 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
theorem line4_sub : (line4 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem line5_sub : (line5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
theorem line6_sub : (line6 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
theorem line7_sub : (line7 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem line8_sub : (line8 : List (HloOp τ sig (Elt F))).Forall fun op => op.bufs ⊆ tcRefs τ sig :=
  ⟨unary_bufs_sub .., unary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., unary_bufs_sub .., nullary_bufs_sub ..⟩
theorem line9_sub : (line9 : List (HloOp τ sig (Elt F))).Forall fun op => op.bufs ⊆ tcRefs τ sig :=
  ⟨nullary_bufs_sub .., nullary_bufs_sub .., quaternary_bufs_sub .., quaternary_bufs_sub ..⟩

theorem ops_sub : (ops : List (HloOp τ sig (Elt F))).Forall fun op => op.bufs ⊆ tcRefs τ sig :=
  List.forall_iff_forall_mem.mpr fun op h => by
    simp only [ops, window0, window1, List.mem_append, or_assoc] at h
    rcases h with h | h | h | h | h | h | h | h | h | h
    exacts [List.forall_iff_forall_mem.mp line0_sub op h, List.forall_iff_forall_mem.mp line1_sub op h, List.forall_iff_forall_mem.mp line2_sub op h, List.forall_iff_forall_mem.mp line3_sub op h, List.forall_iff_forall_mem.mp line4_sub op h, List.forall_iff_forall_mem.mp line5_sub op h, List.forall_iff_forall_mem.mp line6_sub op h, List.forall_iff_forall_mem.mp line7_sub op h, List.forall_iff_forall_mem.mp line8_sub op h, List.forall_iff_forall_mem.mp line9_sub op h]

theorem ops_fresh : ∀ op ∈ (ops : List (HloOp τ sig (Elt F))), op.fresh = ∅ :=
  List.forall_iff_forall_mem.mp (forall_fresh_of_map rfl)

theorem no_scoped_refs : (Finset.univ.filter fun b : Ref sig .tc => b.isScoped) = ∅ := by decide
theorem no_scoped_sems : (Finset.univ.filter fun sm : SemLoc sig => sm.isScoped .tc) = ∅ := by decide

/-- Every weakly fair execution ends with each buffer at what the line leaves there. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq no_scoped_refs no_scoped_sems defs main (fun _ => ops) main_eq (fun _ => ops_sub) m ρ fun _ => ops_fresh

end Cert.ReferenceIdeal.Line

end
-- ==== Proof.RefFrame.lean ====
/- The reference's run at any float interpretation: it ends with its arguments unchanged and every counter at zero. -/
module

public import proofs.«01_k».proof.Proof.RefLine
public import Idealize.ShloMosaic.Lib.Claim

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- An argument buffer ends as it started. -/
theorem arg_keeps {T : BufTy} (V : Valuation τ sig (Elt F)) (x : TRef sig T) (hx : num x.ref < 6) :
    after ops V (Proc.devRef .tc x.ref) = V (Proc.devRef .tc x.ref) :=
  tail_keeps (ops := ops) writes_num 0 V x.ref (by omega)

/-- The reference ends with its arguments unchanged and every counter at zero. -/
theorem quiescent (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 := by
  refine (θ_run (defs (F := F)) _ _).mono (fun r h => ⟨fun c => ?_, sem_eq_zero_of_no_sems (by decide) r.2⟩) (run m ρ)
  have k : ∀ {T : BufTy} (x : TRef sig T), num x.ref < 6 → r.2.mem ((c.tc : Thread nD τ).loc x.ref) = m ((c.tc : Thread nD τ).loc x.ref) :=
    fun x hx => (h c x.ref).trans (arg_keeps _ x hx)
  exact ⟨k arg0 (by decide), k arg1 (by decide), k arg2 (by decide), k arg3 (by decide), k arg4 (by decide), k arg5 (by decide)⟩

end Cert.ReferenceIdeal.Line

end
-- ==== Proof.KernelIdealTrack.lean ====
module

public import proofs.«01_k».proof.Proof.KernelIdealCases

/-! The run of the program, the results told: given what holds of the scratch after each grid point (`Track`), the four
    result blocks of every row block. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of the second weight matrix at a grid point as its buffer holds it: past the matrix's end, anything. -/
abbrev wblk (c : Dev nD) (t : Fin cfg0.N) (d : Vec F S512x512 .f32) : Vec F S512x512 .f32 :=
  win0_3.fill (grid0.coords t) d (iblk m c 3 t)

/-- What holds of the scratch after each grid point, and the result blocks that follow. -/
structure Track (c : Dev nD) where
  holdsAt : ℕ → St F → Prop
  act : Fin cfg0.N → Vec F S2048x1 .i32
  lp : Fin cfg0.N → Vec F S2048x1 .f32
  ent : Fin cfg0.N → Vec F S2048x1 .f32
  bv : Fin cfg0.N → Vec F S2048x1 .i32
  first : ∀ t : Fin cfg0.N, t.val % 196 = 0 → ∀ d,
    holdsAt (t.val + 1) (step (grid0.coords t) (wblk m c t d) (start (grid0.coords t) (iblk m c 0 t) (iblk m c 1 t) (iblk m c 2 t)))
  next : ∀ t : Fin cfg0.N, ¬ t.val % 196 = 0 → ∀ d σ, (t.val ≠ 0 → holdsAt t.val σ) →
    holdsAt (t.val + 1) (step (grid0.coords t) (wblk m c t d) σ)
  last : ∀ t : Fin cfg0.N, t.val % 196 = 195 → ∀ σ, holdsAt (t.val + 1) σ →
    outAction σ = act t ∧ outLogProb (grid0.coords t) σ = lp t ∧ outEntropy σ = ent t ∧ outBest σ = bv t

/-- An output's buffer is left alone but at the last column block, and written back there. -/
theorem idle4 (t : Fin cfg0.N) (h : ¬ t.val % 196 = 195) : cfg0.idle 4 (cfg0.grid.coords t) = true := by
  show (!(k0_cond2 (grid0.coords t) == 1#1)) = true
  rw [Bool.not_eq_true', beq_eq_false_iff_ne]; exact fun e => h ((last_iff t).mp e)
theorem live4 (t : Fin cfg0.N) (h : t.val % 196 = 195) : cfg0.idle 4 (cfg0.grid.coords t) = false := by
  show (!(k0_cond2 (grid0.coords t) == 1#1)) = false
  rw [(last_iff t).mpr h]; rfl
theorem noFlush4 (t : Fin cfg0.N) (h : ¬ t.val % 196 = 195) : (cfg0.win 4).flush t = false :=
  Bool.eq_false_iff.mpr fun e => h ((flush0_4 t).mp e)
theorem idle5 (t : Fin cfg0.N) (h : ¬ t.val % 196 = 195) : cfg0.idle 5 (cfg0.grid.coords t) = true := by
  show (!(k0_cond2 (grid0.coords t) == 1#1)) = true
  rw [Bool.not_eq_true', beq_eq_false_iff_ne]; exact fun e => h ((last_iff t).mp e)
theorem live5 (t : Fin cfg0.N) (h : t.val % 196 = 195) : cfg0.idle 5 (cfg0.grid.coords t) = false := by
  show (!(k0_cond2 (grid0.coords t) == 1#1)) = false
  rw [(last_iff t).mpr h]; rfl
theorem noFlush5 (t : Fin cfg0.N) (h : ¬ t.val % 196 = 195) : (cfg0.win 5).flush t = false :=
  Bool.eq_false_iff.mpr fun e => h ((flush0_5 t).mp e)
theorem idle6 (t : Fin cfg0.N) (h : ¬ t.val % 196 = 195) : cfg0.idle 6 (cfg0.grid.coords t) = true := by
  show (!(k0_cond2 (grid0.coords t) == 1#1)) = true
  rw [Bool.not_eq_true', beq_eq_false_iff_ne]; exact fun e => h ((last_iff t).mp e)
theorem live6 (t : Fin cfg0.N) (h : t.val % 196 = 195) : cfg0.idle 6 (cfg0.grid.coords t) = false := by
  show (!(k0_cond2 (grid0.coords t) == 1#1)) = false
  rw [(last_iff t).mpr h]; rfl
theorem noFlush6 (t : Fin cfg0.N) (h : ¬ t.val % 196 = 195) : (cfg0.win 6).flush t = false :=
  Bool.eq_false_iff.mpr fun e => h ((flush0_6 t).mp e)
theorem idle7 (t : Fin cfg0.N) (h : ¬ t.val % 196 = 195) : cfg0.idle 7 (cfg0.grid.coords t) = true := by
  show (!(k0_cond2 (grid0.coords t) == 1#1)) = true
  rw [Bool.not_eq_true', beq_eq_false_iff_ne]; exact fun e => h ((last_iff t).mp e)
theorem live7 (t : Fin cfg0.N) (h : t.val % 196 = 195) : cfg0.idle 7 (cfg0.grid.coords t) = false := by
  show (!(k0_cond2 (grid0.coords t) == 1#1)) = false
  rw [(last_iff t).mpr h]; rfl
theorem noFlush7 (t : Fin cfg0.N) (h : ¬ t.val % 196 = 195) : (cfg0.win 7).flush t = false :=
  Bool.eq_false_iff.mpr fun e => h ((flush0_7 t).mp e)

namespace Track

variable {m} {c : Dev nD} (T : Track m c)

/-- The arrays as the kernel finds them, the inputs' blocks left in place, the outputs' blocks, the scratch. -/
def dat : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => wblk m c t (fun _ => FloatOps.ofBits .f32 0x00000000#32)
    | 4 => T.act t
    | 5 => T.lp t
    | 6 => T.ent t
    | 7 => T.bv t
    | ⟨_ + 8, h⟩ => absurd h (Nat.not_lt.2 (Nat.le_add_left _ _))
  Φ i := iprop((∃ σ : St F, ⌜i.val ≠ 0 → T.holdsAt i.val σ⌝ ∗ holds c σ) ∗ (∃ r, prngReg c r))
  q _ := fullShare
  owed _ := 0

theorem dat_A (w : Fin cfg0.W) : T.dat.A w = V m c (Pipeline.arrRef spec0 w) := by dsimp only [dat]
theorem after0 (t : Fin cfg0.N) : T.dat.after 0 t = iblk m c 0 t := by dsimp only [dat]
theorem after1 (t : Fin cfg0.N) : T.dat.after 1 t = iblk m c 1 t := by dsimp only [dat]
theorem after2 (t : Fin cfg0.N) : T.dat.after 2 t = iblk m c 2 t := by dsimp only [dat]
theorem after3 (t : Fin cfg0.N) : T.dat.after 3 t = wblk m c t (fun _ => FloatOps.ofBits .f32 0x00000000#32) := by dsimp only [dat]
theorem after4 (t : Fin cfg0.N) : T.dat.after 4 t = T.act t := by dsimp only [dat]
theorem after5 (t : Fin cfg0.N) : T.dat.after 5 t = T.lp t := by dsimp only [dat]
theorem after6 (t : Fin cfg0.N) : T.dat.after 6 t = T.ent t := by dsimp only [dat]
theorem after7 (t : Fin cfg0.N) : T.dat.after 7 t = T.bv t := by dsimp only [dat]
theorem before0 (t : Fin cfg0.N) (d) : T.dat.before 0 t d = iblk m c 0 t := before0_0_of m T.dat (T.dat_A 0) (T.after0) t d
theorem before1 (t : Fin cfg0.N) (d) : T.dat.before 1 t d = iblk m c 1 t := before0_1_of m T.dat (T.dat_A 1) (T.after1) t d
theorem before2 (t : Fin cfg0.N) (d) : T.dat.before 2 t d = iblk m c 2 t := before0_2_of m T.dat (T.dat_A 2) (T.after2) t d
theorem before3 (t : Fin cfg0.N) (d) : T.dat.before 3 t d = wblk m c t d := by
  unfold Dat.before; rw [if_pos (fetch0_3 t)]; unfold Dat.fetched Dat.blockOf wblk iblk; rw [T.dat_A]
theorem leaves0 (t : Fin cfg0.N) : T.dat.leaves 0 t = owns (c : Thread nD τ) (stg0 t) fullShare (iblk m c 0 t) := by
  unfold Dat.leaves; rw [show cfg0.idle 0 (cfg0.grid.coords t) = false from rfl, show cfg0.loose 0 = false from rfl, T.after0]
theorem leaves1 (t : Fin cfg0.N) : T.dat.leaves 1 t = owns (c : Thread nD τ) (stg1 t) fullShare (iblk m c 1 t) := by
  unfold Dat.leaves; rw [show cfg0.idle 1 (cfg0.grid.coords t) = false from rfl, show cfg0.loose 1 = false from rfl, T.after1]
theorem leaves2 (t : Fin cfg0.N) : T.dat.leaves 2 t = owns (c : Thread nD τ) (stg2 t) fullShare (iblk m c 2 t) := by
  unfold Dat.leaves; rw [show cfg0.idle 2 (cfg0.grid.coords t) = false from rfl, show cfg0.loose 2 = false from rfl, T.after2]
theorem leaves3 (t : Fin cfg0.N) : T.dat.leaves 3 t = iprop(∃ d, owns (c : Thread nD τ) (stg3 t) fullShare (wblk m c t d)) := by
  unfold Dat.leaves; rw [show cfg0.idle 3 (cfg0.grid.coords t) = false from rfl, show cfg0.loose 3 = true from rfl, T.after3]
  simp only [wblk]
  rw [Window.cut_fill]
  rfl
theorem leaves4 (t : Fin cfg0.N) (h : t.val % 196 = 195) : T.dat.leaves 4 t = owns (c : Thread nD τ) (stg4 t) fullShare (T.act t) := by
  unfold Dat.leaves; rw [live4 t h, show cfg0.loose 4 = false from rfl, T.after4]
theorem leaves5 (t : Fin cfg0.N) (h : t.val % 196 = 195) : T.dat.leaves 5 t = owns (c : Thread nD τ) (stg5 t) fullShare (T.lp t) := by
  unfold Dat.leaves; rw [live5 t h, show cfg0.loose 5 = false from rfl, T.after5]
theorem leaves6 (t : Fin cfg0.N) (h : t.val % 196 = 195) : T.dat.leaves 6 t = owns (c : Thread nD τ) (stg6 t) fullShare (T.ent t) := by
  unfold Dat.leaves; rw [live6 t h, show cfg0.loose 6 = false from rfl, T.after6]
theorem leaves7 (t : Fin cfg0.N) (h : t.val % 196 = 195) : T.dat.leaves 7 t = owns (c : Thread nD τ) (stg7 t) fullShare (T.bv t) := by
  unfold Dat.leaves; rw [live7 t h, show cfg0.loose 7 = false from rfl, T.after7]

theorem kept_first (t : Fin cfg0.N) (h : t.val % 196 = 0) (d) (σ : St F) (_ : t.castSucc.val ≠ 0 → T.holdsAt t.castSucc.val σ) :
    t.succ.val ≠ 0 → T.holdsAt t.succ.val (step (grid0.coords t) (wblk m c t d) (start (grid0.coords t) (iblk m c 0 t) (iblk m c 1 t) (iblk m c 2 t))) :=
  fun _ => T.first t h d

theorem kept_next (t : Fin cfg0.N) (h : ¬ t.val % 196 = 0) (d) (σ : St F) (hσ : t.castSucc.val ≠ 0 → T.holdsAt t.castSucc.val σ) :
    t.succ.val ≠ 0 → T.holdsAt t.succ.val (step (grid0.coords t) (wblk m c t d) σ) :=
  fun _ => T.next t h d σ hσ

/-- The body at any point. -/
theorem body (t : Fin cfg0.N) :
    iprop(T.dat.Φ t.castSucc ∗ T.dat.owesAt () t.castSucc
        ∗ (∃ d, owns (c : Thread nD τ) (stg0 t) fullShare (T.dat.before 0 t d)) ∗ (∃ d, owns (c : Thread nD τ) (stg1 t) fullShare (T.dat.before 1 t d)) ∗ (∃ d, owns (c : Thread nD τ) (stg2 t) fullShare (T.dat.before 2 t d)) ∗ (∃ d, owns (c : Thread nD τ) (stg3 t) fullShare (T.dat.before 3 t d)) ∗ (∃ d, owns (c : Thread nD τ) (stg4 t) fullShare (T.dat.before 4 t d)) ∗ (∃ d, owns (c : Thread nD τ) (stg5 t) fullShare (T.dat.before 5 t d)) ∗ (∃ d, owns (c : Thread nD τ) (stg6 t) fullShare (T.dat.before 6 t d)) ∗ (∃ d, owns (c : Thread nD τ) (stg7 t) fullShare (T.dat.before 7 t d)))
      ⊢ wp frame (wpE (defs₀ (F := F)) Variants.none c none) Set.univ (bodyAt0 t) (fun _ =>
        iprop(T.dat.Φ t.succ ∗ T.dat.owesAt () t.castSucc
          ∗ T.dat.leaves 0 t ∗ T.dat.leaves 1 t ∗ T.dat.leaves 2 t ∗ T.dat.leaves 3 t ∗ T.dat.leaves 4 t ∗ T.dat.leaves 5 t ∗ T.dat.leaves 6 t ∗ T.dat.leaves 7 t)) := by
  unfold bodyAt0
  simp only [T.before0, T.before1, T.before2, T.before3]
  rw [T.leaves0, T.leaves1, T.leaves2, T.leaves3]
  rw [show T.dat.Φ t.castSucc = iprop((∃ σ : St F, ⌜t.castSucc.val ≠ 0 → T.holdsAt t.castSucc.val σ⌝ ∗ holds c σ) ∗ (∃ r, prngReg c r)) from rfl]
  rw [show T.dat.Φ t.succ = iprop((∃ σ : St F, ⌜t.succ.val ≠ 0 → T.holdsAt t.succ.val σ⌝ ∗ holds c σ) ∗ (∃ r, prngReg c r)) from rfl]
  iintro ⟨⟨⟨%σ, %hσ, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 196 = 0
  · have h1 : ¬ t.val % 196 = 195 := by omega
    rw [(T.dat).leaves_idle 4 t (idle4 t h1) (noFlush4 t h1), (T.dat).leaves_idle 5 t (idle5 t h1) (noFlush5 t h1), (T.dat).leaves_idle 6 t (idle6 t h1) (noFlush6 t h1), (T.dat).leaves_idle 7 t (idle7 t h1) (noFlush7 t h1)]
    iapply (run_first c (grid0.coords t) _ (stg0_whole t) _ (stg1_whole t) _ (stg2_whole t) _ (stg3_whole t) _ (stg4_whole t) _ (stg5_whole t) _ (stg6_whole t) _ (stg7_whole t) ((first_iff t).mpr h0) (fun h => h1 ((last_iff t).mp h)) (iblk m c 0 t) (iblk m c 1 t) (iblk m c 2 t) (wblk m c t d3) _ _ _ _ σ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexists _
        isplitr; swap; · iexact HS
        ipureintro; exact T.kept_first t h0 d3 σ hσ
      iexact Hg
    isplitl [Ho]; · iexact Ho
    isplitl [H0]; · iexact H0
    isplitl [H1]; · iexact H1
    isplitl [H2]; · iexact H2
    isplitl [H3]; · iexists d3; iexact H3
    isplitl [H4]; · iexists d4; iexact H4
    isplitl [H5]; · iexists d5; iexact H5
    isplitl [H6]; · iexists d6; iexact H6
    iexists d7; iexact H7
  · by_cases h1 : t.val % 196 = 195
    · skip
      rw [T.leaves4 t h1, T.leaves5 t h1, T.leaves6 t h1, T.leaves7 t h1]
      iapply (run_last c (grid0.coords t) _ (stg0_whole t) _ (stg1_whole t) _ (stg2_whole t) _ (stg3_whole t) _ (stg4_whole t) _ (stg5_whole t) _ (stg6_whole t) _ (stg7_whole t) (fun h => h0 ((first_iff t).mp h)) ((last_iff t).mpr h1) (iblk m c 0 t) (iblk m c 1 t) (iblk m c 2 t) (wblk m c t d3) _ _ _ _ σ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]
        · iexists _
          isplitr; swap; · iexact HS
          ipureintro; exact T.kept_next t h0 d3 σ hσ
        iexact Hg
      isplitl [Ho]; · iexact Ho
      isplitl [H0]; · iexact H0
      isplitl [H1]; · iexact H1
      isplitl [H2]; · iexact H2
      isplitl [H3]; · iexists d3; iexact H3
      obtain ⟨e4, e5, e6, e7⟩ := T.last t h1 _ (T.next t h0 d3 σ hσ)
      rw [← e4, ← e5, ← e6, ← e7]
      isplitl [H4]; · iexact H4
      isplitl [H5]; · iexact H5
      isplitl [H6]; · iexact H6
      iexact H7
    · skip
      rw [(T.dat).leaves_idle 4 t (idle4 t h1) (noFlush4 t h1), (T.dat).leaves_idle 5 t (idle5 t h1) (noFlush5 t h1), (T.dat).leaves_idle 6 t (idle6 t h1) (noFlush6 t h1), (T.dat).leaves_idle 7 t (idle7 t h1) (noFlush7 t h1)]
      iapply (run_mid c (grid0.coords t) _ (stg0_whole t) _ (stg1_whole t) _ (stg2_whole t) _ (stg3_whole t) _ (stg4_whole t) _ (stg5_whole t) _ (stg6_whole t) _ (stg7_whole t) (fun h => h0 ((first_iff t).mp h)) (fun h => h1 ((last_iff t).mp h)) (iblk m c 0 t) (iblk m c 1 t) (iblk m c 2 t) (wblk m c t d3) _ _ _ _ σ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]
        · iexists _
          isplitr; swap; · iexact HS
          ipureintro; exact T.kept_next t h0 d3 σ hσ
        iexact Hg
      isplitl [Ho]; · iexact Ho
      isplitl [H0]; · iexact H0
      isplitl [H1]; · iexact H1
      isplitl [H2]; · iexact H2
      isplitl [H3]; · iexists d3; iexact H3
      isplitl [H4]; · iexists d4; iexact H4
      isplitl [H5]; · iexists d5; iexact H5
      isplitl [H6]; · iexists d6; iexact H6
      iexists d7; iexact H7

theorem obligation : BodyObligationLoose T.dat (defs₀ (F := F)) Variants.none () Set.univ := fun t => by
  rw [bigSep_W0, bigSep_W0, row]
  exact triple_restated (T.body t) rfl .rfl fun _ => .rfl

theorem start_of : (Pipeline.ΦA spec0 c : sProp 𝕄) ⊢ T.dat.Φ 0 := by
  refine BIBase.Entails.trans (scratch_some c) ?_
  rw [show T.dat.Φ 0 = iprop((∃ σ : St F, ⌜(0 : Fin (cfg0.N + 1)).val ≠ 0 → T.holdsAt (0 : Fin (cfg0.N + 1)).val σ⌝ ∗ holds c σ) ∗ (∃ r, prngReg c r)) from rfl]
  iintro ⟨⟨%σ, HS⟩, Hg⟩
  isplitl [HS]
  · iexists σ
    isplitr; swap; · iexact HS
    ipureintro; exact fun h => absurd rfl h
  iexact Hg

theorem end_of : T.dat.Φ (Fin.last cfg0.N) ⊢ (Pipeline.ΦA spec0 c : sProp 𝕄) := by
  refine BIBase.Entails.trans ?_ (some_scratch c)
  rw [show T.dat.Φ (Fin.last cfg0.N) = iprop((∃ σ : St F, ⌜(Fin.last cfg0.N).val ≠ 0 → T.holdsAt (Fin.last cfg0.N).val σ⌝ ∗ holds c σ) ∗ (∃ r, prngReg c r)) from rfl]
  iintro ⟨⟨%σ, %hσ, HS⟩, Hg⟩
  isplitl [HS]
  · iexists σ; iexact HS
  iexact Hg

end Track

/-- The proof data of every device. -/
abbrev datsOf (T : (c : Dev nD) → Track m c) (_ : Fin 1) (c : Dev nD) : Dat τ (Elt F) Unit ℕ (UR sig nD τ) ℕ cfg0 c := (T c).dat

set_option backward.isDefEq.respectTransparency.types false in
set_option maxHeartbeats 800000 in
/-- The run: every array and buffer at the end, and every semaphore counter at zero. -/
theorem run_of (T : (c : Dev nD) → Track m c) : θ_run defs (onTc (τ := τ) (main (F := F))) (s₀ m ρ)
    (fun r => (Pipeline.FramePost cfgs (datsOf m T) 0 (Pipeline.afterTail₀ cfgs (datsOf m T) 0 (V0 m) [hostOps1])) r ∧ r.2.sem = fun _ => 0) :=
  Pipeline.θ_run_frame_around_track (Q' := _) cfgs (datsOf m T) (0 : Fin 1) launch0 defs₀ Variants.none m ρ main
    (hbody := fun c => (T c).obligation) (hshare := fun c => (T c).dat.share_full fun _ => rfl)
    (howed := fun _ _ => rfl) (V₀ := V0 m) (opss := [hostOps1]) (hsub := sfx_sub) (hfresh := sfx_fresh) (hkeep := sfx_keeps)
    (hmain := hmain m Variants.none) (hA := fun c w => (T c).dat_A w) (hin := fun c => (T c).start_of) (hout := fun c => (T c).end_of)

end Cert.KernelIdeal.Run

end
-- ==== Proof.Argmax.lean ====
/- The first place where a sequence is greatest, and how it is found lane by lane: the places are split by their
   remainder modulo 128, each lane keeps its own best place, and at the end the lanes are compared. -/
module

public import Idealize.ShloMosaic.PureOps.Ideal

@[expose] public section

noncomputable section

namespace Cert.Argmax

/-- `A` is the first place below `V` where `f` is greatest. -/
structure First (f : ℕ → EReal) (V A : ℕ) : Prop where
  lt : A < V
  le : ∀ m < V, f m ≤ f A
  first : ∀ m < A, f m < f A

theorem First.exists (f : ℕ → EReal) {V : ℕ} (hV : 0 < V) : ∃ A, First f V A := by
  classical
  have h : ∃ A, A < V ∧ ∀ m < V, f m ≤ f A := by
    obtain ⟨A, hA, h⟩ := Finset.exists_max_image (Finset.range V) f ⟨0, Finset.mem_range.2 hV⟩
    exact ⟨A, Finset.mem_range.1 hA, fun m hm => h m (Finset.mem_range.2 hm)⟩
  refine ⟨Nat.find h, (Nat.find_spec h).1, (Nat.find_spec h).2, fun m hm => ?_⟩
  have h1 := Nat.find_min h hm
  have h2 : m < V := lt_trans hm (Nat.find_spec h).1
  refine lt_of_le_of_ne ((Nat.find_spec h).2 m h2) fun e => h1 ⟨h2, fun k hk => ?_⟩
  rw [e]; exact (Nat.find_spec h).2 k hk

/-- One comparison of a running best. -/
def upd (b : EReal × ℕ) (x : EReal) (n : ℕ) : EReal × ℕ := if b.1 < x then (x, n) else b

/-- The best of lane `l` among the first `K` groups of 128 places, from a value below all of them. -/
def best (neg : EReal) (f : ℕ → EReal) (l : ℕ) : ℕ → EReal × ℕ
  | 0 => (neg, 0)
  | K + 1 => upd (best neg f l K) (f (128 * K + l)) (128 * K + l)

section Lane
variable {neg : EReal} {f : ℕ → EReal} {V : ℕ} (hneg : ∀ m < V, neg < f m) (hout : ∀ m, V ≤ m → f m = ⊥)
include hneg hout

theorem best_spec {l : ℕ} (hl : l < 128) (hV : 128 ≤ V) (K : ℕ) :
    (best neg f l (K + 1)).1 = f (best neg f l (K + 1)).2 ∧ (best neg f l (K + 1)).2 % 128 = l ∧ (best neg f l (K + 1)).2 < V
      ∧ (∀ q < K + 1, f (128 * q + l) ≤ (best neg f l (K + 1)).1)
      ∧ (∀ q < K + 1, 128 * q + l < (best neg f l (K + 1)).2 → f (128 * q + l) < (best neg f l (K + 1)).1) := by
  induction K with
  | zero =>
    have h : best neg f l (0 + 1) = (f l, l) := by
      show upd (neg, 0) (f (128 * 0 + l)) (128 * 0 + l) = _
      simp only [upd, Nat.mul_zero, Nat.zero_add]
      exact if_pos (hneg l (by omega))
    rw [h]
    refine ⟨rfl, by show l % 128 = l; omega, by show l < V; omega, fun q hq => ?_, fun q hq h => ?_⟩
    · obtain rfl : q = 0 := by omega
      simp
    · exact absurd h (by show ¬ (128 * q + l < l); omega)
  | succ K ih =>
    obtain ⟨h1, h2, h3, h4, h5⟩ := ih
    show (upd (best neg f l (K + 1)) (f (128 * (K + 1) + l)) (128 * (K + 1) + l)).1 = _ ∧ _
    rw [show best neg f l (K + 1 + 1) = upd (best neg f l (K + 1)) (f (128 * (K + 1) + l)) (128 * (K + 1) + l) from rfl]
    unfold upd
    by_cases hc : (best neg f l (K + 1)).1 < f (128 * (K + 1) + l)
    · rw [if_pos hc]
      have hlt : 128 * (K + 1) + l < V := by
        by_contra hge
        rw [hout _ (not_lt.mp hge)] at hc
        exact absurd hc not_lt_bot
      have hq : ∀ q < K + 1 + 1, q = K + 1 ∨ q < K + 1 := fun q hq => by omega
      refine ⟨rfl, by show (128 * (K + 1) + l) % 128 = l; omega, hlt, fun q h => ?_, fun q h h' => ?_⟩
      · rcases hq q h with rfl | h
        · exact le_rfl
        · exact (h4 q h).trans hc.le
      · rcases hq q h with rfl | h
        · exact absurd h' (lt_irrefl _)
        · exact lt_of_le_of_lt (h4 q h) hc
    · rw [if_neg hc]
      have hq : ∀ q < K + 1 + 1, q = K + 1 ∨ q < K + 1 := fun q hq => by omega
      refine ⟨h1, h2, h3, fun q h => ?_, fun q h h' => ?_⟩
      · rcases hq q h with rfl | h
        · exact not_lt.mp hc
        · exact h4 q h
      · rcases hq q h with rfl | h
        · refine lt_of_le_of_ne (not_lt.mp hc) fun e => ?_
          -- the best place lies in an earlier group
          exact absurd h' (not_lt.mpr (best_le_of hl K))
        · exact h5 q h h'
where
  best_le_of {l : ℕ} (hl : l < 128) (K : ℕ) : (best neg f l (K + 1)).2 ≤ 128 * (K + 1) + l := by
    induction K with
    | zero =>
      show (upd (neg, 0) _ _).2 ≤ _
      unfold upd; split <;> simp
    | succ K ih =>
      rw [show best neg f l (K + 1 + 1) = upd (best neg f l (K + 1)) (f (128 * (K + 1) + l)) (128 * (K + 1) + l) from rfl]
      unfold upd; split
      · show 128 * (K + 1) + l ≤ _; omega
      · omega

variable {A : ℕ} (hA : First f V A)
include hA

/-- No lane's best exceeds the greatest value, and a lane that attains it does so no earlier. -/
theorem best_le {l : ℕ} (hl : l < 128) (hV : 128 ≤ V) (K : ℕ) :
    (best neg f l (K + 1)).1 ≤ f A ∧ ((best neg f l (K + 1)).1 = f A → A ≤ (best neg f l (K + 1)).2) := by
  obtain ⟨h1, h2, h3, h4, h5⟩ := best_spec hneg hout hl hV K
  refine ⟨by rw [h1]; exact hA.le _ h3, fun e => ?_⟩
  by_contra hlt
  exact absurd (h1 ▸ e) (hA.first _ (not_le.mp hlt)).ne

/-- The lane of the first greatest place ends with it. -/
theorem best_eq (hV : 128 ≤ V) (K : ℕ) (hK : V ≤ 128 * (K + 1)) : best neg f (A % 128) (K + 1) = (f A, A) := by
  obtain ⟨h1, h2, h3, h4, h5⟩ := best_spec hneg hout (Nat.mod_lt A (by decide)) hV K
  have hlt := hA.lt
  have hq : 128 * (A / 128) + A % 128 = A := Nat.div_add_mod A 128
  have hqK : A / 128 < K + 1 := by omega
  have e1 : (best neg f (A % 128) (K + 1)).1 = f A :=
    le_antisymm (best_le hneg hout hA (Nat.mod_lt A (by decide)) hV K).1 (by have := h4 _ hqK; rwa [hq] at this)
  have e2 := (best_le hneg hout hA (Nat.mod_lt A (by decide)) hV K).2 e1
  have e3 : (best neg f (A % 128) (K + 1)).2 = A := by
    refine le_antisymm (not_lt.mp fun h => ?_) e2
    have := h5 _ hqK (by rw [hq]; exact h)
    rw [hq] at this
    exact absurd e1 this.ne'
  exact Prod.ext e1 e3

end Lane

/-- A maximum over lanes that all stay below a value one of them attains. -/
theorem fold_max_eq {n : ℕ} {g : Fin n → EReal} {M : EReal} (hle : ∀ l, g l ≤ M) (l : Fin n) (hl : g l = M) :
    (Finset.univ : Finset (Fin n)).fold max ⊥ g = M := by
  refine le_antisymm ?_ ?_
  · rw [Finset.fold_max_le]; exact ⟨bot_le, fun x _ => hle x⟩
  · rw [Finset.le_fold_max]; exact Or.inr ⟨l, Finset.mem_univ l, hl.ge⟩

end Cert.Argmax

end
-- ==== Proof.Gumbel.lean ====
/- The random draws. Every draw is a function of one 32-bit word, the flat position of a score plus the key: twenty
   rounds of adding, rotating and exclusive-or give a second word, its top bits a number in [0, 1), and two logarithms
   of that number the draw. Over the extended reals every draw is a real number that is not far below zero. -/
module

public import Idealize.ShloMosaic.PureOps.Ideal
public import Idealize.ShloMosaic.Lib.IdealHost

@[expose] public section

noncomputable section

namespace Cert.Gumbel

open Idealize.ShloMosaic

/-- A rotation to the left by `a`, where `a + b = 32`. -/
def rot (x a b : BitVec 32) : BitVec 32 := IntOp.ori (IntOp.shli .vector x a) (IntOp.shrui .vector x b)

/-- One round: add, rotate, exclusive-or. -/
def turn (a b : BitVec 32) (p : BitVec 32 × BitVec 32) : BitVec 32 × BitVec 32 :=
  (IntOp.addi p.1 p.2, IntOp.xori (IntOp.addi p.1 p.2) (rot p.2 a b))

/-- The key added between groups of rounds. -/
def inj (c d : BitVec 32) (p : BitVec 32 × BitVec 32) : BitVec 32 × BitVec 32 := (IntOp.addi p.1 c, IntOp.addi p.2 d)

/-- The same where the first key is zero. -/
def injR (d : BitVec 32) (p : BitVec 32 × BitVec 32) : BitVec 32 × BitVec 32 := (p.1, IntOp.addi p.2 d)

theorem turn_mk (a b x y : BitVec 32) : turn a b (x, y)
    = (IntOp.addi x y, IntOp.xori (IntOp.addi x y) (IntOp.ori (IntOp.shli .vector y a) (IntOp.shrui .vector y b))) := rfl
theorem inj_mk (c d x y : BitVec 32) : inj c d (x, y) = (IntOp.addi x c, IntOp.addi y d) := rfl

/-- The rounds whose rotations are 13, 15, 26 and 6, from the second rotation on. -/
def odd3 (p : BitVec 32 × BitVec 32) : BitVec 32 × BitVec 32 := turn 6#32 26#32 (turn 26#32 6#32 (turn 15#32 17#32 p))
/-- The rounds whose rotations are 17, 29, 16 and 24. -/
def even4 (p : BitVec 32 × BitVec 32) : BitVec 32 × BitVec 32 :=
  turn 24#32 8#32 (turn 16#32 16#32 (turn 29#32 3#32 (turn 17#32 15#32 p)))

/-- The five groups of four rounds, each followed by its key. -/
def g1 (x : BitVec 32) : BitVec 32 × BitVec 32 := inj 42#32 466689009#32 (odd3 (x, IntOp.xori x (rot x 13#32 19#32)))
def g2 (p : BitVec 32 × BitVec 32) : BitVec 32 × BitVec 32 := inj 466689008#32 2#32 (even4 p)
def g3 (p : BitVec 32 × BitVec 32) : BitVec 32 × BitVec 32 := injR 45#32 (odd3 (turn 13#32 19#32 p))
def g4 (p : BitVec 32 × BitVec 32) : BitVec 32 × BitVec 32 := inj 42#32 466689012#32 (even4 p)
def g5 (p : BitVec 32 × BitVec 32) : BitVec 32 × BitVec 32 := inj 466689008#32 5#32 (odd3 (turn 13#32 19#32 p))

/-- The random word. -/
def bits (x : BitVec 32) : BitVec 32 :=
  IntOp.xori (g5 (g4 (g3 (g2 (g1 x))))).1 (g5 (g4 (g3 (g2 (g1 x))))).2

/-- The number in [0, 1) that a random word stands for. -/
def unit (b : BitVec 32) : EReal :=
  Ideal.ofBits .f32 (IntOp.ori (IntOp.shrui .vector b 9#32) 1065353216#32) - Ideal.ofBits .f32 0x3F800000#32

/-- The Gumbel draw of such a number. -/
def ofUnit (u : EReal) : EReal :=
  0 - Ideal.log (0 - Ideal.log (max (Ideal.ofBits .f32 0x00800000#32) (u + Ideal.ofBits .f32 0x00800000#32)))

theorem ofUnit_bits (u : EReal) : ofUnit u = Ideal.ofBits .f32 0x00000000#32 - Ideal.log (Ideal.ofBits .f32 0x00000000#32
    - Ideal.log (max (Ideal.ofBits .f32 0x00800000#32) (u + Ideal.ofBits .f32 0x00800000#32))) := by
  unfold ofUnit; rw [Ideal.ofBits_zero_f32]

/-- The Gumbel draw of a word. -/
def gum (x : BitVec 32) : EReal := ofUnit (unit (bits x))

theorem ofBits_tiny : Ideal.ofBits .f32 0x00800000#32 = (((2 : ℝ) ^ (-126 : ℤ) : ℝ) : EReal) := by
  show Ideal.ieee 8 23 (0x00800000#32) = _
  simp only [Ideal.ieee, show ((0x00800000#32).extractLsb' (8 + 23) 1 == 1#1) = false from rfl,
    show ((0x00800000#32).extractLsb' 23 8).toNat = 1 from rfl, show ((0x00800000#32).extractLsb' 0 23).toNat = 0 from rfl]
  norm_num [← EReal.coe_mul]

/-- The top bits of a word, under the exponent of one. -/
theorem frac_fields (b : BitVec 32) :
    ((IntOp.ori (IntOp.shrui .vector b 9#32) 1065353216#32).extractLsb' (8 + 23) 1 == 1#1) = false
      ∧ ((IntOp.ori (IntOp.shrui .vector b 9#32) 1065353216#32).extractLsb' 23 8).toNat = 127 := by
  have h9 : IntOp.shrui .vector b 9#32 = b >>> 9 := rfl
  have hb : (b >>> 9).toNat < 2 ^ 23 := by rw [BitVec.toNat_ushiftRight, Nat.shiftRight_eq_div_pow]; omega
  have ho : (IntOp.ori (b >>> 9) 1065353216#32) = (b >>> 9) ||| 1065353216#32 := rfl
  rw [h9, ho]
  have e1 : ((b >>> 9) ||| 1065353216#32).extractLsb' 31 1 = 0#1 := by
    apply BitVec.eq_of_getLsbD_eq; intro i hi
    obtain rfl : i = 0 := by omega
    simp [BitVec.getLsbD_extractLsb']
  have e2 : ((b >>> 9) ||| 1065353216#32).extractLsb' 23 8 = 127#8 := by
    apply BitVec.eq_of_getLsbD_eq; intro i hi
    have hz : b.getLsbD (9 + (23 + i)) = false := BitVec.getLsbD_of_ge _ _ (by omega)
    simp only [BitVec.getLsbD_extractLsb', BitVec.getLsbD_or, BitVec.getLsbD_ushiftRight, hz, Bool.false_or, hi, decide_true, Bool.true_and]
    clear hz; revert i; decide
  exact ⟨by rw [show 8 + 23 = 31 from rfl, e1]; rfl, by rw [e2]; rfl⟩

theorem one_f32 : Ideal.ofBits .f32 0x3F800000#32 = 1 := IdealRules.sign_bit.ideal_onePat .f32

theorem unit_real (b : BitVec 32) : ∃ u : ℝ, unit b = u ∧ 0 ≤ u ∧ u ≤ 1 - (2 : ℝ) ^ (-23 : ℤ) := by
  obtain ⟨h1, h2⟩ := frac_fields b
  have hk : ((IntOp.ori (IntOp.shrui .vector b 9#32) 1065353216#32).extractLsb' 0 23).toNat < 2 ^ 23 := BitVec.isLt _
  have e : Ideal.ofBits .f32 (IntOp.ori (IntOp.shrui .vector b 9#32) 1065353216#32)
      = ((1 * ((2 ^ 23 + ((IntOp.ori (IntOp.shrui .vector b 9#32) 1065353216#32).extractLsb' 0 23).toNat : ℕ) : ℝ) * (2 : ℝ) ^ (-23 : ℤ) : ℝ) : EReal) := by
    show Ideal.ieee 8 23 _ = _
    simp only [Ideal.ieee, h1, h2]
    norm_num
  generalize ((IntOp.ori (IntOp.shrui .vector b 9#32) 1065353216#32).extractLsb' 0 23).toNat = k at hk e
  have hk' : (k : ℝ) ≤ 2 ^ 23 - 1 := by
    have : k + 1 ≤ 2 ^ 23 := hk
    have : ((k + 1 : ℕ) : ℝ) ≤ ((2 ^ 23 : ℕ) : ℝ) := by exact_mod_cast this
    push_cast at this; linarith
  refine ⟨(k : ℝ) * (2 : ℝ) ^ (-23 : ℤ), ?_, by positivity, ?_⟩
  · unfold unit
    rw [e, one_f32, ← EReal.coe_one, ← EReal.coe_sub]
    congr 1
    push_cast
    norm_num
    ring
  · norm_num
    linarith

theorem gum_real (x : BitVec 32) : ∃ g : ℝ, gum x = g ∧ -126 ≤ g := by
  obtain ⟨u, hu, h0, h1⟩ := unit_real (bits x)
  have ht : (0 : ℝ) < (2 : ℝ) ^ (-126 : ℤ) := by positivity
  have ht' : (2 : ℝ) ^ (-126 : ℤ) < (2 : ℝ) ^ (-23 : ℤ) := zpow_lt_zpow_right₀ (by norm_num) (by norm_num)
  set v : ℝ := u + (2 : ℝ) ^ (-126 : ℤ) with hv
  have hvp : 0 < v := by positivity
  have hv1 : v < 1 := by rw [hv]; linarith
  have hl : Real.log v < 0 := Real.log_neg hvp hv1
  have hl' : -126 ≤ Real.log v := by
    have h2 : Real.log ((2 : ℝ) ^ (-126 : ℤ)) ≤ Real.log v := Real.log_le_log ht (by rw [hv]; linarith)
    rw [Real.log_zpow] at h2
    have h3 : Real.log 2 ≤ 1 := by
      have := Real.log_le_sub_one_of_pos (show (0 : ℝ) < 2 by norm_num); linarith
    push_cast at h2
    linarith
  refine ⟨-Real.log (-Real.log v), ?_, ?_⟩
  · have hm : max (Ideal.ofBits .f32 0x00800000#32) ((u : EReal) + Ideal.ofBits .f32 0x00800000#32) = (v : EReal) := by
      rw [ofBits_tiny, ← EReal.coe_add, ← hv]
      exact max_eq_right (by exact_mod_cast (by rw [hv]; linarith : (2 : ℝ) ^ (-126 : ℤ) ≤ v))
    unfold gum ofUnit
    rw [hu, hm]
    have e1 : Ideal.log (v : EReal) = (Real.log v : ℝ) := by
      show (if v ≤ 0 then (⊥ : EReal) else _) = _
      rw [if_neg (not_le.mpr hvp)]
    have e2 : (0 : EReal) - ((Real.log v : ℝ) : EReal) = ((-Real.log v : ℝ) : EReal) := by
      rw [zero_sub, EReal.coe_neg]
    have e3 : Ideal.log ((-Real.log v : ℝ) : EReal) = (Real.log (-Real.log v) : ℝ) := by
      show (if -Real.log v ≤ 0 then (⊥ : EReal) else _) = _
      rw [if_neg (by linarith)]
    rw [e1, e2, e3, zero_sub, EReal.coe_neg]
  · have h4 := Real.log_le_sub_one_of_pos (show (0 : ℝ) < -Real.log v by linarith)
    linarith

end Cert.Gumbel

end
-- ==== Proof.Spec.lean ====
/- What both programs compute, row by row: the scores, the random draws, the sampled column, its log-probability, the
   entropy and the best column; and the two ways of writing the last four that have to agree. -/
module

public import proofs.«01_k».proof.Proof.Argmax
public import proofs.«01_k».proof.Proof.Gumbel

@[expose] public section

noncomputable section

namespace Cert.Spec

open Idealize.ShloMosaic Cert.Argmax Cert.Gumbel

/-- The arguments, the last bias left out. -/
structure Inputs where
  noise : Fin 4096 → Fin 100 → EReal
  word : Fin 4096 → Fin 100 → EReal
  w1 : Fin 200 → Fin 512 → EReal
  b1 : Fin 512 → EReal
  w2 : Fin 512 → Fin 100000 → EReal

namespace Inputs
variable (I : Inputs)

/-- The two inputs of a row side by side. -/
def row (R : Fin 4096) (k : Fin 200) : EReal :=
  if h : k.val < 100 then I.noise R ⟨k.val, h⟩ else I.word R ⟨k.val - 100, by omega⟩

/-- The hidden layer. -/
def hidden (R : Fin 4096) (k : Fin 512) : EReal := max (∑ i, I.row R i * I.w1 i k + I.b1 k) 0

/-- The score of a column; past the last column, minus infinity. -/
def score (R : Fin 4096) (n : ℕ) : EReal := if h : n < 100000 then ∑ k, I.hidden R k * I.w2 k ⟨n, h⟩ else ⊥

/-- The word a draw is made from. -/
def flat (R : Fin 4096) (n : ℕ) : BitVec 32 := BitVec.ofNat 32 (R.val * 100000 + n + 42)

/-- The score with its draw. -/
def drawn (R : Fin 4096) (n : ℕ) : EReal := I.score R n + gum (flat R n)

/-- The sampled column and the best column. -/
def action (R : Fin 4096) : ℕ := Classical.choose (First.exists (I.drawn R) (V := 100000) (by norm_num))
def best (R : Fin 4096) : ℕ := Classical.choose (First.exists (I.score R) (V := 100000) (by norm_num))

theorem action_first (R : Fin 4096) : First (I.drawn R) 100000 (I.action R) := Classical.choose_spec (First.exists (I.drawn R) (V := 100000) (by norm_num))
theorem best_first (R : Fin 4096) : First (I.score R) 100000 (I.best R) := Classical.choose_spec (First.exists (I.score R) (V := 100000) (by norm_num))

/-- The sum of the exponentials, and of the exponentials times the scores. -/
def total (R : Fin 4096) : EReal := ∑ n ∈ Finset.range 100000, Ideal.exp (I.score R n)
def moment (R : Fin 4096) : EReal := ∑ n ∈ Finset.range 100000, Ideal.exp (I.score R n) * I.score R n

/-- The log-probability of the sampled column, and the entropy. -/
def logProb (R : Fin 4096) : EReal := I.score R (I.action R) - Ideal.log (I.total R)
def entropy (R : Fin 4096) : EReal := Ideal.log (I.total R) - Ideal.div (I.moment R) (I.total R)

/-- The scores are real and not large. -/
def Good : Prop := ∀ R, ∀ n < 100000, ∃ s : ℝ, I.score R n = s ∧ |s| ≤ 2 ^ 77

end Inputs

theorem First_unique {f : ℕ → EReal} {V A B : ℕ} (hA : First f V A) (hB : First f V B) : A = B := by
  rcases lt_trichotomy A B with h | h | h
  · exact absurd (hB.first A h) (not_lt.mpr (hA.le B hB.lt))
  · exact h
  · exact absurd (hA.first B h) (not_lt.mpr (hB.le A hA.lt))

theorem exp_coe (x : ℝ) : Ideal.exp (x : EReal) = (Real.exp x : ℝ) := rfl

theorem exp_bot : Ideal.exp ⊥ = 0 := rfl

theorem log_pos {x : ℝ} (hx : 0 < x) : Ideal.log (x : EReal) = (Real.log x : ℝ) := by
  show (if x ≤ 0 then (⊥ : EReal) else _) = _
  rw [if_neg (not_le.mpr hx)]

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A sum over lanes of sums over groups, where the places past the end add nothing. -/
theorem lane_sum (g : ℕ → EReal) (hg : ∀ n, 100000 ≤ n → g n = 0) :
    ∑ l : Fin 128, ∑ q ∈ Finset.range 784, g (128 * q + l.val) = ∑ n ∈ Finset.range 100000, g n := by
  rw [Finset.sum_comm]
  have h1 : ∀ K : ℕ, ∑ q ∈ Finset.range K, ∑ l : Fin 128, g (128 * q + l.val) = ∑ n ∈ Finset.range (128 * K), g n := by
    intro K
    induction K with
    | zero => simp
    | succ K ih => rw [Finset.sum_range_succ, ih, Nat.mul_succ, Finset.sum_range_add, Finset.sum_range (n := 128)]
  rw [h1]
  refine (Finset.sum_subset (fun n hn => ?_) fun n _ hn => hg n ?_).symm
  · rw [Finset.mem_range] at hn ⊢; omega
  · rw [Finset.mem_range] at hn; omega

section Softmax
variable {f : ℕ → EReal} {s : ℕ → ℝ} (hs : ∀ n < 100000, f n = s n)
include hs

theorem sum_exp : ∑ n ∈ Finset.range 100000, Ideal.exp (f n) = ((∑ n ∈ Finset.range 100000, Real.exp (s n) : ℝ) : EReal) := by
  rw [← coe_sum]
  exact Finset.sum_congr rfl fun n hn => by rw [hs n (Finset.mem_range.mp hn)]; rfl

theorem sum_pos : 0 < ∑ n ∈ Finset.range 100000, Real.exp (s n) :=
  Finset.sum_pos (fun n _ => Real.exp_pos _) ⟨0, by simp⟩

theorem sum_shift (M : ℝ) : ∑ n ∈ Finset.range 100000, Ideal.exp (f n - M)
    = (((∑ n ∈ Finset.range 100000, Real.exp (s n)) * Real.exp (-M) : ℝ) : EReal) := by
  rw [Finset.sum_mul, ← coe_sum]
  refine Finset.sum_congr rfl fun n hn => ?_
  rw [hs n (Finset.mem_range.mp hn), ← EReal.coe_sub, exp_coe, ← Real.exp_add]; rfl

/-- The log-softmax with the greatest score taken off first. -/
theorem logp_eq (M : ℝ) {n : ℕ} (hn : n < 100000) :
    f n - M - Ideal.log (∑ k ∈ Finset.range 100000, Ideal.exp (f k - M))
      = ((s n - Real.log (∑ n ∈ Finset.range 100000, Real.exp (s n)) : ℝ) : EReal) := by
  have hp := sum_pos hs
  rw [sum_shift hs, log_pos (mul_pos hp (Real.exp_pos _)), hs n hn, ← EReal.coe_sub, ← EReal.coe_sub,
    Real.log_mul hp.ne' (Real.exp_pos _).ne', Real.log_exp]
  congr 1; ring

/-- A column's log-probability, the two ways. -/
theorem logProb_eq (M : ℝ) {n : ℕ} (hn : n < 100000) :
    f n - M - Ideal.log (∑ k ∈ Finset.range 100000, Ideal.exp (f k - M))
      = f n - Ideal.log (∑ k ∈ Finset.range 100000, Ideal.exp (f k)) := by
  rw [logp_eq hs M hn, sum_exp hs, log_pos (sum_pos hs), hs n hn, ← EReal.coe_sub]

/-- The entropy, the two ways. -/
theorem entropy_eq (M : ℝ) {lp : ℕ → EReal}
    (hlp : ∀ n < 100000, lp n = f n - M - Ideal.log (∑ k ∈ Finset.range 100000, Ideal.exp (f k - M))) :
    -(∑ n ∈ Finset.range 100000, Ideal.exp (lp n) * lp n)
      = Ideal.log (∑ k ∈ Finset.range 100000, Ideal.exp (f k))
        - Ideal.div (∑ n ∈ Finset.range 100000, Ideal.exp (f n) * f n) (∑ k ∈ Finset.range 100000, Ideal.exp (f k)) := by
  have hp := sum_pos hs
  have e1 : ∑ n ∈ Finset.range 100000, Ideal.exp (lp n) * lp n = ((∑ n ∈ Finset.range 100000,
      Real.exp (s n - Real.log (∑ n ∈ Finset.range 100000, Real.exp (s n))) * (s n - Real.log (∑ n ∈ Finset.range 100000, Real.exp (s n))) : ℝ) : EReal) := by
    rw [← coe_sum]
    refine Finset.sum_congr rfl fun n hn => ?_
    rw [hlp n (Finset.mem_range.mp hn), logp_eq hs M (Finset.mem_range.mp hn), exp_coe, ← EReal.coe_mul]
  have e2 : ∑ n ∈ Finset.range 100000, Ideal.exp (f n) * f n = ((∑ n ∈ Finset.range 100000, Real.exp (s n) * s n : ℝ) : EReal) := by
    rw [← coe_sum]
    refine Finset.sum_congr rfl fun n hn => ?_
    rw [hs n (Finset.mem_range.mp hn), exp_coe, ← EReal.coe_mul]
  rw [e1, e2, sum_exp hs, log_pos hp]
  generalize hS : ∑ n ∈ Finset.range 100000, Real.exp (s n) = S at hp ⊢
  have e3 : Ideal.div ((∑ n ∈ Finset.range 100000, Real.exp (s n) * s n : ℝ) : EReal) (S : EReal)
      = (((∑ n ∈ Finset.range 100000, Real.exp (s n) * s n) / S : ℝ) : EReal) := by
    have h0 : (S : EReal) ≠ 0 := by exact_mod_cast hp.ne'
    unfold Ideal.div
    rw [if_neg h0, ← EReal.coe_inv, ← EReal.coe_mul, div_eq_mul_inv]
  rw [e3, ← EReal.coe_sub, ← EReal.coe_neg]
  refine congrArg (fun x : ℝ => (x : EReal)) ?_
  have e4 : ∀ n, Real.exp (s n - Real.log S) * (s n - Real.log S) = Real.exp (s n) * s n / S - Real.exp (s n) * (Real.log S / S) := by
    intro n
    rw [Real.exp_sub, Real.exp_log hp]; field_simp
  simp only [e4]
  rw [Finset.sum_sub_distrib, ← Finset.sum_mul, ← Finset.sum_div, hS]
  field_simp
  ring

end Softmax

end Cert.Spec

end
-- ==== Proof.KernelIdealInputs.lean ====
module

public import proofs.«01_k».proof.Proof.KernelIdealTrack
public import proofs.«01_k».proof.Proof.Spec
public import Idealize.ShloMosaic.Lib.Pointwise
public import Idealize.ShloMosaic.Lib.Claim

/-! The blocks the kernel's body finds at a grid point, element by element. -/

@[expose] public section

set_option maxRecDepth 16384

noncomputable section

namespace Cert.KernelIdeal.Read

open Cert.KernelIdeal Cert.KernelIdeal.Gen Cert.KernelIdeal.Run
open Idealize.ShloMosaic Idealize.ShloMosaic.TcCoe Idealize.ShloMosaic.Tactic
open Idealize.ShloMosaic.Pipeline (Dat Cfg Window)
open Cert.Spec

variable (m : (ℓ : Loc nD τ sig) → Buf (Elt Ideal) ℓ) (c : Dev nD)

/-- The arguments read as matrices. -/
def inputs : Inputs where
  noise R k := (m ((c : Thread nD τ).loc main_arg0) : Vec Ideal S4096x100 .f32) (ix2 R k)
  word R k := (m ((c : Thread nD τ).loc main_arg1) : Vec Ideal S4096x100 .f32) (ix2 R k)
  w1 i k := (m ((c : Thread nD τ).loc main_arg2) : Vec Ideal S200x512 .f32) (ix2 i k)
  b1 k := (m ((c : Thread nD τ).loc main_arg3) : Vec Ideal S512 .f32) (ix1 k)
  w2 k n := (m ((c : Thread nD τ).loc main_arg4) : Vec Ideal S512x100000 .f32) (ix2 k n)

/-- The two inputs side by side, as the region finds them. -/
theorem V_v0 : V m c main_v0 = concatenate S4096x200 1 [⟨S4096x100, (m ((c : Thread nD τ).loc main_arg0) : Vec Ideal S4096x100 .f32)⟩,
    ⟨S4096x100, (m ((c : Thread nD τ).loc main_arg1) : Vec Ideal S4096x100 .f32)⟩] concatenates_S4096x100_S4096x100_S4096x200_d1 := by
  show StableHlo.after hostOps0 (fun b => m (c, b)) _ = _
  unfold hostOps0
  entry_read
  rfl

/-- The first layer's offsets as one row. -/
theorem V_v1 : V m c main_v1 = shapeCast S1x512 (m ((c : Thread nD τ).loc main_arg3) : Vec Ideal S512 .f32) shapeCasts_S512_S1x512 := by
  show StableHlo.after hostOps0 (fun b => m (c, b)) _ = _
  unfold hostOps0
  entry_read
  rfl

theorem lt_N (t : Fin cfg0.N) : t.val < 392 := t.isLt

/-- The row of the arrays a row of a block is. -/
def rowOf (b : Fin 2) (r : Fin 2048) : Fin 4096 := ⟨2048 * b.val + r.val, by omega⟩

/-- The block of rows at a grid point. -/
def rows (t : Fin cfg0.N) : Fin 2 := ⟨t.val / 196, by have := lt_N t; omega⟩

theorem coord0 (t : Fin cfg0.N) : (grid0.coords t 0).val = t.val / 196 := by
  have e : (grid0.coords t 0).val = t.val / 196 % 2 := Pipeline.Grid.coords_val t 0 (by decide) rfl
  have := lt_N t; omega
theorem coord1 (t : Fin cfg0.N) : (grid0.coords t 1).val = t.val % 196 := by
  have e : (grid0.coords t 1).val = t.val / 1 % 196 := Pipeline.Grid.coords_val t 1 (by decide) rfl
  omega

theorem index0 : ∀ t : Fin cfg0.N, win0_0.index t 0 = t.val / 196 ∧ win0_0.index t 1 = 0 :=
  (by decide +kernel : ∀ t : Fin grid0.N, win0_0.index t 0 = t.val / 196 ∧ win0_0.index t 1 = 0)
theorem index1 (t : Fin cfg0.N) : win0_1.index t 0 = 0 ∧ win0_1.index t 1 = 0 := ⟨rfl, rfl⟩
theorem index2 (t : Fin cfg0.N) : win0_2.index t 0 = 0 ∧ win0_2.index t 1 = 0 := ⟨rfl, rfl⟩
theorem index3 : ∀ t : Fin cfg0.N, win0_3.index t 0 = 0 ∧ win0_3.index t 1 = t.val % 196
    ∧ win0_3.xsize (grid0.coords t) 0 = 512 ∧ win0_3.xsize (grid0.coords t) 1 = min 512 (100000 - 512 * (t.val % 196)) :=
  (by decide +kernel : ∀ t : Fin grid0.N, win0_3.index t 0 = 0 ∧ win0_3.index t 1 = t.val % 196
    ∧ win0_3.xsize (grid0.coords t) 0 = 512 ∧ win0_3.xsize (grid0.coords t) 1 = min 512 (100000 - 512 * (t.val % 196)))

theorem emb0 (t : Fin cfg0.N) (r : Fin 2048) (k : Fin 200) :
    ((cfg0.win 0).blk t).view.emb (ix2 r k : S2048x200.Idx) = (ix2 (rowOf (rows t) r) k : S4096x200.Idx) := by
  obtain ⟨e0, e1⟩ := index0 t
  funext a; apply Fin.ext
  match a with
  | ⟨0, _⟩ => show win0_0.index t (0 : Fin 2) * 2048 + 1 * r.val = 2048 * (t.val / 196) + r.val; omega
  | ⟨1, _⟩ => show win0_0.index t (1 : Fin 2) * 200 + 1 * k.val = k.val; omega

theorem x_apply (t : Fin cfg0.N) (r : Fin 2048) (k : Fin 200) :
    (iblk m c 0 t : Vec Ideal S2048x200 .f32) (ix2 r k) = (inputs m c).row (rowOf (rows t) r) k := by
  have e : (iblk m c 0 t : Vec Ideal S2048x200 .f32) (ix2 r k)
    = (V m c main_v0 : Vec Ideal S4096x200 .f32) (((cfg0.win 0).blk t).view.emb (ix2 r k : S2048x200.Idx)) := rfl
  rw [e, emb0, V_v0]
  pointwise
  rfl

theorem w1_apply (t : Fin cfg0.N) (i : Fin 200) (k : Fin 512) :
    (iblk m c 1 t : Vec Ideal S200x512 .f32) (ix2 i k) = (inputs m c).w1 i k := by
  have e : (iblk m c 1 t : Vec Ideal S200x512 .f32) (ix2 i k)
    = (V m c main_arg2 : Vec Ideal S200x512 .f32) (((cfg0.win 1).blk t).view.emb (ix2 i k : S200x512.Idx)) := rfl
  have e' : ((cfg0.win 1).blk t).view.emb (ix2 i k : S200x512.Idx) = (ix2 i k : S200x512.Idx) := by
    obtain ⟨e0, e1⟩ := index1 t
    funext a; apply Fin.ext
    match a with
    | ⟨0, _⟩ => show win0_1.index t (0 : Fin 2) * 200 + 1 * i.val = i.val; omega
    | ⟨1, _⟩ => show win0_1.index t (1 : Fin 2) * 512 + 1 * k.val = k.val; omega
  rw [e, e', V_main_arg2]
  rfl

theorem b1_apply (t : Fin cfg0.N) (k : Fin 512) :
    (iblk m c 2 t : Vec Ideal S1x512 .f32) (ix2 0 k) = (inputs m c).b1 k := by
  have e : (iblk m c 2 t : Vec Ideal S1x512 .f32) (ix2 0 k)
    = (V m c main_v1 : Vec Ideal S1x512 .f32) (((cfg0.win 2).blk t).view.emb (ix2 0 k : S1x512.Idx)) := rfl
  have e' : ((cfg0.win 2).blk t).view.emb (ix2 0 k : S1x512.Idx) = (ix2 0 k : S1x512.Idx) := by
    obtain ⟨e0, e1⟩ := index2 t
    funext a; apply Fin.ext
    match a with
    | ⟨0, _⟩ => show win0_2.index t (0 : Fin 2) * 1 + 1 * 0 = 0; omega
    | ⟨1, _⟩ => show win0_2.index t (1 : Fin 2) * 512 + 1 * k.val = k.val; omega
  rw [e, e', V_v1]
  pointwise
  rfl

theorem w2_apply (t : Fin cfg0.N) (d : Vec Ideal S512x512 .f32) (k j : Fin 512) (h : 512 * (t.val % 196) + j.val < 100000) :
    wblk m c t d (ix2 k j) = (inputs m c).w2 k ⟨512 * (t.val % 196) + j.val, h⟩ := by
  obtain ⟨e0, e1, x0, x1⟩ := index3 t
  have hm : win0_3.moved (grid0.coords t) (ix2 k j : S512x512.Idx) = true := by
    refine (win0_3.moved_iff _ _).mpr fun a => ?_
    match a with
    | ⟨0, _⟩ => show k.val < win0_3.xsize (grid0.coords t) 0; omega
    | ⟨1, _⟩ => show j.val < win0_3.xsize (grid0.coords t) 1; omega
  unfold wblk Window.fill
  rw [dif_pos hm]
  generalize hy : (fun a => (⟨((ix2 k j : S512x512.Idx) a).val, (win0_3.moved_iff _ _).mp hm a⟩ : Fin _) : (win0_3.xblock (grid0.coords t)).Idx) = y
  have e : iblk m c 3 t y = (V m c main_arg4 : Vec Ideal S512x100000 .f32) (((cfg0.win 3).blk t).view.emb y) := rfl
  have e' : ((cfg0.win 3).blk t).view.emb y = (ix2 k ⟨512 * (t.val % 196) + j.val, h⟩ : S512x100000.Idx) := by
    subst hy
    funext a; apply Fin.ext
    match a with
    | ⟨0, _⟩ => show win0_3.index t (0 : Fin 2) * 512 + 1 * k.val = k.val; omega
    | ⟨1, _⟩ => show win0_3.index t (1 : Fin 2) * 512 + 1 * j.val = 512 * (t.val % 196) + j.val; omega
  rw [e, e', V_main_arg4]
  rfl

end Cert.KernelIdeal.Read

end
-- ==== Proof.KernelIdealRead.lean ====
module

public import proofs.«01_k».proof.Proof.KernelIdealState
public import proofs.«01_k».proof.Proof.Gumbel
public import proofs.«01_k».proof.Proof.Argmax
public import Idealize.ShloMosaic.Lib.Pointwise

/-! What the kernel's body computes, element by element, over the extended reals. -/

@[expose] public section

set_option maxRecDepth 16384

noncomputable section

namespace Cert.KernelIdeal.Read

open Cert.KernelIdeal Cert.KernelIdeal.Gen Cert.KernelIdeal.Run
open Idealize.ShloMosaic Idealize.ShloMosaic.TcCoe Idealize.ShloMosaic.Tactic
open Cert.Gumbel Cert.Argmax

theorem pad_bot : (Named.named κ "pad" 0xF149F2CA#32 : Ideal .f32) = ⊥ :=
  IdealRules.named_const.ideal_named_scalar _ _ _ _ rfl

/-- Whether a column of the block at column block `b` is one of the 100000. -/
theorem inside (b : Fin 196) (j : Fin 512) :
    IntOp.cmpi CmpIPredicate.slt (BitVec.ofNat 32 j.val) (Scalar.subi (100000#32) (Scalar.muli (BitVec.ofNat 32 b.val) 512#32))
      = if 512 * b.val + j.val < 100000 then 1#1 else 0#1 := by
  have e : Scalar.subi (100000#32) (Scalar.muli (BitVec.ofNat 32 b.val) 512#32) = 100000#32 - BitVec.ofNat 32 b.val * 512#32 := rfl
  have h : (100000#32 - BitVec.ofNat 32 b.val * 512#32).toInt = 100000 - 512 * (b.val : ℤ) := by
    revert b; decide +kernel
  have hj : (BitVec.ofNat 32 j.val).toInt = (j.val : ℤ) := by revert j; decide +kernel
  unfold IntOp.cmpi
  rw [e]
  simp only [BitVec.slt, h, hj]
  by_cases hc : 512 * b.val + j.val < 100000
  · rw [if_pos hc, decide_eq_true (by omega)]; rfl
  · rw [if_neg hc, decide_eq_false (by omega)]; rfl

/-- The score of a column within a block, masked past the last column. -/
theorem pay54_apply (i : grid0.Coords) (h : Vec Ideal S2048x512 .f32) (w : Vec Ideal S512x512 .f32) (r : Fin 2048) (j : Fin 512) :
    k0_pay54 i h w (ix2 r j) = if 512 * (i 1).val + j.val < 100000 then ∑ k : Fin 512, h (ix2 r k) * w (ix2 k j) else ⊥ := by
  pointwise [k0_pay54, dot_S2048x512_S512x512_S2048x512_1_0_0_1_n_n, pad_bot]
  rw [inside (i 1) j]
  split <;> rfl

/-- One comparison of a running best with its column's word. -/
def updw (b : EReal × BitVec 32) (x : EReal) (n : BitVec 32) : EReal × BitVec 32 := if b.1 < x then (x, n) else b

/-- The columns of a lane's four places in a block. -/
def col (l : Fin 128) (q : Fin 4) : Fin 512 := ⟨128 * q.val + l.val, by omega⟩

/-- Four comparisons, one per group of 128 columns. -/
def four (b : EReal × BitVec 32) (x : Fin 4 → EReal) (n : Fin 4 → BitVec 32) : EReal × BitVec 32 :=
  updw (updw (updw (updw b (x 0) (n 0)) (x 1) (n 1)) (x 2) (n 2)) (x 3) (n 3)

/-- The word of the column in lane `l` and group `q`. -/
def colWord (i : grid0.Coords) (l : Fin 128) (q : Fin 4) : BitVec 32 := BitVec.ofNat 32 (512 * (i 1).val + 128 * q.val + l.val)

theorem colWord_eq (i : grid0.Coords) (l : Fin 128) (q : Fin 4) :
    IntOp.addi (BitVec.ofNat 32 l.val) (Scalar.addi (firstCol i) (BitVec.ofNat 32 (128 * q.val))) = colWord i l q := by
  show BitVec.ofNat 32 l.val + (BitVec.ofNat 32 (i 1).val * 512#32 + BitVec.ofNat 32 (128 * q.val)) = _
  unfold colWord
  apply BitVec.eq_of_toNat_eq
  simp only [BitVec.toNat_add, BitVec.toNat_mul, BitVec.toNat_ofNat]
  omega

section Step
variable (i : grid0.Coords) (w : Vec Ideal S512x512 .f32) (σ : St Ideal) (r : Fin 2048) (l : Fin 128)

/-- The score of lane `l` in group `q`. -/
def sc (q : Fin 4) : EReal := k0_pay54 i σ.h w (ix2 r (col l q))

theorem step_s : (step i w σ).s (ix2 r l) = σ.s (ix2 r l) + Ideal.exp (sc i w σ r l 0) + Ideal.exp (sc i w σ r l 1)
    + Ideal.exp (sc i w σ r l 2) + Ideal.exp (sc i w σ r l 3) := by
  pointwise [step, k0_pay57, k0_pay55]
  simp [sc, col]

theorem step_t : (step i w σ).t (ix2 r l) = σ.t (ix2 r l) + Ideal.exp (sc i w σ r l 0) * sc i w σ r l 0
    + Ideal.exp (sc i w σ r l 1) * sc i w σ r l 1
    + Ideal.exp (sc i w σ r l 2) * sc i w σ r l 2 + Ideal.exp (sc i w σ r l 3) * sc i w σ r l 3 := by
  pointwise [step, k0_pay58, k0_pay56, k0_pay55]
  simp [sc, col]

theorem step_f (j : Fin 512) : (step i w σ).f (ix2 r j) = σ.f (ix2 r j) + 512#32 := by
  pointwise [step, k0_pay59]
  rfl

theorem best_four (v : FVec Ideal S2048x512 .f32) (a : Vec Ideal S2048x128 .f32) (b : Vec Ideal S2048x128 .i32) :
    ((k0_pay122 v (k0_pay104 v a) (ix2 r l) : EReal),
      (k0_pay123 (F := Ideal) (firstCol i) v lanes (k0_pay104 v a) (k0_pay105 (firstCol i) v lanes a b) 256#32 (ix2 r l) : BitVec 32))
      = four (a (ix2 r l), b (ix2 r l)) (fun q => v (ix2 r (col l q))) (colWord i l) := by
  have e1 : k0_pay122 v (k0_pay104 v a) (ix2 r l)
      = (four (a (ix2 r l), b (ix2 r l)) (fun q => v (ix2 r (col l q))) (colWord i l)).1 := by
    unfold_payloads
    pointwise
    simp only [four, updw, col, apply_ite Prod.fst, Fin.val_zero, Nat.mul_zero, Nat.zero_add]
    rfl
  have e2 : k0_pay123 (F := Ideal) (firstCol i) v lanes (k0_pay104 v a) (k0_pay105 (firstCol i) v lanes a b) 256#32 (ix2 r l)
      = (four (a (ix2 r l), b (ix2 r l)) (fun q => v (ix2 r (col l q))) (colWord i l)).2 := by
    unfold_payloads
    pointwise
    simp only [four, updw, col, apply_ite Prod.fst, apply_ite Prod.snd, ← colWord_eq, Fin.val_zero, Nat.mul_zero, Nat.zero_add]
    rfl
  exact Prod.ext e1 e2

theorem drawn_four (v : FVec Ideal S2048x512 .f32) (a : Vec Ideal S2048x128 .f32) (b : Vec Ideal S2048x128 .i32)
    (u : FVec Ideal S2048x512 .f32) :
    ((k0_pay124 (k0_pay93 v u) (k0_pay108 v u a) (ix2 r l) : EReal),
      (k0_pay125 (F := Ideal) (firstCol i) lanes (k0_pay93 v u) (k0_pay108 v u a)
        (k0_pay109 (firstCol i) v lanes u a b) 256#32 (ix2 r l) : BitVec 32))
      = four (a (ix2 r l), b (ix2 r l)) (fun q => v (ix2 r (col l q)) + ofUnit (u (ix2 r (col l q)))) (colWord i l) := by
  have e1 : k0_pay124 (k0_pay93 v u) (k0_pay108 v u a) (ix2 r l)
      = (four (a (ix2 r l), b (ix2 r l)) (fun q => v (ix2 r (col l q)) + ofUnit (u (ix2 r (col l q)))) (colWord i l)).1 := by
    unfold_payloads
    pointwise
    simp only [four, updw, col, apply_ite Prod.fst, Fin.val_zero, Nat.mul_zero, Nat.zero_add]
    rfl
  have e2 : k0_pay125 (F := Ideal) (firstCol i) lanes (k0_pay93 v u) (k0_pay108 v u a)
        (k0_pay109 (firstCol i) v lanes u a b) 256#32 (ix2 r l)
      = (four (a (ix2 r l), b (ix2 r l)) (fun q => v (ix2 r (col l q)) + ofUnit (u (ix2 r (col l q)))) (colWord i l)).2 := by
    unfold_payloads
    pointwise
    simp only [four, updw, col, apply_ite Prod.fst, apply_ite Prod.snd, ← colWord_eq, Fin.val_zero, Nat.mul_zero, Nat.zero_add]
    rfl
  exact Prod.ext e1 e2

end Step

end Cert.KernelIdeal.Read

end
-- ==== Proof.KernelIdealDraws.lean ====
module

public import proofs.«01_k».proof.Proof.KernelIdealState
public import proofs.«01_k».proof.Proof.Gumbel
public import Idealize.ShloMosaic.Lib.Pointwise

/-! The draws the kernel computes are the draws of `Gumbel`, group of rounds by group of rounds. -/

@[expose] public section

set_option maxRecDepth 16384

noncomputable section

namespace Cert.KernelIdeal.Read

open Cert.KernelIdeal Cert.KernelIdeal.Gen Cert.KernelIdeal.Run
open Idealize.ShloMosaic Idealize.ShloMosaic.TcCoe Idealize.ShloMosaic.Tactic
open Cert.Gumbel

/-- One round on whole vectors, read at an index. -/
theorem vround {s : Shape} (X Y : IVec s 32) (a b : BitVec 32) (j : s.Idx) :
    (addi X Y j, xori (addi X Y) (ori (shli Y (broadcast _ a)) (shrui Y (broadcast _ b))) j) = turn a b (X j, Y j) := rfl

/-- From the random words to numbers in [0, 1), on whole vectors. -/
theorem vunit {s : Shape} (w : IVec s 32) (j : s.Idx) :
    subf (bitcastToFloat (F := Ideal) .f32 (ori (shrui w (broadcast _ 9#32)) (broadcast _ 1065353216#32)))
      (broadcast s (FloatOps.ofBits .f32 0x3F800000#32)) j = unit (w j) := rfl

/-- The two logarithms, on whole vectors. -/
theorem vofUnit {s : Shape} (u : FVec Ideal s .f32) (j : s.Idx) :
    subf (broadcast s (FloatOps.ofBits .f32 0#32)) (log (subf (broadcast s (FloatOps.ofBits .f32 0#32))
      (log (maximumf (broadcast s (FloatOps.ofBits .f32 8388608#32)) (addf u (broadcast s (FloatOps.ofBits .f32 8388608#32)))))))
      j = ofUnit (u j) := by
  rw [ofUnit_bits]
  rfl

/-- The last key and the exclusive-or, on whole vectors. -/
theorem vlast {s : Shape} (X Y : IVec s 32) (j : s.Idx) :
    xori (addi X (broadcast _ 466689008#32)) (addi Y (broadcast _ 5#32)) j
      = IntOp.xori (inj 466689008#32 5#32 (X j, Y j)).1 (inj 466689008#32 5#32 (X j, Y j)).2 := rfl

section Block
variable (f : Vec Ideal S2048x512 .i32) (a b : IVec S2048x512 32) (j : S2048x512.Idx)

theorem block_a : (k0_pay66 (F := Ideal) f j, k0_pay67 (F := Ideal) f j) = g1 (f j) := rfl
theorem block_b1 : (k0_pay68 a b j, k0_pay69 a b j) = turn 17#32 15#32 (a j, b j) := rfl
theorem block_b2 : (k0_pay70 a b j, k0_pay71 a b j) = turn 29#32 3#32 (k0_pay68 a b j, k0_pay69 a b j) := rfl
theorem block_b3 : (k0_pay72 a b j, k0_pay73 a b j) = turn 16#32 16#32 (k0_pay70 a b j, k0_pay71 a b j) := rfl
theorem block_b4 : (k0_pay76 a b j, k0_pay77 a b j)
    = turn 13#32 19#32 (inj 466689008#32 2#32 (turn 24#32 8#32 (k0_pay72 a b j, k0_pay73 a b j))) := rfl
theorem block_b5 : (k0_pay78 a b j, k0_pay79 a b j) = turn 15#32 17#32 (k0_pay76 a b j, k0_pay77 a b j) := rfl
theorem block_c1 : (k0_pay80 a b j, k0_pay81 a b j) = turn 26#32 6#32 (a j, b j) := rfl
theorem block_c2 : (k0_pay82 a b j, k0_pay83 a b j) = injR 45#32 (turn 6#32 26#32 (k0_pay80 a b j, k0_pay81 a b j)) := rfl
theorem block_c3 : (k0_pay84 a b j, k0_pay85 a b j) = turn 17#32 15#32 (k0_pay82 a b j, k0_pay83 a b j) := rfl
theorem block_c4 : (k0_pay86 a b j, k0_pay87 a b j) = turn 29#32 3#32 (k0_pay84 a b j, k0_pay85 a b j) := rfl
theorem block_c5 : (k0_pay88 a b j, k0_pay89 a b j) = turn 16#32 16#32 (k0_pay86 a b j, k0_pay87 a b j) := rfl
theorem block_c6 : (k0_pay90 a b j, k0_pay91 a b j) = turn 24#32 8#32 (k0_pay88 a b j, k0_pay89 a b j) := rfl

theorem block_d : k0_pay92 (F := Ideal) a b 42#32 j
    = unit (IntOp.xori (g5 (inj 42#32 466689012#32 (a j, b j))).1 (g5 (inj 42#32 466689012#32 (a j, b j))).2) := by
  unfold k0_pay92 g5 odd3
  have e0 : (addi a (broadcast _ 42#32) j, addi b (broadcast _ (Scalar.addi 466689008#32 4#32)) j)
      = inj 42#32 466689012#32 (a j, b j) := rfl
  generalize addi a (broadcast _ 42#32) = X0 at e0 ⊢
  generalize addi b (broadcast _ (Scalar.addi 466689008#32 4#32)) = Y0 at e0 ⊢
  have e1 := vround X0 Y0 13#32 19#32 j
  generalize addi X0 Y0 = X1 at e1 ⊢
  generalize xori X1 (ori (shli Y0 (broadcast _ 13#32)) (shrui Y0 (broadcast _ 19#32))) = Y1 at e1 ⊢
  have e2 := vround X1 Y1 15#32 17#32 j
  generalize addi X1 Y1 = X2 at e2 ⊢
  generalize xori X2 (ori (shli Y1 (broadcast _ 15#32)) (shrui Y1 (broadcast _ 17#32))) = Y2 at e2 ⊢
  have e3 := vround X2 Y2 26#32 6#32 j
  generalize addi X2 Y2 = X3 at e3 ⊢
  generalize xori X3 (ori (shli Y2 (broadcast _ 26#32)) (shrui Y2 (broadcast _ 6#32))) = Y3 at e3 ⊢
  have e4 := vround X3 Y3 6#32 26#32 j
  generalize addi X3 Y3 = X4 at e4 ⊢
  generalize xori X4 (ori (shli Y3 (broadcast _ 6#32)) (shrui Y3 (broadcast _ 26#32))) = Y4 at e4 ⊢
  rw [← e0, ← e1, ← e2, ← e3, ← e4, ← vlast]
  exact vunit _ j

end Block

/-- The draws of a block are the draws of its words. -/
theorem draws_apply (f : Vec Ideal S2048x512 .i32) (j : S2048x512.Idx) : draws (F := Ideal) f j = unit (bits (f j)) := by
  unfold draws
  rw [block_d, block_c6, block_c5, block_c4, block_c3, block_c2, block_c1, block_b5, block_b4, block_b3, block_b2, block_b1,
    block_a]
  unfold bits g4 g3 g2 even4 odd3
  with_reducible rfl

section Column
variable (k a b c : IVec S2048x1 32) (j : S2048x1.Idx)

theorem col_a1 : (k0_pay15 k 13#32 j, k0_pay16 k 13#32 j) = turn 15#32 17#32 (k j, IntOp.xori (k j) (rot (k j) 13#32 19#32)) := rfl
theorem col_a2 : (k0_pay17 k 13#32 j, k0_pay18 k 13#32 j) = turn 26#32 6#32 (k0_pay15 k 13#32 j, k0_pay16 k 13#32 j) := rfl
theorem col_a3 : (k0_pay21 k 13#32 j, k0_pay22 k 13#32 j)
    = turn 17#32 15#32 (inj 42#32 466689009#32 (turn 6#32 26#32 (k0_pay17 k 13#32 j, k0_pay18 k 13#32 j))) := rfl
theorem col_a4 : (k0_pay23 k 13#32 j, k0_pay24 k 13#32 j) = turn 29#32 3#32 (k0_pay21 k 13#32 j, k0_pay22 k 13#32 j) := rfl
theorem col_b1 : (k0_pay25 a b j, k0_pay26 a b j) = turn 16#32 16#32 (a j, b j) := rfl
theorem col_b2 : (k0_pay29 a b j, k0_pay30 a b j)
    = turn 13#32 19#32 (inj 466689008#32 2#32 (turn 24#32 8#32 (k0_pay25 a b j, k0_pay26 a b j))) := rfl
theorem col_b3 : (k0_pay31 a b j, k0_pay32 a b j) = turn 15#32 17#32 (k0_pay29 a b j, k0_pay30 a b j) := rfl
theorem col_b4 : (k0_pay33 a b j, k0_pay34 a b j) = turn 26#32 6#32 (k0_pay31 a b j, k0_pay32 a b j) := rfl
theorem col_b5 : (k0_pay35 a b j, k0_pay36 a b j) = turn 6#32 26#32 (k0_pay33 a b j, k0_pay34 a b j) := rfl
theorem col_c1 : (k0_pay38 a b j, k0_pay39 a b j) = turn 17#32 15#32 (injR 45#32 (a j, b j)) := rfl
theorem col_c2 : (k0_pay40 a b j, k0_pay41 a b j) = turn 29#32 3#32 (k0_pay38 a b j, k0_pay39 a b j) := rfl
theorem col_c3 : (k0_pay42 a b j, k0_pay43 a b j) = turn 16#32 16#32 (k0_pay40 a b j, k0_pay41 a b j) := rfl
theorem col_c4 : (k0_pay46 a b j, k0_pay47 a b j)
    = turn 13#32 19#32 (inj 42#32 466689012#32 (turn 24#32 8#32 (k0_pay42 a b j, k0_pay43 a b j))) := rfl

theorem col_d (h : b j = IntOp.addi (c j) (a j)) : k0_pay49 (F := Ideal) a b 15#32 j
    = ofUnit (unit (IntOp.xori (inj 466689008#32 5#32 (odd3 (c j, a j))).1 (inj 466689008#32 5#32 (odd3 (c j, a j))).2)) := by
  unfold k0_pay49 odd3
  have e1 : (b j, xori b (ori (shli a (broadcast _ 15#32)) (shrui a (broadcast _ 17#32))) j) = turn 15#32 17#32 (c j, a j) := by
    rw [turn_mk, ← h]; rfl
  generalize xori b (ori (shli a (broadcast _ 15#32)) (shrui a (broadcast _ 17#32))) = Y1 at e1 ⊢
  have e2 := vround b Y1 26#32 6#32 j
  generalize addi b Y1 = X2 at e2 ⊢
  generalize xori X2 (ori (shli Y1 (broadcast _ 26#32)) (shrui Y1 (broadcast _ 6#32))) = Y2 at e2 ⊢
  have e3 := vround X2 Y2 6#32 26#32 j
  generalize addi X2 Y2 = X3 at e3 ⊢
  generalize xori X3 (ori (shli Y2 (broadcast _ 6#32)) (shrui Y2 (broadcast _ 26#32))) = Y3 at e3 ⊢
  rw [← e1, ← e2, ← e3, ← vlast, ← vunit]
  exact vofUnit _ j

end Column

/-- The draws at the chosen columns. -/
theorem drawsAt_apply (i : grid0.Coords) (σ : St Ideal) (j : S2048x1.Idx) :
    drawsAt (F := Ideal) i σ j = gum (k0_pay13 (F := Ideal) (BitVec.ofNat 32 (i 0).val) σ.cv σ.ci j) := by
  unfold drawsAt
  generalize k0_pay13 (F := Ideal) (BitVec.ofNat 32 (i 0).val) σ.cv σ.ci = k
  rw [col_d _ _ (k0_pay46 _ _) j rfl, col_c4, col_c3, col_c2, col_c1, col_b5, col_b4, col_b3, col_b2, col_b1, col_a4, col_a3,
    col_a2, col_a1]
  unfold gum bits g5 g4 g3 g2 g1 even4 odd3
  with_reducible rfl

end Cert.KernelIdeal.Read

end
-- ==== Proof.PreFacts.lean ====
/- The side conditions of the precondition's operations. -/
module

public import proofs.«01_k».proof.Pre_in_range

@[expose] public section

namespace Cert.Pre_in_range.Gen

/-- The function's facts, proved. -/
instance facts : Cert.Pre_in_range.Facts where
  bcast_S_S4096x100 := by decide
  reducesTo_S4096x100_S_d0_1 := by decide
  h_S_ := by decide
  bcast_S_S200x512 := by decide
  reducesTo_S200x512_S_d0_1 := by decide
  bcast_S_S512 := by decide
  reducesTo_S512_S_d0 := by decide
  bcast_S_S512x100000 := by decide
  reducesTo_S512x100000_S_d0_1 := by decide
  bcast_S_S100000 := by decide
  reducesTo_S100000_S_d0 := by decide

end Cert.Pre_in_range.Gen
-- ==== Proof.PreRead.lean ====
/- What the precondition says of the arguments, and the bounds of the scores that follow. -/
module

public import proofs.«01_k».proof.Proof.PreFacts
public import proofs.«01_k».proof.Proof.Spec
public import Idealize.ShloMosaic.Lib.ReduceAll
public import Idealize.ShloMosaic.PureOps.Ideal.Laws

@[expose] public section

set_option maxRecDepth 16384

noncomputable section

namespace Cert.PreRead

open Cert.Pre_in_range Cert.Pre_in_range.Gen Cert.Pre_in_range.Facts
open Idealize.ShloMosaic Cert.Spec Cert.Gumbel

/-- A number that is real and no larger than a bound. -/
def Bd (x : EReal) (B : ℝ) : Prop := ∃ s : ℝ, x = s ∧ |s| ≤ B

theorem Bd.mono {x : EReal} {A B : ℝ} (h : Bd x A) (hAB : A ≤ B) : Bd x B := by
  obtain ⟨s, e, hs⟩ := h; exact ⟨s, e, hs.trans hAB⟩

theorem Bd.add {x y : EReal} {A B : ℝ} (hx : Bd x A) (hy : Bd y B) : Bd (x + y) (A + B) := by
  obtain ⟨s, rfl, hs⟩ := hx; obtain ⟨t, rfl, ht⟩ := hy
  exact ⟨s + t, by rw [EReal.coe_add], (abs_add_le s t).trans (add_le_add hs ht)⟩

theorem Bd.mul {x y : EReal} {A B : ℝ} (hx : Bd x A) (hy : Bd y B) (hA : 0 ≤ A) : Bd (x * y) (A * B) := by
  obtain ⟨s, rfl, hs⟩ := hx; obtain ⟨t, rfl, ht⟩ := hy
  exact ⟨s * t, by rw [EReal.coe_mul], by rw [abs_mul]; exact mul_le_mul hs ht (abs_nonneg t) hA⟩

theorem Bd.max_zero {x : EReal} {A : ℝ} (hx : Bd x A) (hA : 0 ≤ A) : Bd (max x 0) A := by
  rcases le_total x 0 with h | h
  · rw [max_eq_right h]; exact ⟨0, by simp, by simpa using hA⟩
  · rw [max_eq_left h]; exact hx

theorem Bd.sum {n : ℕ} {f : Fin n → EReal} {B : ℝ} (h : ∀ i, Bd (f i) B) : Bd (∑ i, f i) (n * B) := by
  choose s hs hb using h
  refine ⟨∑ i, s i, ?_, ?_⟩
  · rw [← coe_sum]; exact Finset.sum_congr rfl fun i _ => hs i
  · refine (Finset.abs_sum_le_sum_abs _ _).trans ((Finset.sum_le_sum fun i _ => hb i).trans ?_)
    rw [Finset.sum_const, Finset.card_univ, Fintype.card_fin, nsmul_eq_mul]

theorem limit : Ideal.ofBits .f32 0x49800000#32 = (((2 : ℝ) ^ 20 : ℝ) : EReal) := by
  show Ideal.ieee 8 23 (0x49800000#32) = _
  simp only [Ideal.ieee, show ((0x49800000#32).extractLsb' (8 + 23) 1 == 1#1) = false from rfl,
    show ((0x49800000#32).extractLsb' 23 8).toNat = 147 from rfl, show ((0x49800000#32).extractLsb' 0 23).toNat = 0 from rfl]
  norm_num [← EReal.coe_mul]

/-- The value the running bests start from. -/
def low : EReal := Ideal.ofBits .f32 0xFF7FC99E#32

theorem low_lt : low < ((-(2 : ℝ) ^ 127 : ℝ) : EReal) := by
  unfold low
  have e : Ideal.ofBits .f32 0xFF7FC99E#32 = ((-(16763294 * (2 : ℝ) ^ (104 : ℤ)) : ℝ) : EReal) := by
    show Ideal.ieee 8 23 (0xFF7FC99E#32) = _
    simp only [Ideal.ieee, show ((0xFF7FC99E#32).extractLsb' (8 + 23) 1 == 1#1) = true from rfl,
      show ((0xFF7FC99E#32).extractLsb' 23 8).toNat = 254 from rfl, show ((0xFF7FC99E#32).extractLsb' 0 23).toNat = 8374686 from rfl]
    norm_num [← EReal.coe_mul]
  rw [e]
  exact EReal.coe_lt_coe_iff.mpr (by norm_num)

theorem small {x : EReal} (h : Ideal.cmp .ole (max x (-x)) (Ideal.ofBits .f32 0x49800000#32) = 1#1) : Bd x (2 ^ 20) := by
  have hle : max x (-x) ≤ Ideal.ofBits .f32 0x49800000#32 := by
    by_contra hc
    simp [Ideal.cmp, hc] at h
  rw [limit] at hle
  obtain ⟨h1, h2⟩ := max_le_iff.mp hle
  induction x using EReal.rec with
  | bot => rw [EReal.neg_bot, top_le_iff] at h2; exact absurd h2 (EReal.coe_ne_top _)
  | coe r =>
    refine ⟨r, rfl, abs_le'.mpr ⟨EReal.coe_le_coe_iff.mp h1, ?_⟩⟩
    rw [← EReal.coe_neg] at h2
    exact EReal.coe_le_coe_iff.mp h2
  | top => rw [top_le_iff] at h1; exact absurd h1 (EReal.coe_ne_top _)

theorem zero {x : EReal} (h : Ideal.cmp .oeq x (Ideal.ofBits .f32 0x00000000#32) = 1#1) : x = 0 := by
  by_contra hc
  rw [Ideal.ofBits_zero_f32] at h
  simp [Ideal.cmp, hc] at h

theorem elem {s : Shape} (x : FVec Ideal s .f32) (hb) (i : s.Idx)
    (e : cmpf .ole (Host.absf x) (broadcastInDim s ![] hb (constant (F := Ideal) S_ .f32 0x49800000#32)) i = 1#1) : Bd (x i) (2 ^ 20) :=
  small e

theorem elem_zero {s : Shape} (x : FVec Ideal s .f32) (hb) (i : s.Idx)
    (e : cmpf .oeq x (broadcastInDim s ![] hb (constant (F := Ideal) S_ .f32 0x00000000#32)) i = 1#1) : x i = (0 : EReal) :=
  zero e

instance : Subsingleton S_.Idx := ⟨fun a b => funext fun i => i.elim0⟩

theorem read {a0 a1 a2 a3 a4 a5} (h : Cert.Pre_in_range.fn (F := Ideal) a0 a1 a2 a3 a4 a5 = fun _ => 1#1) :
    (∀ i, Bd (a0 i) (2 ^ 20)) ∧ (∀ i, Bd (a1 i) (2 ^ 20)) ∧ (∀ i, Bd (a2 i) (2 ^ 20)) ∧ (∀ i, Bd (a3 i) (2 ^ 20))
      ∧ (∀ i, Bd (a4 i) (2 ^ 20)) ∧ ∀ i, a5 i = (0 : EReal) := by
  have e := congrFun h (Shape.Idx.first h_S_)
  unfold Cert.Pre_in_range.fn Cert.Pre_in_range.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => elem _ _ i (Host.reduce_andi_all _ _ _ _ _ e0 i), fun i => elem _ _ i (Host.reduce_andi_all _ _ _ _ _ e1 i),
    fun i => elem _ _ i (Host.reduce_andi_all _ _ _ _ _ e2 i), fun i => elem _ _ i (Host.reduce_andi_all _ _ _ _ _ e3 i),
    fun i => elem _ _ i (Host.reduce_andi_all _ _ _ _ _ e4 i), fun i => elem_zero _ _ i (Host.reduce_andi_all _ _ _ _ _ e5 i)⟩

section Bounds
variable {I : Inputs} (hn : ∀ R k, Bd (I.noise R k) (2 ^ 20)) (hw : ∀ R k, Bd (I.word R k) (2 ^ 20))
  (h1 : ∀ i k, Bd (I.w1 i k) (2 ^ 20)) (hb : ∀ k, Bd (I.b1 k) (2 ^ 20)) (h2 : ∀ k n, Bd (I.w2 k n) (2 ^ 20))
include hn hw h1 hb h2

/-- Bounded arguments give real scores that are not large. -/
theorem good : I.Good := fun R n hlt => by
  have hrow : ∀ k, Bd (I.row R k) (2 ^ 20) := fun k => by
    unfold Inputs.row; split
    · exact hn _ _
    · exact hw _ _
  have hh : ∀ k, Bd (I.hidden R k) (2 ^ 48) := fun k => by
    unfold Inputs.hidden
    refine Bd.max_zero (Bd.mono (Bd.add (Bd.sum fun i => Bd.mul (hrow i) (h1 i k) (by norm_num)) (hb k)) (by norm_num)) (by norm_num)
  have hs : Bd (I.score R n) (2 ^ 77) := by
    unfold Inputs.score
    rw [dif_pos hlt]
    exact Bd.mono (Bd.sum fun k => Bd.mul (hh k) (h2 k _) (by norm_num)) (by norm_num)
  exact hs

end Bounds

theorem low_lt_score {I : Inputs} (hg : I.Good) (R : Fin 4096) {n : ℕ} (hn : n < 100000) : low < I.score R n := by
  obtain ⟨s, e, hs⟩ := hg R n hn
  rw [e]
  refine low_lt.trans (EReal.coe_lt_coe_iff.mpr ?_)
  have := (abs_le.mp hs).1
  norm_num at this ⊢
  linarith

theorem low_lt_drawn {I : Inputs} (hg : I.Good) (R : Fin 4096) {n : ℕ} (hn : n < 100000) : low < I.drawn R n := by
  obtain ⟨s, e, hs⟩ := hg R n hn
  obtain ⟨g, eg, hg'⟩ := gum_real (Inputs.flat R n)
  unfold Inputs.drawn
  rw [e, eg, ← EReal.coe_add]
  refine low_lt.trans (EReal.coe_lt_coe_iff.mpr ?_)
  have := (abs_le.mp hs).1
  norm_num at this ⊢
  linarith

end Cert.PreRead

end
-- ==== Proof.KernelIdealValue.lean ====
/- What the kernel's scratch buffers hold after every grid point, and the result blocks that follow. -/
module

public import proofs.«01_k».proof.Proof.KernelIdealRead
public import proofs.«01_k».proof.Proof.KernelIdealDraws
public import proofs.«01_k».proof.Proof.PreRead

@[expose] public section

set_option maxRecDepth 16384

noncomputable section

namespace Cert.KernelIdeal.Read

open Cert.KernelIdeal Cert.KernelIdeal.Gen Cert.KernelIdeal.Run
open Idealize.ShloMosaic Idealize.ShloMosaic.TcCoe Idealize.ShloMosaic.Tactic
open Cert.Gumbel Cert.Argmax Cert.Spec Cert.PreRead
open Cert.Spec.Inputs (flat)

/-- A running best with its column as a word. -/
def word (p : EReal × ℕ) : EReal × BitVec 32 := (p.1, BitVec.ofNat 32 p.2)

theorem updw_word (p : EReal × ℕ) (x : EReal) (n : ℕ) : updw (word p) x (BitVec.ofNat 32 n) = word (upd p x n) := by
  unfold updw upd word
  split <;> rfl

theorem four_word (f : ℕ → EReal) (l B : ℕ) (x : Fin 4 → EReal) (n : Fin 4 → BitVec 32)
    (hx : ∀ q : Fin 4, x q = f (128 * (4 * B + q.val) + l)) (hn : ∀ q : Fin 4, n q = BitVec.ofNat 32 (128 * (4 * B + q.val) + l)) :
    four (word (Argmax.best low f l (4 * B))) x n = word (Argmax.best low f l (4 * (B + 1))) := by
  unfold four
  rw [hx, hx, hx, hx, hn, hn, hn, hn, updw_word, updw_word, updw_word, updw_word]
  rfl

/-- What the scratch buffers hold once the first `B` blocks of columns are done, for the rows `ρ`. -/
structure At (I : Inputs) (ρ : Fin 2048 → Fin 4096) (B : ℕ) (σ : St Ideal) : Prop where
  h : ∀ (r : Fin 2048) (k : Fin 512), σ.h (ix2 r k) = I.hidden (ρ r) k
  f : ∀ (r : Fin 2048) (j : Fin 512), σ.f (ix2 r j) = flat (ρ r) (512 * B + j.val)
  s : ∀ (r : Fin 2048) (l : Fin 128), σ.s (ix2 r l) = ∑ q ∈ Finset.range (4 * B), Ideal.exp (I.score (ρ r) (128 * q + l.val))
  t : ∀ (r : Fin 2048) (l : Fin 128), σ.t (ix2 r l)
    = ∑ q ∈ Finset.range (4 * B), Ideal.exp (I.score (ρ r) (128 * q + l.val)) * I.score (ρ r) (128 * q + l.val)
  a : ∀ (r : Fin 2048) (l : Fin 128), ((σ.av (ix2 r l) : EReal), (σ.ai (ix2 r l) : BitVec 32)) = word (Argmax.best low (I.score (ρ r)) l.val (4 * B))
  c : ∀ (r : Fin 2048) (l : Fin 128), ((σ.cv (ix2 r l) : EReal), (σ.ci (ix2 r l) : BitVec 32)) = word (Argmax.best low (I.drawn (ρ r)) l.val (4 * B))

section
variable {I : Inputs} {ρ : Fin 2048 → Fin 4096}

theorem At.start (i : grid0.Coords) (x0 : Vec Ideal S2048x200 .f32) (x1 : Vec Ideal S200x512 .f32) (x2 : Vec Ideal S1x512 .f32)
    (hρ : ∀ r, (ρ r).val = 2048 * (i 0).val + r.val)
    (h0 : ∀ r k, x0 (ix2 r k) = I.row (ρ r) k) (h1 : ∀ j k, x1 (ix2 j k) = I.w1 j k) (h2 : ∀ k, x2 (ix2 0 k) = I.b1 k) :
    At I ρ 0 (start i x0 x1 x2) where
  h r k := by
    have e : k0_pay3 x0 x1 x2 (ix2 r k) = max (∑ j : Fin 200, x0 (ix2 r j) * x1 (ix2 j k) + x2 (ix2 0 k)) 0 := by
      pointwise [k0_pay3, dot_S2048x200_S200x512_S2048x512_1_0_0_1_n_n]
    show k0_pay3 x0 x1 x2 (ix2 r k) = _
    rw [e]
    simp only [h0, h1, h2]
    rfl
  f r j := by
    show k0_pay4 (BitVec.ofNat 32 (i 0).val) (ix2 r j) = _
    have e : k0_pay4 (BitVec.ofNat 32 (i 0).val) (ix2 r j)
      = (BitVec.ofNat 32 r.val + BitVec.ofNat 32 (i 0).val * BitVec.ofNat 32 2048) * BitVec.ofNat 32 100000 + BitVec.ofNat 32 j.val + BitVec.ofNat 32 42 := by
      pointwise [k0_pay4]
      rfl
    rw [e]
    unfold flat
    rw [hρ]
    simp only [← BitVec.ofNat_mul, ← BitVec.ofNat_add]
    refine congrArg (BitVec.ofNat 32) ?_
    ring
  s r l := by
    show k0_pay5 (F := Ideal) (ix2 r l) = _
    pointwise [k0_pay5]
    simp
  t r l := by
    show k0_pay6 (F := Ideal) (ix2 r l) = _
    pointwise [k0_pay6]
    simp
  a r l := by
    show (k0_pay50 (F := Ideal) (Scalar.ofBits .f32 0xFF7FC99E#32) (ix2 r l), k0_pay51 (ix2 r l)) = (low, BitVec.ofNat 32 0)
    refine Prod.ext ?_ ?_
    · pointwise [k0_pay50]
      rfl
    · pointwise [k0_pay51]
  c r l := by
    show (k0_pay52 (F := Ideal) (ix2 r l), k0_pay53 (ix2 r l)) = (low, BitVec.ofNat 32 0)
    refine Prod.ext ?_ ?_
    · pointwise [k0_pay52]
      rfl
    · pointwise [k0_pay53]

theorem range_four (g : ℕ → EReal) (B : ℕ) :
    ∑ q ∈ Finset.range (4 * (B + 1)), g q = ∑ q ∈ Finset.range (4 * B), g q + g (4 * B + 0) + g (4 * B + 1) + g (4 * B + 2) + g (4 * B + 3) := by
  rw [show 4 * (B + 1) = 4 * B + 1 + 1 + 1 + 1 by ring, Finset.sum_range_succ, Finset.sum_range_succ, Finset.sum_range_succ, Finset.sum_range_succ]
  rfl

theorem step_best (i : grid0.Coords) (w : Vec Ideal S512x512 .f32) (σ : St Ideal) (r : Fin 2048) (l : Fin 128) :
    (((step i w σ).av (ix2 r l) : EReal), ((step i w σ).ai (ix2 r l) : BitVec 32))
      = four (σ.av (ix2 r l), σ.ai (ix2 r l)) (fun q => k0_pay54 i σ.h w (ix2 r (col l q))) (colWord i l) := by
  rw [← best_four]
  unfold step
  dsimp only

theorem step_drawn (i : grid0.Coords) (w : Vec Ideal S512x512 .f32) (σ : St Ideal) (r : Fin 2048) (l : Fin 128) :
    (((step i w σ).cv (ix2 r l) : EReal), ((step i w σ).ci (ix2 r l) : BitVec 32))
      = four (σ.cv (ix2 r l), σ.ci (ix2 r l)) (fun q => k0_pay54 i σ.h w (ix2 r (col l q)) + ofUnit (draws (F := Ideal) σ.f (ix2 r (col l q)))) (colWord i l) := by
  rw [← drawn_four]
  unfold step
  dsimp only

theorem At.step {B : ℕ} {σ : St Ideal} (hσ : At I ρ B σ) (i : grid0.Coords) (hi : (i 1).val = B) (w : Vec Ideal S512x512 .f32)
    (hw : ∀ (k j : Fin 512) (h : 512 * B + j.val < 100000), w (ix2 k j) = I.w2 k ⟨512 * B + j.val, h⟩) :
    At I ρ (B + 1) (step i w σ) := by
  have hsc : ∀ (r : Fin 2048) (j : Fin 512), k0_pay54 i σ.h w (ix2 r j) = I.score (ρ r) (512 * B + j.val) := fun r j => by
    rw [pay54_apply, hi]
    unfold Inputs.score
    split
    · next h => exact Finset.sum_congr rfl fun k _ => by rw [hσ.h, hw k j h]
    · rfl
  have hcol : ∀ (l : Fin 128) (q : Fin 4), 512 * B + (col l q).val = 128 * (4 * B + q.val) + l.val := fun l q => by
    show 512 * B + (128 * q.val + l.val) = _; ring
  have hq : ∀ (r : Fin 2048) (l : Fin 128) (q : Fin 4), sc i w σ r l q = I.score (ρ r) (128 * (4 * B + q.val) + l.val) := fun r l q => by
    unfold sc; rw [hsc, hcol]
  have hn : ∀ (l : Fin 128) (q : Fin 4), colWord i l q = BitVec.ofNat 32 (128 * (4 * B + q.val) + l.val) := fun l q => by
    unfold colWord; rw [hi]; refine congrArg (BitVec.ofNat 32) ?_; ring
  refine ⟨hσ.h, fun r j => ?_, fun r l => ?_, fun r l => ?_, fun r l => ?_, fun r l => ?_⟩
  · rw [step_f, hσ.f]
    unfold flat
    rw [show (512#32 : BitVec 32) = BitVec.ofNat 32 512 from rfl, ← BitVec.ofNat_add]
    refine congrArg (BitVec.ofNat 32) ?_; ring
  · rw [step_s, hσ.s, range_four, hq, hq, hq, hq]
    rfl
  · rw [step_t, hσ.t, range_four (fun q => Ideal.exp (I.score (ρ r) (128 * q + l.val)) * I.score (ρ r) (128 * q + l.val)), hq, hq, hq, hq]
    rfl
  · rw [← four_word (I.score (ρ r)) l.val B (fun q => k0_pay54 i σ.h w (ix2 r (col l q))) (colWord i l) (fun q => hq r l q) (hn l), ← hσ.a r l]
    exact step_best i w σ r l
  · have hd : ∀ q : Fin 4, k0_pay54 i σ.h w (ix2 r (col l q)) + ofUnit (draws (F := Ideal) σ.f (ix2 r (col l q)))
        = I.drawn (ρ r) (128 * (4 * B + q.val) + l.val) := fun q => by
      rw [draws_apply, hσ.f, hsc, hcol]; rfl
    rw [← four_word (I.drawn (ρ r)) l.val B (fun q => k0_pay54 i σ.h w (ix2 r (col l q)) + ofUnit (draws (F := Ideal) σ.f (ix2 r (col l q)))) (colWord i l) hd (hn l), ← hσ.c r l]
    exact step_drawn i w σ r l

end

/-! The results -/

theorem neg_inf : Ideal.ofBits FTy.f32 4286578688#32 = ⊥ := by
  show Ideal.ieee 8 23 (0xFF800000#32) = _
  simp [Ideal.ieee]

/-- The least of the words that are not below one of them. -/
theorem fold_min {n : ℕ} {v : Fin n → BitVec 32} {z : BitVec 32} (hv : ∀ l, z.toInt ≤ (v l).toInt) (l : Fin n) (hl : v l = z) :
    (Finset.univ : Finset (Fin n)).fold IntOp.minsi 2147483647#32 v = z := by
  have hmin : ∀ a b : BitVec 32, (IntOp.minsi a b = if a.toInt < b.toInt then a else b) ∨ (IntOp.minsi a b = if a.toInt ≤ b.toInt then a else b) := fun a b => by
    simp only [IntOp.minsi, BitVec.slt, BitVec.sle, decide_eq_true_eq]; tauto
  have hle : ∀ x : BitVec 32, x.toInt ≤ (2147483647#32).toInt := fun x => by
    have := BitVec.toInt_lt (x := x)
    have e : (2147483647#32 : BitVec 32).toInt = 2147483647 := by decide
    rw [e]; norm_num at this; omega
  have main : ∀ s : Finset (Fin n), z.toInt ≤ (s.fold IntOp.minsi 2147483647#32 v).toInt
      ∧ (l ∈ s → s.fold IntOp.minsi 2147483647#32 v = z) := by
    intro s
    induction s using Finset.induction_on with
    | empty => exact ⟨hle z, fun h => absurd h (Finset.notMem_empty _)⟩
    | insert a s ha ih =>
      rw [Finset.fold_insert ha]
      obtain ⟨i1, i2⟩ := ih
      have hva := hv a
      generalize s.fold IntOp.minsi 2147483647#32 v = y at i1 i2 ⊢
      have both : IntOp.minsi (v a) y = v a ∨ IntOp.minsi (v a) y = y := by
        rcases hmin (v a) y with e | e <;> rw [e] <;> split <;> simp
      have hmle : (IntOp.minsi (v a) y).toInt ≤ (v a).toInt ∧ (IntOp.minsi (v a) y).toInt ≤ y.toInt := by
        rcases hmin (v a) y with e | e <;> rw [e] <;> split <;> constructor <;> omega
      have hge : z.toInt ≤ (IntOp.minsi (v a) y).toInt := by rcases both with e | e <;> rw [e] <;> assumption
      refine ⟨hge, fun hm => ?_⟩
      rcases Finset.mem_insert.mp hm with rfl | hm
      · rw [hl] at hmle ⊢ hge
        exact BitVec.eq_of_toInt_eq (le_antisymm hmle.1 hge)
      · rw [i2 hm] at hmle ⊢ hge
        exact BitVec.eq_of_toInt_eq (le_antisymm hmle.2 hge)
  exact (main Finset.univ).2 (Finset.mem_univ l)

theorem ofNat_toInt {n : ℕ} (h : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega

section Pick
variable (a : Vec Ideal S2048x128 .f32) (b : Vec Ideal S2048x128 .i32) (r : Fin 2048)
  {f : ℕ → EReal} (hlow : ∀ n < 100000, low < f n) (hout : ∀ n, 100000 ≤ n → f n = ⊥) {A : ℕ} (hA : First f 100000 A)
  (hab : ∀ l : Fin 128, ((a (ix2 r l) : EReal), (b (ix2 r l) : BitVec 32)) = word (Argmax.best low f l.val (4 * 196)))
include hlow hout hA hab

theorem pick_max : Finset.fold max ⊥ (fun x : Fin 128 => (a (ix2 r x) : EReal)) Finset.univ = f A := by
  refine fold_max_eq (fun l => ?_) ⟨A % 128, Nat.mod_lt _ (by norm_num)⟩ ?_
  · have e := congrArg Prod.fst (hab l)
    have e' : (a (ix2 r l) : EReal) = (Argmax.best low f l.val (783 + 1)).1 := e
    rw [e']
    exact (best_le hlow hout hA l.isLt (by norm_num) 783).1
  · have e := congrArg Prod.fst (hab ⟨A % 128, Nat.mod_lt _ (by norm_num)⟩)
    have e' : (a (ix2 r ⟨A % 128, Nat.mod_lt _ (by norm_num)⟩) : EReal) = (Argmax.best low f (A % 128) (783 + 1)).1 := e
    rw [e', best_eq hlow hout hA (by norm_num) 783 (by norm_num)]

theorem pick_min : Finset.fold IntOp.minsi 2147483647#32 (fun x : Fin 128 => if (a (ix2 r x) : EReal) = f A then (b (ix2 r x) : BitVec 32) else 2147483647#32)
    Finset.univ = BitVec.ofNat 32 A := by
  have hAl := hA.lt
  refine fold_min (fun l => ?_) ⟨A % 128, Nat.mod_lt _ (by norm_num)⟩ ?_
  · have e1 : (a (ix2 r l) : EReal) = (Argmax.best low f l.val (783 + 1)).1 := congrArg Prod.fst (hab l)
    have e2 : (b (ix2 r l) : BitVec 32) = BitVec.ofNat 32 (Argmax.best low f l.val (783 + 1)).2 := congrArg Prod.snd (hab l)
    split
    · next h =>
      rw [e1] at h
      rw [e2]
      have h2 := (best_le hlow hout hA l.isLt (by norm_num) 783).2 h
      have h3 := (best_spec hlow hout l.isLt (by norm_num) 783).2.2.1
      rw [ofNat_toInt (by omega), ofNat_toInt (by omega)]
      exact_mod_cast h2
    · rw [ofNat_toInt (by omega)]
      have e : (2147483647#32 : BitVec 32).toInt = 2147483647 := by decide
      rw [e]; omega
  · have e1 : (a (ix2 r ⟨A % 128, Nat.mod_lt _ (by norm_num)⟩) : EReal) = (Argmax.best low f (A % 128) (783 + 1)).1 := congrArg Prod.fst (hab ⟨A % 128, Nat.mod_lt _ (by norm_num)⟩)
    have e2 : (b (ix2 r ⟨A % 128, Nat.mod_lt _ (by norm_num)⟩) : BitVec 32) = BitVec.ofNat 32 (Argmax.best low f (A % 128) (783 + 1)).2 := congrArg Prod.snd (hab ⟨A % 128, Nat.mod_lt _ (by norm_num)⟩)
    rw [best_eq hlow hout hA (by norm_num) 783 (by norm_num)] at e1 e2
    rw [if_pos e1, e2]

end Pick

section Results
variable {I : Inputs} {ρ : Fin 2048 → Fin 4096} {σ : St Ideal} (hg : I.Good) (hσ : At I ρ 196 σ) (r : Fin 2048)
include hg hσ

theorem score_out (R : Fin 4096) (n : ℕ) (h : 100000 ≤ n) : I.score R n = ⊥ := by
  unfold Inputs.score; rw [dif_neg (by omega)]

theorem drawn_out (R : Fin 4096) (n : ℕ) (h : 100000 ≤ n) : I.drawn R n = ⊥ := by
  unfold Inputs.drawn Inputs.score; rw [dif_neg (by omega), EReal.bot_add]

theorem action_apply (z : Fin 1) : outAction σ (ix2 r z) = BitVec.ofNat 32 (I.action (ρ r)) := by
  have hA := I.action_first (ρ r)
  have hlow : ∀ n < 100000, low < I.drawn (ρ r) n := fun n hn => low_lt_drawn hg (ρ r) hn
  have e : k0_pay12 σ.cv σ.ci (ix2 r z) = Finset.fold IntOp.minsi (2147483647#32)
      (fun x : Fin 128 => if (σ.cv (ix2 r x) : EReal) = Finset.fold max (Ideal.ofBits FTy.f32 4286578688#32) (fun x => σ.cv (ix2 r x)) Finset.univ
        then (σ.ci (ix2 r x) : BitVec 32) else 2147483647#32) Finset.univ := by
    pointwise [k0_pay12, k0_pay11]
  show k0_pay12 σ.cv σ.ci (ix2 r z) = _
  rw [e, neg_inf, pick_max σ.cv σ.ci r hlow (drawn_out hg hσ (ρ r)) hA (hσ.c r), pick_min σ.cv σ.ci r hlow (drawn_out hg hσ (ρ r)) hA (hσ.c r)]

theorem best_apply (z : Fin 1) : outBest σ (ix2 r z) = BitVec.ofNat 32 (I.best (ρ r)) := by
  have hA := I.best_first (ρ r)
  have hlow : ∀ n < 100000, low < I.score (ρ r) n := fun n hn => low_lt_score hg (ρ r) hn
  have e : k0_pay10 σ.av σ.ai (ix2 r z) = Finset.fold IntOp.minsi (2147483647#32)
      (fun x : Fin 128 => if (σ.av (ix2 r x) : EReal) = Finset.fold max (Ideal.ofBits FTy.f32 4286578688#32) (fun x => σ.av (ix2 r x)) Finset.univ
        then (σ.ai (ix2 r x) : BitVec 32) else 2147483647#32) Finset.univ := by
    pointwise [k0_pay10]
  show k0_pay10 σ.av σ.ai (ix2 r z) = _
  rw [e, neg_inf, pick_max σ.av σ.ai r hlow (score_out hg hσ (ρ r)) hA (hσ.a r), pick_min σ.av σ.ai r hlow (score_out hg hσ (ρ r)) hA (hσ.a r)]

theorem total_apply (z : Fin 1) : k0_pay7 σ.s (ix2 r z) = I.total (ρ r) := by
  have e : k0_pay7 σ.s (ix2 r z) = ∑ x : Fin 128, σ.s (ix2 r x) := by pointwise [k0_pay7]
  rw [e]
  simp only [hσ.s]
  exact lane_sum (fun n => Ideal.exp (I.score (ρ r) n)) fun n hn => by rw [score_out hg hσ _ _ hn]; exact exp_bot

theorem moment_apply (z : Fin 1) : k0_pay8 σ.t (ix2 r z) = I.moment (ρ r) := by
  have e : k0_pay8 σ.t (ix2 r z) = ∑ x : Fin 128, σ.t (ix2 r x) := by pointwise [k0_pay8]
  rw [e]
  simp only [hσ.t]
  exact lane_sum (fun n => Ideal.exp (I.score (ρ r) n) * I.score (ρ r) n) fun n hn => by
    rw [score_out hg hσ _ _ hn, exp_bot, zero_mul]

theorem log_apply (z : Fin 1) : k0_pay9 σ.s (ix2 r z) = Ideal.log (I.total (ρ r)) := by
  rw [← total_apply hg hσ r z]
  rfl

theorem entropy_apply (z : Fin 1) : outEntropy σ (ix2 r z) = I.entropy (ρ r) := by
  have e : outEntropy σ (ix2 r z) = k0_pay9 σ.s (ix2 r z) - Ideal.div (k0_pay8 σ.t (ix2 r z)) (k0_pay7 σ.s (ix2 r z)) := rfl
  rw [e, log_apply hg hσ, moment_apply hg hσ, total_apply hg hσ]
  rfl

theorem logProb_apply (i : grid0.Coords) (hρ : ∀ r, (ρ r).val = 2048 * (i 0).val + r.val) (z : Fin 1) :
    outLogProb i σ (ix2 r z) = I.logProb (ρ r) := by
  have e : outLogProb i σ (ix2 r z) = k0_pay11 σ.cv (ix2 r z) - drawsAt i σ (ix2 r z) - k0_pay9 σ.s (ix2 r z) := rfl
  have hA := I.action_first (ρ r)
  have hlow : ∀ n < 100000, low < I.drawn (ρ r) n := fun n hn => low_lt_drawn hg (ρ r) hn
  have e1 : k0_pay11 σ.cv (ix2 r z) = I.drawn (ρ r) (I.action (ρ r)) := by
    have e' : k0_pay11 σ.cv (ix2 r z) = Finset.fold max (Ideal.ofBits FTy.f32 4286578688#32) (fun x : Fin 128 => (σ.cv (ix2 r x) : EReal)) Finset.univ := by
      pointwise [k0_pay11]
    rw [e', neg_inf, pick_max σ.cv σ.ci r hlow (drawn_out hg hσ (ρ r)) hA (hσ.c r)]
  have e2 : k0_pay13 (F := Ideal) (BitVec.ofNat 32 (i 0).val) σ.cv σ.ci (ix2 r z) = flat (ρ r) (I.action (ρ r)) := by
    have e' : k0_pay13 (F := Ideal) (BitVec.ofNat 32 (i 0).val) σ.cv σ.ci (ix2 r z)
      = (BitVec.ofNat 32 r.val + BitVec.ofNat 32 (i 0).val * BitVec.ofNat 32 2048) * BitVec.ofNat 32 100000 + outAction σ (ix2 r z) + BitVec.ofNat 32 42 := by
      unfold outAction k0_pay13
      generalize k0_pay12 σ.cv σ.ci = y
      pointwise
      rfl
    rw [e', action_apply hg hσ]
    unfold flat
    rw [hρ]
    simp only [← BitVec.ofNat_mul, ← BitVec.ofNat_add]
    refine congrArg (BitVec.ofNat 32) ?_
    ring
  rw [e, e1, drawsAt_apply, e2, log_apply hg hσ]
  obtain ⟨x, hx, _⟩ := hg (ρ r) _ hA.lt
  obtain ⟨g, hg', _⟩ := gum_real (flat (ρ r) (I.action (ρ r)))
  unfold Inputs.logProb Inputs.drawn
  rw [hx, hg', ← EReal.coe_add, ← EReal.coe_sub, add_sub_cancel_right]

end Results

end Cert.KernelIdeal.Read

end
-- ==== Proof.KernelIdealEnd.lean ====
module

public import proofs.«01_k».proof.Proof.KernelIdealInputs
public import proofs.«01_k».proof.Proof.KernelIdealValue
public import Idealize.ShloMosaic.Lib.Pipeline.ValueKit.Geometry

/-! The four results of the kernel's run, as functions of its arguments. -/

@[expose] public section

set_option maxRecDepth 16384

noncomputable section

namespace Cert.KernelIdeal.Read

open Cert.KernelIdeal Cert.KernelIdeal.Gen Cert.KernelIdeal.Run
open Idealize.ShloMosaic Idealize.ShloMosaic.TcCoe Idealize.ShloMosaic.Tactic Idealize.SL.Sem
open Idealize.ShloMosaic.Pipeline (Dat Cfg Window)
open Cert.Spec

variable (m : (ℓ : Loc nD τ sig) → Buf (Elt Ideal) ℓ)

section
variable (c : Dev nD) (hg : (inputs m c).Good)

theorem row_at (t : Fin cfg0.N) (r : Fin 2048) : (rowOf (rows t) r).val = 2048 * (grid0.coords t 0).val + r.val := by
  rw [coord0]; rfl

/-- The scratch after a grid point: each row holds what its columns read so far say. -/
def After (n : ℕ) (σ : St Ideal) : Prop :=
  ∀ t : Fin cfg0.N, n = t.val + 1 → At (inputs m c) (rowOf (rows t)) (t.val % 196 + 1) σ

theorem After.of (t : Fin cfg0.N) {σ : St Ideal} (h : At (inputs m c) (rowOf (rows t)) (t.val % 196 + 1) σ) : After m c (t.val + 1) σ := by
  intro t' e
  obtain rfl : t' = t := Fin.ext (by omega)
  exact h

theorem after_first (t : Fin cfg0.N) (h : t.val % 196 = 0) (d : Vec Ideal S512x512 .f32) :
    After m c (t.val + 1) (step (grid0.coords t) (wblk m c t d) (start (grid0.coords t) (iblk m c 0 t) (iblk m c 1 t) (iblk m c 2 t))) := by
  refine After.of m c t ?_
  have h0 : At (inputs m c) (rowOf (rows t)) (t.val % 196) (start (grid0.coords t) (iblk m c 0 t) (iblk m c 1 t) (iblk m c 2 t)) := by
    rw [h]
    exact At.start (grid0.coords t) _ _ _ (row_at t) (x_apply m c t) (w1_apply m c t) (b1_apply m c t)
  exact h0.step (grid0.coords t) (coord1 t) (wblk m c t d) (w2_apply m c t d)

theorem after_next (t : Fin cfg0.N) (h : ¬ t.val % 196 = 0) (d : Vec Ideal S512x512 .f32) (σ : St Ideal)
    (hσ : t.val ≠ 0 → After m c t.val σ) : After m c (t.val + 1) (step (grid0.coords t) (wblk m c t d) σ) := by
  refine After.of m c t ?_
  have hN := lt_N t
  have hp := hσ (by omega) ⟨t.val - 1, lt_of_le_of_lt (Nat.sub_le _ _) t.isLt⟩ (by dsimp only; omega)
  have er : rows ⟨t.val - 1, lt_of_le_of_lt (Nat.sub_le _ _) t.isLt⟩ = rows t := Fin.ext (by show (t.val - 1) / 196 = t.val / 196; omega)
  have eb : (t.val - 1) % 196 + 1 = t.val % 196 := by omega
  rw [er] at hp
  have hp' : At (inputs m c) (rowOf (rows t)) (t.val % 196) σ := eb ▸ hp
  exact hp'.step (grid0.coords t) (coord1 t) (wblk m c t d) (w2_apply m c t d)

/-- An index of a column of results. -/
theorem column_idx (i : S2048x1.Idx) : ∃ (r : Fin 2048) (z : Fin 1), i = ix2 r z :=
  ⟨i 0, i 1, by funext a; match a with | ⟨0, _⟩ => rfl | ⟨1, _⟩ => rfl⟩

include hg in
theorem after_last (t : Fin cfg0.N) (h : t.val % 196 = 195) (σ : St Ideal) (hσ : After m c (t.val + 1) σ) :
    outAction σ = (fun i => BitVec.ofNat 32 ((inputs m c).action (rowOf (rows t) (i 0))))
    ∧ outLogProb (grid0.coords t) σ = (fun i => (inputs m c).logProb (rowOf (rows t) (i 0)))
    ∧ outEntropy σ = (fun i => (inputs m c).entropy (rowOf (rows t) (i 0)))
    ∧ outBest σ = (fun i => BitVec.ofNat 32 ((inputs m c).best (rowOf (rows t) (i 0)))) := by
  have hp := hσ t rfl
  rw [h] at hp
  refine ⟨funext fun i => ?_, funext fun i => ?_, funext fun i => ?_, funext fun i => ?_⟩ <;> obtain ⟨r, z, rfl⟩ := column_idx i
  · exact action_apply hg hp r z
  · exact logProb_apply hg hp r _ (row_at t) z
  · exact entropy_apply hg hp r z
  · exact best_apply hg hp r z

/-- What the run keeps. -/
def track : Track m c where
  holdsAt := After m c
  act t := fun i => BitVec.ofNat 32 ((inputs m c).action (rowOf (rows t) (i 0)))
  lp t := fun i => (inputs m c).logProb (rowOf (rows t) (i 0))
  ent t := fun i => (inputs m c).entropy (rowOf (rows t) (i 0))
  bv t := fun i => BitVec.ofNat 32 ((inputs m c).best (rowOf (rows t) (i 0)))
  first := after_first m c
  next := after_next m c
  last := after_last m c hg

theorem index4 : ∀ t : Fin cfg0.N, win0_4.index t 0 = t.val / 196 ∧ win0_4.index t 1 = 0 :=
  (by decide +kernel : ∀ t : Fin grid0.N, win0_4.index t 0 = t.val / 196 ∧ win0_4.index t 1 = 0)

/-- The array of actions after the run. -/
theorem final4 : (track m c hg).dat.arrAt 4 cfg0.N = (fun i => BitVec.ofNat 32 ((inputs m c).action (i 0)) : Vec Ideal S4096x1 .i32) := by
  refine (track m c hg).dat.arrAt_eq_of_covers 4 _ (by decide +kernel) fun t hf y => ?_
  rw [Track.after4]
  obtain ⟨e0, _⟩ := index4 t
  have e : rowOf (rows t) (((cfg0.win 4).xinj (grid0.coords t) y : S2048x1.Idx) 0) = ((((cfg0.win 4).blk t).view.emb y : S4096x1.Idx) 0) := by
    apply Fin.ext
    show 2048 * (t.val / 196) + (y 0).val = win0_4.index t (0 : Fin 2) * 2048 + 1 * (y 0).val
    omega
  exact congrArg (fun R : Fin 4096 => BitVec.ofNat 32 ((inputs m c).action R)) e

theorem index5 : ∀ t : Fin cfg0.N, win0_5.index t 0 = t.val / 196 ∧ win0_5.index t 1 = 0 :=
  (by decide +kernel : ∀ t : Fin grid0.N, win0_5.index t 0 = t.val / 196 ∧ win0_5.index t 1 = 0)

/-- The array of log probabilities after the run. -/
theorem final5 : (track m c hg).dat.arrAt 5 cfg0.N = (fun i => (inputs m c).logProb (i 0) : Vec Ideal S4096x1 .f32) := by
  refine (track m c hg).dat.arrAt_eq_of_covers 5 _ (by decide +kernel) fun t hf y => ?_
  rw [Track.after5]
  obtain ⟨e0, _⟩ := index5 t
  have e : rowOf (rows t) (((cfg0.win 5).xinj (grid0.coords t) y : S2048x1.Idx) 0) = ((((cfg0.win 5).blk t).view.emb y : S4096x1.Idx) 0) := by
    apply Fin.ext
    show 2048 * (t.val / 196) + (y 0).val = win0_5.index t (0 : Fin 2) * 2048 + 1 * (y 0).val
    omega
  exact congrArg (fun R : Fin 4096 => (inputs m c).logProb R) e

theorem index6 : ∀ t : Fin cfg0.N, win0_6.index t 0 = t.val / 196 ∧ win0_6.index t 1 = 0 :=
  (by decide +kernel : ∀ t : Fin grid0.N, win0_6.index t 0 = t.val / 196 ∧ win0_6.index t 1 = 0)

/-- The array of entropies after the run. -/
theorem final6 : (track m c hg).dat.arrAt 6 cfg0.N = (fun i => (inputs m c).entropy (i 0) : Vec Ideal S4096x1 .f32) := by
  refine (track m c hg).dat.arrAt_eq_of_covers 6 _ (by decide +kernel) fun t hf y => ?_
  rw [Track.after6]
  obtain ⟨e0, _⟩ := index6 t
  have e : rowOf (rows t) (((cfg0.win 6).xinj (grid0.coords t) y : S2048x1.Idx) 0) = ((((cfg0.win 6).blk t).view.emb y : S4096x1.Idx) 0) := by
    apply Fin.ext
    show 2048 * (t.val / 196) + (y 0).val = win0_6.index t (0 : Fin 2) * 2048 + 1 * (y 0).val
    omega
  exact congrArg (fun R : Fin 4096 => (inputs m c).entropy R) e

theorem index7 : ∀ t : Fin cfg0.N, win0_7.index t 0 = t.val / 196 ∧ win0_7.index t 1 = 0 :=
  (by decide +kernel : ∀ t : Fin grid0.N, win0_7.index t 0 = t.val / 196 ∧ win0_7.index t 1 = 0)

/-- The array of best columns after the run. -/
theorem final7 : (track m c hg).dat.arrAt 7 cfg0.N = (fun i => BitVec.ofNat 32 ((inputs m c).best (i 0)) : Vec Ideal S4096x1 .i32) := by
  refine (track m c hg).dat.arrAt_eq_of_covers 7 _ (by decide +kernel) fun t hf y => ?_
  rw [Track.after7]
  obtain ⟨e0, _⟩ := index7 t
  have e : rowOf (rows t) (((cfg0.win 7).xinj (grid0.coords t) y : S2048x1.Idx) 0) = ((((cfg0.win 7).blk t).view.emb y : S4096x1.Idx) 0) := by
    apply Fin.ext
    show 2048 * (t.val / 196) + (y 0).val = win0_7.index t (0 : Fin 2) * 2048 + 1 * (y 0).val
    omega
  exact congrArg (fun R : Fin 4096 => BitVec.ofNat 32 ((inputs m c).best R)) e

end

section
variable (W : Valuation τ sig (Elt Ideal))
theorem tail_v3 : StableHlo.after (hostOps1 (F := Ideal)) W (Proc.devRef .tc main_v3)
    = shapeCast S4096 (W (Proc.devRef .tc main_v2_0) : Vec Ideal S4096x1 .i32) shapeCasts_S4096x1_S4096 := by
  unfold hostOps1
  entry_read
  rfl
theorem tail_v4 : StableHlo.after (hostOps1 (F := Ideal)) W (Proc.devRef .tc main_v4)
    = shapeCast S4096 (W (Proc.devRef .tc main_v2_1) : Vec Ideal S4096x1 .f32) shapeCasts_S4096x1_S4096 := by
  unfold hostOps1
  entry_read
  rfl
theorem tail_v5 : StableHlo.after (hostOps1 (F := Ideal)) W (Proc.devRef .tc main_v5)
    = shapeCast S4096 (W (Proc.devRef .tc main_v2_2) : Vec Ideal S4096x1 .f32) shapeCasts_S4096x1_S4096 := by
  unfold hostOps1
  entry_read
  rfl
theorem tail_v6 : StableHlo.after (hostOps1 (F := Ideal)) W (Proc.devRef .tc main_v6)
    = shapeCast S4096 (W (Proc.devRef .tc main_v2_3) : Vec Ideal S4096x1 .i32) shapeCasts_S4096x1_S4096 := by
  unfold hostOps1
  entry_read
  rfl

end

theorem column_cast {e : EltTy} (x : Vec Ideal S4096x1 e) (R : Fin 4096) :
    shapeCast S4096 x shapeCasts_S4096x1_S4096 (ix1 R) = x (ix2 R 0) := by
  pointwise

theorem vector_idx (i : S4096.Idx) : ∃ R : Fin 4096, i = ix1 R :=
  ⟨i 0, by funext a; match a with | ⟨0, _⟩ => rfl⟩

theorem arrays_distinct : Function.Injective (Pipeline.arrRef spec0) := by decide

/-- The result actions. -/
theorem result4 (hg : ∀ c, (inputs m c).Good) (c : Dev nD) :
    Pipeline.afterTail₀ cfgs (datsOf m fun c => track m c (hg c)) 0 (V0 m) [hostOps1] c main_v3 = (fun i => BitVec.ofNat 32 ((inputs m c).action (i 0)) : Vec Ideal S4096 .i32) := by
  refine (tail_v3 _).trans ((congrArg (fun x : Vec Ideal S4096x1 .i32 => shapeCast S4096 x shapeCasts_S4096x1_S4096)
    (Pipeline.withArrays_arr spec0 arrays_distinct c _ _ 4)).trans ?_)
  funext i
  obtain ⟨R, rfl⟩ := vector_idx i
  refine (column_cast _ R).trans ?_
  exact congrFun (final4 m c (hg c)) (ix2 R 0)

/-- The result log probabilities. -/
theorem result5 (hg : ∀ c, (inputs m c).Good) (c : Dev nD) :
    Pipeline.afterTail₀ cfgs (datsOf m fun c => track m c (hg c)) 0 (V0 m) [hostOps1] c main_v4 = (fun i => (inputs m c).logProb (i 0) : Vec Ideal S4096 .f32) := by
  refine (tail_v4 _).trans ((congrArg (fun x : Vec Ideal S4096x1 .f32 => shapeCast S4096 x shapeCasts_S4096x1_S4096)
    (Pipeline.withArrays_arr spec0 arrays_distinct c _ _ 5)).trans ?_)
  funext i
  obtain ⟨R, rfl⟩ := vector_idx i
  refine (column_cast _ R).trans ?_
  exact congrFun (final5 m c (hg c)) (ix2 R 0)

/-- The result entropies. -/
theorem result6 (hg : ∀ c, (inputs m c).Good) (c : Dev nD) :
    Pipeline.afterTail₀ cfgs (datsOf m fun c => track m c (hg c)) 0 (V0 m) [hostOps1] c main_v5 = (fun i => (inputs m c).entropy (i 0) : Vec Ideal S4096 .f32) := by
  refine (tail_v5 _).trans ((congrArg (fun x : Vec Ideal S4096x1 .f32 => shapeCast S4096 x shapeCasts_S4096x1_S4096)
    (Pipeline.withArrays_arr spec0 arrays_distinct c _ _ 6)).trans ?_)
  funext i
  obtain ⟨R, rfl⟩ := vector_idx i
  refine (column_cast _ R).trans ?_
  exact congrFun (final6 m c (hg c)) (ix2 R 0)

/-- The result best columns. -/
theorem result7 (hg : ∀ c, (inputs m c).Good) (c : Dev nD) :
    Pipeline.afterTail₀ cfgs (datsOf m fun c => track m c (hg c)) 0 (V0 m) [hostOps1] c main_v6 = (fun i => BitVec.ofNat 32 ((inputs m c).best (i 0)) : Vec Ideal S4096 .i32) := by
  refine (tail_v6 _).trans ((congrArg (fun x : Vec Ideal S4096x1 .i32 => shapeCast S4096 x shapeCasts_S4096x1_S4096)
    (Pipeline.withArrays_arr spec0 arrays_distinct c _ _ 7)).trans ?_)
  funext i
  obtain ⟨R, rfl⟩ := vector_idx i
  refine (column_cast _ R).trans ?_
  exact congrFun (final7 m c (hg c)) (ix2 R 0)

/-- The kernel's run: its four results, its arguments unchanged. -/
theorem run_value (ρ : Dev nD → PrngReg) (hg : ∀ c, (inputs m c).Good) :
    θ_run defs (onTc (τ := τ) (main (F := Ideal))) ⟨m, fun _ => 0, ρ⟩ fun r => ∀ c : Dev nD,
      r.2.mem ((c.tc : Thread nD τ).loc main_v3) = (fun i => BitVec.ofNat 32 ((inputs m c).action (i 0)) : Vec Ideal S4096 .i32)
      ∧ r.2.mem ((c.tc : Thread nD τ).loc main_v4) = (fun i => (inputs m c).logProb (i 0) : Vec Ideal S4096 .f32)
      ∧ r.2.mem ((c.tc : Thread nD τ).loc main_v5) = (fun i => (inputs m c).entropy (i 0) : Vec Ideal S4096 .f32)
      ∧ r.2.mem ((c.tc : Thread nD τ).loc main_v6) = (fun i => BitVec.ofNat 32 ((inputs m c).best (i 0)) : Vec Ideal S4096 .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ?_) (run_of m ρ fun c => track m c (hg c))
  have h := hr.1 c
  have rest (b : Ref sig .tc) (h1) (h2) := h.2 b (Pipeline.mem_restRefs_of b h1 h2)
  exact ⟨(rest main_v3 (by decide) (by decide)).trans (result4 m hg c), (rest main_v4 (by decide) (by decide)).trans (result5 m hg c),
    (rest main_v5 (by decide) (by decide)).trans (result6 m hg c), (rest main_v6 (by decide) (by decide)).trans (result7 m hg c),
    (rest main_arg0 (by decide) (by decide)).trans (W_main_arg0 m _ c), (rest main_arg1 (by decide) (by decide)).trans (W_main_arg1 m _ c),
    (h.1 1).trans (((track m c (hg c)).dat.arrAt_in 1 rfl _).trans (((track m c (hg c)).dat_A 1).trans (V_main_arg2 m c))),
    (rest main_arg3 (by decide) (by decide)).trans (W_main_arg3 m _ c),
    (h.1 3).trans (((track m c (hg c)).dat.arrAt_in 3 rfl _).trans (((track m c (hg c)).dat_A 3).trans (V_main_arg4 m c))),
    (rest main_arg5 (by decide) (by decide)).trans (W_main_arg5 m _ c)⟩

end Cert.KernelIdeal.Read

end
-- ==== Proof.RefEqs.lean ====
/- What each buffer of the reference's @main holds at the end, from what its operands hold at the end. -/
module

public import proofs.«01_k».proof.Proof.RefLine

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

theorem eq_v0 (V : Valuation τ sig (Elt F)) : val V v0 = (((fun a b => concatenate S4096x200 1 [⟨S4096x100, a⟩, ⟨S4096x100, b⟩] concatenates_S4096x100_S4096x100_S4096x200_d1) : (⟨S4096x100, .f32⟩ : BufTy).Contents (Elt F) → (⟨S4096x100, .f32⟩ : BufTy).Contents (Elt F) → (⟨S4096x200, .f32⟩ : BufTy).Contents (Elt F))) (val V arg0) (val V arg1) :=
  at_binary V 0 rfl rfl (by decide) (by decide)
theorem eq_v1 (V : Valuation τ sig (Elt F)) : val V v1 = (((fun l r => Host.dotGeneral dot_S4096x200_S200x512_S4096x512_1_0_0_1_n_n none l r) : (⟨S4096x200, .f32⟩ : BufTy).Contents (Elt F) → (⟨S200x512, .f32⟩ : BufTy).Contents (Elt F) → (⟨S4096x512, .f32⟩ : BufTy).Contents (Elt F))) (val V v0) (val V arg2) :=
  at_binary V 1 rfl rfl (by decide) (by decide)
theorem eq_v2 (V : Valuation τ sig (Elt F)) : val V v2 = ((broadcastInDim S1x512 ![1] bcast_S512_S1x512_1 : (⟨S512, .f32⟩ : BufTy).Contents (Elt F) → (⟨S1x512, .f32⟩ : BufTy).Contents (Elt F))) (val V arg3) :=
  at_unary V 2 rfl rfl (by decide)
theorem eq_v3 (V : Valuation τ sig (Elt F)) : val V v3 = ((broadcastInDim S4096x512 ![0, 1] bcast_S1x512_S4096x512_0_1 : (⟨S1x512, .f32⟩ : BufTy).Contents (Elt F) → (⟨S4096x512, .f32⟩ : BufTy).Contents (Elt F))) (val V v2) :=
  at_unary V 3 rfl rfl (by decide)
theorem eq_v4 (V : Valuation τ sig (Elt F)) : val V v4 = ((addf : (⟨S4096x512, .f32⟩ : BufTy).Contents (Elt F) → (⟨S4096x512, .f32⟩ : BufTy).Contents (Elt F) → (⟨S4096x512, .f32⟩ : BufTy).Contents (Elt F))) (val V v1) (val V v3) :=
  at_binary V 4 rfl rfl (by decide) (by decide)
theorem eq_call0_cst (V : Valuation τ sig (Elt F)) : val V call0_cst = ((constant S_ .f32 0x00000000#32)) :=
  at_nullary V 5 rfl rfl
theorem eq_call0_v0 (V : Valuation τ sig (Elt F)) : val V call0_v0 = ((broadcastInDim S4096x512 ![] bcast_S_S4096x512)) (val V call0_cst) :=
  at_unary V 6 rfl rfl (by decide)
theorem eq_v5 (V : Valuation τ sig (Elt F)) : val V v5 = (maximumf) (val V v4) (val V call0_v0) :=
  at_binary V 7 rfl rfl (by decide) (by decide)
theorem eq_v6 (V : Valuation τ sig (Elt F)) : val V v6 = (((fun l r => Host.dotGeneral dot_S4096x512_S512x100000_S4096x100000_1_0_0_1_n_n none l r) : (⟨S4096x512, .f32⟩ : BufTy).Contents (Elt F) → (⟨S512x100000, .f32⟩ : BufTy).Contents (Elt F) → (⟨S4096x100000, .f32⟩ : BufTy).Contents (Elt F))) (val V v5) (val V arg4) :=
  at_binary V 8 rfl rfl (by decide) (by decide)
theorem eq_v7 (V : Valuation τ sig (Elt F)) : val V v7 = ((broadcastInDim S1x100000 ![1] bcast_S100000_S1x100000_1 : (⟨S100000, .f32⟩ : BufTy).Contents (Elt F) → (⟨S1x100000, .f32⟩ : BufTy).Contents (Elt F))) (val V arg5) :=
  at_unary V 9 rfl rfl (by decide)
theorem eq_v8 (V : Valuation τ sig (Elt F)) : val V v8 = ((broadcastInDim S4096x100000 ![0, 1] bcast_S1x100000_S4096x100000_0_1 : (⟨S1x100000, .f32⟩ : BufTy).Contents (Elt F) → (⟨S4096x100000, .f32⟩ : BufTy).Contents (Elt F))) (val V v7) :=
  at_unary V 10 rfl rfl (by decide)
theorem eq_v9 (V : Valuation τ sig (Elt F)) : val V v9 = ((addf : (⟨S4096x100000, .f32⟩ : BufTy).Contents (Elt F) → (⟨S4096x100000, .f32⟩ : BufTy).Contents (Elt F) → (⟨S4096x100000, .f32⟩ : BufTy).Contents (Elt F))) (val V v6) (val V v8) :=
  at_binary V 11 rfl rfl (by decide) (by decide)
theorem eq_call1_cst (V : Valuation τ sig (Elt F)) : val V call1_cst = ((constant S_ .f32 0xFF800000#32)) :=
  at_nullary V 12 rfl rfl
theorem eq_call1_v0 (V : Valuation τ sig (Elt F)) : val V call1_v0 = ((fun x v => Host.reduce FloatOps.maximumf x v reducesTo_S4096x100000_S4096_d1 h_S_)) (val V v9) (val V call1_cst) :=
  at_binary V 13 rfl rfl (by decide) (by decide)
theorem eq_call1_cst_0 (V : Valuation τ sig (Elt F)) : val V call1_cst_0 = ((constant S_ .f32 0xFF800000#32)) :=
  at_nullary V 14 rfl rfl
theorem eq_call1_v1 (V : Valuation τ sig (Elt F)) : val V call1_v1 = ((broadcastInDim S4096 ![] bcast_S_S4096)) (val V call1_cst_0) :=
  at_unary V 15 rfl rfl (by decide)
theorem eq_call1_v2 (V : Valuation τ sig (Elt F)) : val V call1_v2 = (maximumf) (val V call1_v1) (val V call1_v0) :=
  at_binary V 16 rfl rfl (by decide) (by decide)
theorem eq_call1_v3 (V : Valuation τ sig (Elt F)) : val V call1_v3 = ((broadcastInDim S4096x1 ![0] bcast_S4096_S4096x1_0)) (val V call1_v2) :=
  at_unary V 17 rfl rfl (by decide)
theorem eq_call1_v4 (V : Valuation τ sig (Elt F)) : val V call1_v4 = ((broadcastInDim S4096x100000 ![0, 1] bcast_S4096x1_S4096x100000_0_1)) (val V call1_v3) :=
  at_unary V 18 rfl rfl (by decide)
theorem eq_call1_v5 (V : Valuation τ sig (Elt F)) : val V call1_v5 = (subf) (val V v9) (val V call1_v4) :=
  at_binary V 19 rfl rfl (by decide) (by decide)
theorem eq_call1_v6 (V : Valuation τ sig (Elt F)) : val V call1_v6 = (Host.exp) (val V call1_v5) :=
  at_unary V 20 rfl rfl (by decide)
theorem eq_call1_cst_1 (V : Valuation τ sig (Elt F)) : val V call1_cst_1 = ((constant S_ .f32 0x00000000#32)) :=
  at_nullary V 21 rfl rfl
theorem eq_call1_v7 (V : Valuation τ sig (Elt F)) : val V call1_v7 = ((fun x v => Host.reduceAdd x v reducesTo_S4096x100000_S4096_d1 h_S_)) (val V call1_v6) (val V call1_cst_1) :=
  at_binary V 22 rfl rfl (by decide) (by decide)
theorem eq_call1_v8 (V : Valuation τ sig (Elt F)) : val V call1_v8 = ((broadcastInDim S4096x1 ![0] bcast_S4096_S4096x1_0)) (val V call1_v7) :=
  at_unary V 23 rfl rfl (by decide)
theorem eq_call1_v9 (V : Valuation τ sig (Elt F)) : val V call1_v9 = (Host.log) (val V call1_v8) :=
  at_unary V 24 rfl rfl (by decide)
theorem eq_call1_v10 (V : Valuation τ sig (Elt F)) : val V call1_v10 = ((broadcastInDim S4096x100000 ![0, 1] bcast_S4096x1_S4096x100000_0_1)) (val V call1_v9) :=
  at_unary V 25 rfl rfl (by decide)
theorem eq_v10 (V : Valuation τ sig (Elt F)) : val V v10 = (subf) (val V call1_v5) (val V call1_v10) :=
  at_binary V 26 rfl rfl (by decide) (by decide)
theorem eq_c (V : Valuation τ sig (Elt F)) : val V c = ((constantI S_ 32 42#32)) :=
  at_nullary V 27 rfl rfl
theorem eq_c_0 (V : Valuation τ sig (Elt F)) : val V c_0 = ((constantI S_ 32 32#32)) :=
  at_nullary V 28 rfl rfl
theorem eq_v11 (V : Valuation τ sig (Elt F)) : val V v11 = ((Host.shrui : (⟨S_, .i32⟩ : BufTy).Contents (Elt F) → (⟨S_, .i32⟩ : BufTy).Contents (Elt F) → (⟨S_, .i32⟩ : BufTy).Contents (Elt F))) (val V c) (val V c_0) :=
  at_binary V 29 rfl rfl (by decide) (by decide)
theorem eq_v12 (V : Valuation τ sig (Elt F)) : val V v12 = ((id : (⟨S_, .i32⟩ : BufTy).Contents (Elt F) → (⟨S_, .i32⟩ : BufTy).Contents (Elt F))) (val V v11) :=
  at_unary V 30 rfl rfl (by decide)
theorem eq_v13 (V : Valuation τ sig (Elt F)) : val V v13 = ((broadcastInDim S1 ![] bcast_S_S1 : (⟨S_, .i32⟩ : BufTy).Contents (Elt F) → (⟨S1, .i32⟩ : BufTy).Contents (Elt F))) (val V v12) :=
  at_unary V 31 rfl rfl (by decide)
theorem eq_c_1 (V : Valuation τ sig (Elt F)) : val V c_1 = ((constantI S_ 32 4294967295#32)) :=
  at_nullary V 32 rfl rfl
theorem eq_v14 (V : Valuation τ sig (Elt F)) : val V v14 = ((andi : (⟨S_, .i32⟩ : BufTy).Contents (Elt F) → (⟨S_, .i32⟩ : BufTy).Contents (Elt F) → (⟨S_, .i32⟩ : BufTy).Contents (Elt F))) (val V c) (val V c_1) :=
  at_binary V 33 rfl rfl (by decide) (by decide)
theorem eq_v15 (V : Valuation τ sig (Elt F)) : val V v15 = ((id : (⟨S_, .i32⟩ : BufTy).Contents (Elt F) → (⟨S_, .i32⟩ : BufTy).Contents (Elt F))) (val V v14) :=
  at_unary V 34 rfl rfl (by decide)
theorem eq_v16 (V : Valuation τ sig (Elt F)) : val V v16 = ((broadcastInDim S1 ![] bcast_S_S1 : (⟨S_, .i32⟩ : BufTy).Contents (Elt F) → (⟨S1, .i32⟩ : BufTy).Contents (Elt F))) (val V v15) :=
  at_unary V 35 rfl rfl (by decide)
theorem eq_v17 (V : Valuation τ sig (Elt F)) : val V v17 = (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (val V v13) (val V v16) :=
  at_binary V 36 rfl rfl (by decide) (by decide)
theorem eq_v18 (V : Valuation τ sig (Elt F)) : val V v18 = (((extractStridedSlice S1 ![0] · slices_S2_S1_0) : (⟨S2, .i32⟩ : BufTy).Contents (Elt F) → (⟨S1, .i32⟩ : BufTy).Contents (Elt F))) (val V v17) :=
  at_unary V 37 rfl rfl (by decide)
theorem eq_v19 (V : Valuation τ sig (Elt F)) : val V v19 = shapeCast _ (val V v18) shapeCasts_S1_S_ :=
  at_reshape V 38 rfl rfl (by decide)
theorem eq_v20 (V : Valuation τ sig (Elt F)) : val V v20 = (((extractStridedSlice S1 ![1] · slices_S2_S1_1) : (⟨S2, .i32⟩ : BufTy).Contents (Elt F) → (⟨S1, .i32⟩ : BufTy).Contents (Elt F))) (val V v17) :=
  at_unary V 39 rfl rfl (by decide)
theorem eq_v21 (V : Valuation τ sig (Elt F)) : val V v21 = shapeCast _ (val V v20) shapeCasts_S1_S_ :=
  at_reshape V 40 rfl rfl (by decide)
theorem eq_v22 (V : Valuation τ sig (Elt F)) : val V v22 = ((iotaInDim S4096x100000 64 0)) :=
  at_nullary V 41 rfl rfl
theorem eq_v23 (V : Valuation τ sig (Elt F)) : val V v23 = ((iotaInDim S4096x100000 64 1)) :=
  at_nullary V 42 rfl rfl
theorem eq_c_2 (V : Valuation τ sig (Elt F)) : val V c_2 = ((constantI S_ 64 100000#64)) :=
  at_nullary V 43 rfl rfl
theorem eq_v24 (V : Valuation τ sig (Elt F)) : val V v24 = ((broadcastInDim S4096x100000 ![] bcast_S_S4096x100000 : (⟨S_, .i64⟩ : BufTy).Contents (Elt F) → (⟨S4096x100000, .i64⟩ : BufTy).Contents (Elt F))) (val V c_2) :=
  at_unary V 44 rfl rfl (by decide)
theorem eq_v25 (V : Valuation τ sig (Elt F)) : val V v25 = ((muli : (⟨S4096x100000, .i64⟩ : BufTy).Contents (Elt F) → (⟨S4096x100000, .i64⟩ : BufTy).Contents (Elt F) → (⟨S4096x100000, .i64⟩ : BufTy).Contents (Elt F))) (val V v24) (val V v22) :=
  at_binary V 45 rfl rfl (by decide) (by decide)
theorem eq_c_3 (V : Valuation τ sig (Elt F)) : val V c_3 = ((constantI S_ 64 1#64)) :=
  at_nullary V 46 rfl rfl
theorem eq_v26 (V : Valuation τ sig (Elt F)) : val V v26 = ((broadcastInDim S4096x100000 ![] bcast_S_S4096x100000 : (⟨S_, .i64⟩ : BufTy).Contents (Elt F) → (⟨S4096x100000, .i64⟩ : BufTy).Contents (Elt F))) (val V c_3) :=
  at_unary V 47 rfl rfl (by decide)
theorem eq_v27 (V : Valuation τ sig (Elt F)) : val V v27 = ((muli : (⟨S4096x100000, .i64⟩ : BufTy).Contents (Elt F) → (⟨S4096x100000, .i64⟩ : BufTy).Contents (Elt F) → (⟨S4096x100000, .i64⟩ : BufTy).Contents (Elt F))) (val V v26) (val V v23) :=
  at_binary V 48 rfl rfl (by decide) (by decide)
theorem eq_v28 (V : Valuation τ sig (Elt F)) : val V v28 = ((addi : (⟨S4096x100000, .i64⟩ : BufTy).Contents (Elt F) → (⟨S4096x100000, .i64⟩ : BufTy).Contents (Elt F) → (⟨S4096x100000, .i64⟩ : BufTy).Contents (Elt F))) (val V v25) (val V v27) :=
  at_binary V 49 rfl rfl (by decide) (by decide)
theorem eq_c_4 (V : Valuation τ sig (Elt F)) : val V c_4 = ((constantI S_ 64 32#64)) :=
  at_nullary V 50 rfl rfl
theorem eq_v29 (V : Valuation τ sig (Elt F)) : val V v29 = ((broadcastInDim S4096x100000 ![] bcast_S_S4096x100000 : (⟨S_, .i64⟩ : BufTy).Contents (Elt F) → (⟨S4096x100000, .i64⟩ : BufTy).Contents (Elt F))) (val V c_4) :=
  at_unary V 51 rfl rfl (by decide)
theorem eq_v30 (V : Valuation τ sig (Elt F)) : val V v30 = ((Host.shrui : (⟨S4096x100000, .i64⟩ : BufTy).Contents (Elt F) → (⟨S4096x100000, .i64⟩ : BufTy).Contents (Elt F) → (⟨S4096x100000, .i64⟩ : BufTy).Contents (Elt F))) (val V v28) (val V v29) :=
  at_binary V 52 rfl rfl (by decide) (by decide)
theorem eq_v31 (V : Valuation τ sig (Elt F)) : val V v31 = (((trunci 32 · natLt_32_64) : (⟨S4096x100000, .i64⟩ : BufTy).Contents (Elt F) → (⟨S4096x100000, .i32⟩ : BufTy).Contents (Elt F))) (val V v28) :=
  at_unary V 53 rfl rfl (by decide)
theorem eq_v32 (V : Valuation τ sig (Elt F)) : val V v32 = (((trunci 32 · natLt_32_64) : (⟨S4096x100000, .i64⟩ : BufTy).Contents (Elt F) → (⟨S4096x100000, .i32⟩ : BufTy).Contents (Elt F))) (val V v30) :=
  at_unary V 54 rfl rfl (by decide)
theorem eq_call2_v0 (V : Valuation τ sig (Elt F)) : val V call2_v0 = (xori) (val V v19) (val V v21) :=
  at_binary V 55 rfl rfl (by decide) (by decide)
theorem eq_call2_c (V : Valuation τ sig (Elt F)) : val V call2_c = ((constantI S_ 32 466688986#32)) :=
  at_nullary V 56 rfl rfl
theorem eq_call2_v1 (V : Valuation τ sig (Elt F)) : val V call2_v1 = (xori) (val V call2_v0) (val V call2_c) :=
  at_binary V 57 rfl rfl (by decide) (by decide)
theorem eq_call2_v2 (V : Valuation τ sig (Elt F)) : val V call2_v2 = ((broadcastInDim S4096x100000 ![] bcast_S_S4096x100000)) (val V v19) :=
  at_unary V 58 rfl rfl (by decide)
theorem eq_call2_v3 (V : Valuation τ sig (Elt F)) : val V call2_v3 = (addi) (val V v32) (val V call2_v2) :=
  at_binary V 59 rfl rfl (by decide) (by decide)
theorem eq_call2_v4 (V : Valuation τ sig (Elt F)) : val V call2_v4 = ((broadcastInDim S4096x100000 ![] bcast_S_S4096x100000)) (val V v21) :=
  at_unary V 60 rfl rfl (by decide)
theorem eq_call2_v5 (V : Valuation τ sig (Elt F)) : val V call2_v5 = (addi) (val V v31) (val V call2_v4) :=
  at_binary V 61 rfl rfl (by decide) (by decide)
theorem eq_call2_v6 (V : Valuation τ sig (Elt F)) : val V call2_v6 = (addi) (val V call2_v3) (val V call2_v5) :=
  at_binary V 62 rfl rfl (by decide) (by decide)
theorem eq_call2_c_0 (V : Valuation τ sig (Elt F)) : val V call2_c_0 = ((constantI S_ 32 13#32)) :=
  at_nullary V 63 rfl rfl
theorem eq_call2_v7 (V : Valuation τ sig (Elt F)) : val V call2_v7 = ((broadcastInDim S4096x100000 ![] bcast_S_S4096x100000)) (val V call2_c_0) :=
  at_unary V 64 rfl rfl (by decide)
theorem eq_call2_v8 (V : Valuation τ sig (Elt F)) : val V call2_v8 = (Host.shli) (val V call2_v5) (val V call2_v7) :=
  at_binary V 65 rfl rfl (by decide) (by decide)
theorem eq_call2_c_1 (V : Valuation τ sig (Elt F)) : val V call2_c_1 = ((constantI S_ 32 19#32)) :=
  at_nullary V 66 rfl rfl
theorem eq_call2_v9 (V : Valuation τ sig (Elt F)) : val V call2_v9 = ((broadcastInDim S4096x100000 ![] bcast_S_S4096x100000)) (val V call2_c_1) :=
  at_unary V 67 rfl rfl (by decide)
theorem eq_call2_v10 (V : Valuation τ sig (Elt F)) : val V call2_v10 = (Host.shrui) (val V call2_v5) (val V call2_v9) :=
  at_binary V 68 rfl rfl (by decide) (by decide)
theorem eq_call2_v11 (V : Valuation τ sig (Elt F)) : val V call2_v11 = (ori) (val V call2_v8) (val V call2_v10) :=
  at_binary V 69 rfl rfl (by decide) (by decide)
theorem eq_call2_v12 (V : Valuation τ sig (Elt F)) : val V call2_v12 = (xori) (val V call2_v6) (val V call2_v11) :=
  at_binary V 70 rfl rfl (by decide) (by decide)
theorem eq_call2_v13 (V : Valuation τ sig (Elt F)) : val V call2_v13 = (addi) (val V call2_v6) (val V call2_v12) :=
  at_binary V 71 rfl rfl (by decide) (by decide)
theorem eq_call2_c_2 (V : Valuation τ sig (Elt F)) : val V call2_c_2 = ((constantI S_ 32 15#32)) :=
  at_nullary V 72 rfl rfl
theorem eq_call2_v14 (V : Valuation τ sig (Elt F)) : val V call2_v14 = ((broadcastInDim S4096x100000 ![] bcast_S_S4096x100000)) (val V call2_c_2) :=
  at_unary V 73 rfl rfl (by decide)
theorem eq_call2_v15 (V : Valuation τ sig (Elt F)) : val V call2_v15 = (Host.shli) (val V call2_v12) (val V call2_v14) :=
  at_binary V 74 rfl rfl (by decide) (by decide)
theorem eq_call2_c_3 (V : Valuation τ sig (Elt F)) : val V call2_c_3 = ((constantI S_ 32 17#32)) :=
  at_nullary V 75 rfl rfl
theorem eq_call2_v16 (V : Valuation τ sig (Elt F)) : val V call2_v16 = ((broadcastInDim S4096x100000 ![] bcast_S_S4096x100000)) (val V call2_c_3) :=
  at_unary V 76 rfl rfl (by decide)
theorem eq_call2_v17 (V : Valuation τ sig (Elt F)) : val V call2_v17 = (Host.shrui) (val V call2_v12) (val V call2_v16) :=
  at_binary V 77 rfl rfl (by decide) (by decide)
theorem eq_call2_v18 (V : Valuation τ sig (Elt F)) : val V call2_v18 = (ori) (val V call2_v15) (val V call2_v17) :=
  at_binary V 78 rfl rfl (by decide) (by decide)
theorem eq_call2_v19 (V : Valuation τ sig (Elt F)) : val V call2_v19 = (xori) (val V call2_v13) (val V call2_v18) :=
  at_binary V 79 rfl rfl (by decide) (by decide)
theorem eq_call2_v20 (V : Valuation τ sig (Elt F)) : val V call2_v20 = (addi) (val V call2_v13) (val V call2_v19) :=
  at_binary V 80 rfl rfl (by decide) (by decide)
theorem eq_call2_c_4 (V : Valuation τ sig (Elt F)) : val V call2_c_4 = ((constantI S_ 32 26#32)) :=
  at_nullary V 81 rfl rfl
theorem eq_call2_v21 (V : Valuation τ sig (Elt F)) : val V call2_v21 = ((broadcastInDim S4096x100000 ![] bcast_S_S4096x100000)) (val V call2_c_4) :=
  at_unary V 82 rfl rfl (by decide)
theorem eq_call2_v22 (V : Valuation τ sig (Elt F)) : val V call2_v22 = (Host.shli) (val V call2_v19) (val V call2_v21) :=
  at_binary V 83 rfl rfl (by decide) (by decide)
theorem eq_call2_c_5 (V : Valuation τ sig (Elt F)) : val V call2_c_5 = ((constantI S_ 32 6#32)) :=
  at_nullary V 84 rfl rfl
theorem eq_call2_v23 (V : Valuation τ sig (Elt F)) : val V call2_v23 = ((broadcastInDim S4096x100000 ![] bcast_S_S4096x100000)) (val V call2_c_5) :=
  at_unary V 85 rfl rfl (by decide)
theorem eq_call2_v24 (V : Valuation τ sig (Elt F)) : val V call2_v24 = (Host.shrui) (val V call2_v19) (val V call2_v23) :=
  at_binary V 86 rfl rfl (by decide) (by decide)
theorem eq_call2_v25 (V : Valuation τ sig (Elt F)) : val V call2_v25 = (ori) (val V call2_v22) (val V call2_v24) :=
  at_binary V 87 rfl rfl (by decide) (by decide)
theorem eq_call2_v26 (V : Valuation τ sig (Elt F)) : val V call2_v26 = (xori) (val V call2_v20) (val V call2_v25) :=
  at_binary V 88 rfl rfl (by decide) (by decide)
theorem eq_call2_v27 (V : Valuation τ sig (Elt F)) : val V call2_v27 = (addi) (val V call2_v20) (val V call2_v26) :=
  at_binary V 89 rfl rfl (by decide) (by decide)
theorem eq_call2_c_6 (V : Valuation τ sig (Elt F)) : val V call2_c_6 = ((constantI S_ 32 6#32)) :=
  at_nullary V 90 rfl rfl
theorem eq_call2_v28 (V : Valuation τ sig (Elt F)) : val V call2_v28 = ((broadcastInDim S4096x100000 ![] bcast_S_S4096x100000)) (val V call2_c_6) :=
  at_unary V 91 rfl rfl (by decide)
theorem eq_call2_v29 (V : Valuation τ sig (Elt F)) : val V call2_v29 = (Host.shli) (val V call2_v26) (val V call2_v28) :=
  at_binary V 92 rfl rfl (by decide) (by decide)
theorem eq_call2_c_7 (V : Valuation τ sig (Elt F)) : val V call2_c_7 = ((constantI S_ 32 26#32)) :=
  at_nullary V 93 rfl rfl
theorem eq_call2_v30 (V : Valuation τ sig (Elt F)) : val V call2_v30 = ((broadcastInDim S4096x100000 ![] bcast_S_S4096x100000)) (val V call2_c_7) :=
  at_unary V 94 rfl rfl (by decide)
theorem eq_call2_v31 (V : Valuation τ sig (Elt F)) : val V call2_v31 = (Host.shrui) (val V call2_v26) (val V call2_v30) :=
  at_binary V 95 rfl rfl (by decide) (by decide)
theorem eq_call2_v32 (V : Valuation τ sig (Elt F)) : val V call2_v32 = (ori) (val V call2_v29) (val V call2_v31) :=
  at_binary V 96 rfl rfl (by decide) (by decide)
theorem eq_call2_v33 (V : Valuation τ sig (Elt F)) : val V call2_v33 = (xori) (val V call2_v27) (val V call2_v32) :=
  at_binary V 97 rfl rfl (by decide) (by decide)
theorem eq_call2_v34 (V : Valuation τ sig (Elt F)) : val V call2_v34 = ((broadcastInDim S4096x100000 ![] bcast_S_S4096x100000)) (val V v21) :=
  at_unary V 98 rfl rfl (by decide)
theorem eq_call2_v35 (V : Valuation τ sig (Elt F)) : val V call2_v35 = (addi) (val V call2_v27) (val V call2_v34) :=
  at_binary V 99 rfl rfl (by decide) (by decide)
theorem eq_call2_v36 (V : Valuation τ sig (Elt F)) : val V call2_v36 = ((broadcastInDim S4096x100000 ![] bcast_S_S4096x100000)) (val V call2_v1) :=
  at_unary V 100 rfl rfl (by decide)
theorem eq_call2_v37 (V : Valuation τ sig (Elt F)) : val V call2_v37 = (addi) (val V call2_v33) (val V call2_v36) :=
  at_binary V 101 rfl rfl (by decide) (by decide)
theorem eq_call2_c_8 (V : Valuation τ sig (Elt F)) : val V call2_c_8 = ((constantI S_ 32 1#32)) :=
  at_nullary V 102 rfl rfl
theorem eq_call2_v38 (V : Valuation τ sig (Elt F)) : val V call2_v38 = ((broadcastInDim S4096x100000 ![] bcast_S_S4096x100000)) (val V call2_c_8) :=
  at_unary V 103 rfl rfl (by decide)
theorem eq_call2_v39 (V : Valuation τ sig (Elt F)) : val V call2_v39 = (addi) (val V call2_v37) (val V call2_v38) :=
  at_binary V 104 rfl rfl (by decide) (by decide)
theorem eq_call2_v40 (V : Valuation τ sig (Elt F)) : val V call2_v40 = (addi) (val V call2_v35) (val V call2_v39) :=
  at_binary V 105 rfl rfl (by decide) (by decide)
theorem eq_call2_c_9 (V : Valuation τ sig (Elt F)) : val V call2_c_9 = ((constantI S_ 32 17#32)) :=
  at_nullary V 106 rfl rfl
theorem eq_call2_v41 (V : Valuation τ sig (Elt F)) : val V call2_v41 = ((broadcastInDim S4096x100000 ![] bcast_S_S4096x100000)) (val V call2_c_9) :=
  at_unary V 107 rfl rfl (by decide)
theorem eq_call2_v42 (V : Valuation τ sig (Elt F)) : val V call2_v42 = (Host.shli) (val V call2_v39) (val V call2_v41) :=
  at_binary V 108 rfl rfl (by decide) (by decide)
theorem eq_call2_c_10 (V : Valuation τ sig (Elt F)) : val V call2_c_10 = ((constantI S_ 32 15#32)) :=
  at_nullary V 109 rfl rfl
theorem eq_call2_v43 (V : Valuation τ sig (Elt F)) : val V call2_v43 = ((broadcastInDim S4096x100000 ![] bcast_S_S4096x100000)) (val V call2_c_10) :=
  at_unary V 110 rfl rfl (by decide)
theorem eq_call2_v44 (V : Valuation τ sig (Elt F)) : val V call2_v44 = (Host.shrui) (val V call2_v39) (val V call2_v43) :=
  at_binary V 111 rfl rfl (by decide) (by decide)
theorem eq_call2_v45 (V : Valuation τ sig (Elt F)) : val V call2_v45 = (ori) (val V call2_v42) (val V call2_v44) :=
  at_binary V 112 rfl rfl (by decide) (by decide)
theorem eq_call2_v46 (V : Valuation τ sig (Elt F)) : val V call2_v46 = (xori) (val V call2_v40) (val V call2_v45) :=
  at_binary V 113 rfl rfl (by decide) (by decide)
theorem eq_call2_v47 (V : Valuation τ sig (Elt F)) : val V call2_v47 = (addi) (val V call2_v40) (val V call2_v46) :=
  at_binary V 114 rfl rfl (by decide) (by decide)
theorem eq_call2_c_11 (V : Valuation τ sig (Elt F)) : val V call2_c_11 = ((constantI S_ 32 29#32)) :=
  at_nullary V 115 rfl rfl
theorem eq_call2_v48 (V : Valuation τ sig (Elt F)) : val V call2_v48 = ((broadcastInDim S4096x100000 ![] bcast_S_S4096x100000)) (val V call2_c_11) :=
  at_unary V 116 rfl rfl (by decide)
theorem eq_call2_v49 (V : Valuation τ sig (Elt F)) : val V call2_v49 = (Host.shli) (val V call2_v46) (val V call2_v48) :=
  at_binary V 117 rfl rfl (by decide) (by decide)
theorem eq_call2_c_12 (V : Valuation τ sig (Elt F)) : val V call2_c_12 = ((constantI S_ 32 3#32)) :=
  at_nullary V 118 rfl rfl
theorem eq_call2_v50 (V : Valuation τ sig (Elt F)) : val V call2_v50 = ((broadcastInDim S4096x100000 ![] bcast_S_S4096x100000)) (val V call2_c_12) :=
  at_unary V 119 rfl rfl (by decide)
theorem eq_call2_v51 (V : Valuation τ sig (Elt F)) : val V call2_v51 = (Host.shrui) (val V call2_v46) (val V call2_v50) :=
  at_binary V 120 rfl rfl (by decide) (by decide)
theorem eq_call2_v52 (V : Valuation τ sig (Elt F)) : val V call2_v52 = (ori) (val V call2_v49) (val V call2_v51) :=
  at_binary V 121 rfl rfl (by decide) (by decide)
theorem eq_call2_v53 (V : Valuation τ sig (Elt F)) : val V call2_v53 = (xori) (val V call2_v47) (val V call2_v52) :=
  at_binary V 122 rfl rfl (by decide) (by decide)
theorem eq_call2_v54 (V : Valuation τ sig (Elt F)) : val V call2_v54 = (addi) (val V call2_v47) (val V call2_v53) :=
  at_binary V 123 rfl rfl (by decide) (by decide)
theorem eq_call2_c_13 (V : Valuation τ sig (Elt F)) : val V call2_c_13 = ((constantI S_ 32 16#32)) :=
  at_nullary V 124 rfl rfl
theorem eq_call2_v55 (V : Valuation τ sig (Elt F)) : val V call2_v55 = ((broadcastInDim S4096x100000 ![] bcast_S_S4096x100000)) (val V call2_c_13) :=
  at_unary V 125 rfl rfl (by decide)
theorem eq_call2_v56 (V : Valuation τ sig (Elt F)) : val V call2_v56 = (Host.shli) (val V call2_v53) (val V call2_v55) :=
  at_binary V 126 rfl rfl (by decide) (by decide)
theorem eq_call2_c_14 (V : Valuation τ sig (Elt F)) : val V call2_c_14 = ((constantI S_ 32 16#32)) :=
  at_nullary V 127 rfl rfl
theorem eq_call2_v57 (V : Valuation τ sig (Elt F)) : val V call2_v57 = ((broadcastInDim S4096x100000 ![] bcast_S_S4096x100000)) (val V call2_c_14) :=
  at_unary V 128 rfl rfl (by decide)
theorem eq_call2_v58 (V : Valuation τ sig (Elt F)) : val V call2_v58 = (Host.shrui) (val V call2_v53) (val V call2_v57) :=
  at_binary V 129 rfl rfl (by decide) (by decide)
theorem eq_call2_v59 (V : Valuation τ sig (Elt F)) : val V call2_v59 = (ori) (val V call2_v56) (val V call2_v58) :=
  at_binary V 130 rfl rfl (by decide) (by decide)
theorem eq_call2_v60 (V : Valuation τ sig (Elt F)) : val V call2_v60 = (xori) (val V call2_v54) (val V call2_v59) :=
  at_binary V 131 rfl rfl (by decide) (by decide)
theorem eq_call2_v61 (V : Valuation τ sig (Elt F)) : val V call2_v61 = (addi) (val V call2_v54) (val V call2_v60) :=
  at_binary V 132 rfl rfl (by decide) (by decide)
theorem eq_call2_c_15 (V : Valuation τ sig (Elt F)) : val V call2_c_15 = ((constantI S_ 32 24#32)) :=
  at_nullary V 133 rfl rfl
theorem eq_call2_v62 (V : Valuation τ sig (Elt F)) : val V call2_v62 = ((broadcastInDim S4096x100000 ![] bcast_S_S4096x100000)) (val V call2_c_15) :=
  at_unary V 134 rfl rfl (by decide)
theorem eq_call2_v63 (V : Valuation τ sig (Elt F)) : val V call2_v63 = (Host.shli) (val V call2_v60) (val V call2_v62) :=
  at_binary V 135 rfl rfl (by decide) (by decide)
theorem eq_call2_c_16 (V : Valuation τ sig (Elt F)) : val V call2_c_16 = ((constantI S_ 32 8#32)) :=
  at_nullary V 136 rfl rfl
theorem eq_call2_v64 (V : Valuation τ sig (Elt F)) : val V call2_v64 = ((broadcastInDim S4096x100000 ![] bcast_S_S4096x100000)) (val V call2_c_16) :=
  at_unary V 137 rfl rfl (by decide)
theorem eq_call2_v65 (V : Valuation τ sig (Elt F)) : val V call2_v65 = (Host.shrui) (val V call2_v60) (val V call2_v64) :=
  at_binary V 138 rfl rfl (by decide) (by decide)
theorem eq_call2_v66 (V : Valuation τ sig (Elt F)) : val V call2_v66 = (ori) (val V call2_v63) (val V call2_v65) :=
  at_binary V 139 rfl rfl (by decide) (by decide)
theorem eq_call2_v67 (V : Valuation τ sig (Elt F)) : val V call2_v67 = (xori) (val V call2_v61) (val V call2_v66) :=
  at_binary V 140 rfl rfl (by decide) (by decide)
theorem eq_call2_v68 (V : Valuation τ sig (Elt F)) : val V call2_v68 = ((broadcastInDim S4096x100000 ![] bcast_S_S4096x100000)) (val V call2_v1) :=
  at_unary V 141 rfl rfl (by decide)
theorem eq_call2_v69 (V : Valuation τ sig (Elt F)) : val V call2_v69 = (addi) (val V call2_v61) (val V call2_v68) :=
  at_binary V 142 rfl rfl (by decide) (by decide)
theorem eq_call2_v70 (V : Valuation τ sig (Elt F)) : val V call2_v70 = ((broadcastInDim S4096x100000 ![] bcast_S_S4096x100000)) (val V v19) :=
  at_unary V 143 rfl rfl (by decide)
theorem eq_call2_v71 (V : Valuation τ sig (Elt F)) : val V call2_v71 = (addi) (val V call2_v67) (val V call2_v70) :=
  at_binary V 144 rfl rfl (by decide) (by decide)
theorem eq_call2_c_17 (V : Valuation τ sig (Elt F)) : val V call2_c_17 = ((constantI S_ 32 2#32)) :=
  at_nullary V 145 rfl rfl
theorem eq_call2_v72 (V : Valuation τ sig (Elt F)) : val V call2_v72 = ((broadcastInDim S4096x100000 ![] bcast_S_S4096x100000)) (val V call2_c_17) :=
  at_unary V 146 rfl rfl (by decide)
theorem eq_call2_v73 (V : Valuation τ sig (Elt F)) : val V call2_v73 = (addi) (val V call2_v71) (val V call2_v72) :=
  at_binary V 147 rfl rfl (by decide) (by decide)
theorem eq_call2_v74 (V : Valuation τ sig (Elt F)) : val V call2_v74 = (addi) (val V call2_v69) (val V call2_v73) :=
  at_binary V 148 rfl rfl (by decide) (by decide)
theorem eq_call2_c_18 (V : Valuation τ sig (Elt F)) : val V call2_c_18 = ((constantI S_ 32 13#32)) :=
  at_nullary V 149 rfl rfl
theorem eq_call2_v75 (V : Valuation τ sig (Elt F)) : val V call2_v75 = ((broadcastInDim S4096x100000 ![] bcast_S_S4096x100000)) (val V call2_c_18) :=
  at_unary V 150 rfl rfl (by decide)
theorem eq_call2_v76 (V : Valuation τ sig (Elt F)) : val V call2_v76 = (Host.shli) (val V call2_v73) (val V call2_v75) :=
  at_binary V 151 rfl rfl (by decide) (by decide)
theorem eq_call2_c_19 (V : Valuation τ sig (Elt F)) : val V call2_c_19 = ((constantI S_ 32 19#32)) :=
  at_nullary V 152 rfl rfl
theorem eq_call2_v77 (V : Valuation τ sig (Elt F)) : val V call2_v77 = ((broadcastInDim S4096x100000 ![] bcast_S_S4096x100000)) (val V call2_c_19) :=
  at_unary V 153 rfl rfl (by decide)
theorem eq_call2_v78 (V : Valuation τ sig (Elt F)) : val V call2_v78 = (Host.shrui) (val V call2_v73) (val V call2_v77) :=
  at_binary V 154 rfl rfl (by decide) (by decide)
theorem eq_call2_v79 (V : Valuation τ sig (Elt F)) : val V call2_v79 = (ori) (val V call2_v76) (val V call2_v78) :=
  at_binary V 155 rfl rfl (by decide) (by decide)
theorem eq_call2_v80 (V : Valuation τ sig (Elt F)) : val V call2_v80 = (xori) (val V call2_v74) (val V call2_v79) :=
  at_binary V 156 rfl rfl (by decide) (by decide)
theorem eq_call2_v81 (V : Valuation τ sig (Elt F)) : val V call2_v81 = (addi) (val V call2_v74) (val V call2_v80) :=
  at_binary V 157 rfl rfl (by decide) (by decide)
theorem eq_call2_c_20 (V : Valuation τ sig (Elt F)) : val V call2_c_20 = ((constantI S_ 32 15#32)) :=
  at_nullary V 158 rfl rfl
theorem eq_call2_v82 (V : Valuation τ sig (Elt F)) : val V call2_v82 = ((broadcastInDim S4096x100000 ![] bcast_S_S4096x100000)) (val V call2_c_20) :=
  at_unary V 159 rfl rfl (by decide)
theorem eq_call2_v83 (V : Valuation τ sig (Elt F)) : val V call2_v83 = (Host.shli) (val V call2_v80) (val V call2_v82) :=
  at_binary V 160 rfl rfl (by decide) (by decide)
theorem eq_call2_c_21 (V : Valuation τ sig (Elt F)) : val V call2_c_21 = ((constantI S_ 32 17#32)) :=
  at_nullary V 161 rfl rfl
theorem eq_call2_v84 (V : Valuation τ sig (Elt F)) : val V call2_v84 = ((broadcastInDim S4096x100000 ![] bcast_S_S4096x100000)) (val V call2_c_21) :=
  at_unary V 162 rfl rfl (by decide)
theorem eq_call2_v85 (V : Valuation τ sig (Elt F)) : val V call2_v85 = (Host.shrui) (val V call2_v80) (val V call2_v84) :=
  at_binary V 163 rfl rfl (by decide) (by decide)
theorem eq_call2_v86 (V : Valuation τ sig (Elt F)) : val V call2_v86 = (ori) (val V call2_v83) (val V call2_v85) :=
  at_binary V 164 rfl rfl (by decide) (by decide)
theorem eq_call2_v87 (V : Valuation τ sig (Elt F)) : val V call2_v87 = (xori) (val V call2_v81) (val V call2_v86) :=
  at_binary V 165 rfl rfl (by decide) (by decide)
theorem eq_call2_v88 (V : Valuation τ sig (Elt F)) : val V call2_v88 = (addi) (val V call2_v81) (val V call2_v87) :=
  at_binary V 166 rfl rfl (by decide) (by decide)
theorem eq_call2_c_22 (V : Valuation τ sig (Elt F)) : val V call2_c_22 = ((constantI S_ 32 26#32)) :=
  at_nullary V 167 rfl rfl
theorem eq_call2_v89 (V : Valuation τ sig (Elt F)) : val V call2_v89 = ((broadcastInDim S4096x100000 ![] bcast_S_S4096x100000)) (val V call2_c_22) :=
  at_unary V 168 rfl rfl (by decide)
theorem eq_call2_v90 (V : Valuation τ sig (Elt F)) : val V call2_v90 = (Host.shli) (val V call2_v87) (val V call2_v89) :=
  at_binary V 169 rfl rfl (by decide) (by decide)
theorem eq_call2_c_23 (V : Valuation τ sig (Elt F)) : val V call2_c_23 = ((constantI S_ 32 6#32)) :=
  at_nullary V 170 rfl rfl
theorem eq_call2_v91 (V : Valuation τ sig (Elt F)) : val V call2_v91 = ((broadcastInDim S4096x100000 ![] bcast_S_S4096x100000)) (val V call2_c_23) :=
  at_unary V 171 rfl rfl (by decide)
theorem eq_call2_v92 (V : Valuation τ sig (Elt F)) : val V call2_v92 = (Host.shrui) (val V call2_v87) (val V call2_v91) :=
  at_binary V 172 rfl rfl (by decide) (by decide)
theorem eq_call2_v93 (V : Valuation τ sig (Elt F)) : val V call2_v93 = (ori) (val V call2_v90) (val V call2_v92) :=
  at_binary V 173 rfl rfl (by decide) (by decide)
theorem eq_call2_v94 (V : Valuation τ sig (Elt F)) : val V call2_v94 = (xori) (val V call2_v88) (val V call2_v93) :=
  at_binary V 174 rfl rfl (by decide) (by decide)
theorem eq_call2_v95 (V : Valuation τ sig (Elt F)) : val V call2_v95 = (addi) (val V call2_v88) (val V call2_v94) :=
  at_binary V 175 rfl rfl (by decide) (by decide)
theorem eq_call2_c_24 (V : Valuation τ sig (Elt F)) : val V call2_c_24 = ((constantI S_ 32 6#32)) :=
  at_nullary V 176 rfl rfl
theorem eq_call2_v96 (V : Valuation τ sig (Elt F)) : val V call2_v96 = ((broadcastInDim S4096x100000 ![] bcast_S_S4096x100000)) (val V call2_c_24) :=
  at_unary V 177 rfl rfl (by decide)
theorem eq_call2_v97 (V : Valuation τ sig (Elt F)) : val V call2_v97 = (Host.shli) (val V call2_v94) (val V call2_v96) :=
  at_binary V 178 rfl rfl (by decide) (by decide)
theorem eq_call2_c_25 (V : Valuation τ sig (Elt F)) : val V call2_c_25 = ((constantI S_ 32 26#32)) :=
  at_nullary V 179 rfl rfl
theorem eq_call2_v98 (V : Valuation τ sig (Elt F)) : val V call2_v98 = ((broadcastInDim S4096x100000 ![] bcast_S_S4096x100000)) (val V call2_c_25) :=
  at_unary V 180 rfl rfl (by decide)
theorem eq_call2_v99 (V : Valuation τ sig (Elt F)) : val V call2_v99 = (Host.shrui) (val V call2_v94) (val V call2_v98) :=
  at_binary V 181 rfl rfl (by decide) (by decide)
theorem eq_call2_v100 (V : Valuation τ sig (Elt F)) : val V call2_v100 = (ori) (val V call2_v97) (val V call2_v99) :=
  at_binary V 182 rfl rfl (by decide) (by decide)
theorem eq_call2_v101 (V : Valuation τ sig (Elt F)) : val V call2_v101 = (xori) (val V call2_v95) (val V call2_v100) :=
  at_binary V 183 rfl rfl (by decide) (by decide)
theorem eq_call2_v102 (V : Valuation τ sig (Elt F)) : val V call2_v102 = ((broadcastInDim S4096x100000 ![] bcast_S_S4096x100000)) (val V v19) :=
  at_unary V 184 rfl rfl (by decide)
theorem eq_call2_v103 (V : Valuation τ sig (Elt F)) : val V call2_v103 = (addi) (val V call2_v95) (val V call2_v102) :=
  at_binary V 185 rfl rfl (by decide) (by decide)
theorem eq_call2_v104 (V : Valuation τ sig (Elt F)) : val V call2_v104 = ((broadcastInDim S4096x100000 ![] bcast_S_S4096x100000)) (val V v21) :=
  at_unary V 186 rfl rfl (by decide)
theorem eq_call2_v105 (V : Valuation τ sig (Elt F)) : val V call2_v105 = (addi) (val V call2_v101) (val V call2_v104) :=
  at_binary V 187 rfl rfl (by decide) (by decide)
theorem eq_call2_c_26 (V : Valuation τ sig (Elt F)) : val V call2_c_26 = ((constantI S_ 32 3#32)) :=
  at_nullary V 188 rfl rfl
theorem eq_call2_v106 (V : Valuation τ sig (Elt F)) : val V call2_v106 = ((broadcastInDim S4096x100000 ![] bcast_S_S4096x100000)) (val V call2_c_26) :=
  at_unary V 189 rfl rfl (by decide)
theorem eq_call2_v107 (V : Valuation τ sig (Elt F)) : val V call2_v107 = (addi) (val V call2_v105) (val V call2_v106) :=
  at_binary V 190 rfl rfl (by decide) (by decide)
theorem eq_call2_v108 (V : Valuation τ sig (Elt F)) : val V call2_v108 = (addi) (val V call2_v103) (val V call2_v107) :=
  at_binary V 191 rfl rfl (by decide) (by decide)
theorem eq_call2_c_27 (V : Valuation τ sig (Elt F)) : val V call2_c_27 = ((constantI S_ 32 17#32)) :=
  at_nullary V 192 rfl rfl
theorem eq_call2_v109 (V : Valuation τ sig (Elt F)) : val V call2_v109 = ((broadcastInDim S4096x100000 ![] bcast_S_S4096x100000)) (val V call2_c_27) :=
  at_unary V 193 rfl rfl (by decide)
theorem eq_call2_v110 (V : Valuation τ sig (Elt F)) : val V call2_v110 = (Host.shli) (val V call2_v107) (val V call2_v109) :=
  at_binary V 194 rfl rfl (by decide) (by decide)
theorem eq_call2_c_28 (V : Valuation τ sig (Elt F)) : val V call2_c_28 = ((constantI S_ 32 15#32)) :=
  at_nullary V 195 rfl rfl
theorem eq_call2_v111 (V : Valuation τ sig (Elt F)) : val V call2_v111 = ((broadcastInDim S4096x100000 ![] bcast_S_S4096x100000)) (val V call2_c_28) :=
  at_unary V 196 rfl rfl (by decide)
theorem eq_call2_v112 (V : Valuation τ sig (Elt F)) : val V call2_v112 = (Host.shrui) (val V call2_v107) (val V call2_v111) :=
  at_binary V 197 rfl rfl (by decide) (by decide)
theorem eq_call2_v113 (V : Valuation τ sig (Elt F)) : val V call2_v113 = (ori) (val V call2_v110) (val V call2_v112) :=
  at_binary V 198 rfl rfl (by decide) (by decide)
theorem eq_call2_v114 (V : Valuation τ sig (Elt F)) : val V call2_v114 = (xori) (val V call2_v108) (val V call2_v113) :=
  at_binary V 199 rfl rfl (by decide) (by decide)
theorem eq_call2_v115 (V : Valuation τ sig (Elt F)) : val V call2_v115 = (addi) (val V call2_v108) (val V call2_v114) :=
  at_binary V 200 rfl rfl (by decide) (by decide)
theorem eq_call2_c_29 (V : Valuation τ sig (Elt F)) : val V call2_c_29 = ((constantI S_ 32 29#32)) :=
  at_nullary V 201 rfl rfl
theorem eq_call2_v116 (V : Valuation τ sig (Elt F)) : val V call2_v116 = ((broadcastInDim S4096x100000 ![] bcast_S_S4096x100000)) (val V call2_c_29) :=
  at_unary V 202 rfl rfl (by decide)
theorem eq_call2_v117 (V : Valuation τ sig (Elt F)) : val V call2_v117 = (Host.shli) (val V call2_v114) (val V call2_v116) :=
  at_binary V 203 rfl rfl (by decide) (by decide)
theorem eq_call2_c_30 (V : Valuation τ sig (Elt F)) : val V call2_c_30 = ((constantI S_ 32 3#32)) :=
  at_nullary V 204 rfl rfl
theorem eq_call2_v118 (V : Valuation τ sig (Elt F)) : val V call2_v118 = ((broadcastInDim S4096x100000 ![] bcast_S_S4096x100000)) (val V call2_c_30) :=
  at_unary V 205 rfl rfl (by decide)
theorem eq_call2_v119 (V : Valuation τ sig (Elt F)) : val V call2_v119 = (Host.shrui) (val V call2_v114) (val V call2_v118) :=
  at_binary V 206 rfl rfl (by decide) (by decide)
theorem eq_call2_v120 (V : Valuation τ sig (Elt F)) : val V call2_v120 = (ori) (val V call2_v117) (val V call2_v119) :=
  at_binary V 207 rfl rfl (by decide) (by decide)
theorem eq_call2_v121 (V : Valuation τ sig (Elt F)) : val V call2_v121 = (xori) (val V call2_v115) (val V call2_v120) :=
  at_binary V 208 rfl rfl (by decide) (by decide)
theorem eq_call2_v122 (V : Valuation τ sig (Elt F)) : val V call2_v122 = (addi) (val V call2_v115) (val V call2_v121) :=
  at_binary V 209 rfl rfl (by decide) (by decide)
theorem eq_call2_c_31 (V : Valuation τ sig (Elt F)) : val V call2_c_31 = ((constantI S_ 32 16#32)) :=
  at_nullary V 210 rfl rfl
theorem eq_call2_v123 (V : Valuation τ sig (Elt F)) : val V call2_v123 = ((broadcastInDim S4096x100000 ![] bcast_S_S4096x100000)) (val V call2_c_31) :=
  at_unary V 211 rfl rfl (by decide)
theorem eq_call2_v124 (V : Valuation τ sig (Elt F)) : val V call2_v124 = (Host.shli) (val V call2_v121) (val V call2_v123) :=
  at_binary V 212 rfl rfl (by decide) (by decide)
theorem eq_call2_c_32 (V : Valuation τ sig (Elt F)) : val V call2_c_32 = ((constantI S_ 32 16#32)) :=
  at_nullary V 213 rfl rfl
theorem eq_call2_v125 (V : Valuation τ sig (Elt F)) : val V call2_v125 = ((broadcastInDim S4096x100000 ![] bcast_S_S4096x100000)) (val V call2_c_32) :=
  at_unary V 214 rfl rfl (by decide)
theorem eq_call2_v126 (V : Valuation τ sig (Elt F)) : val V call2_v126 = (Host.shrui) (val V call2_v121) (val V call2_v125) :=
  at_binary V 215 rfl rfl (by decide) (by decide)
theorem eq_call2_v127 (V : Valuation τ sig (Elt F)) : val V call2_v127 = (ori) (val V call2_v124) (val V call2_v126) :=
  at_binary V 216 rfl rfl (by decide) (by decide)
theorem eq_call2_v128 (V : Valuation τ sig (Elt F)) : val V call2_v128 = (xori) (val V call2_v122) (val V call2_v127) :=
  at_binary V 217 rfl rfl (by decide) (by decide)
theorem eq_call2_v129 (V : Valuation τ sig (Elt F)) : val V call2_v129 = (addi) (val V call2_v122) (val V call2_v128) :=
  at_binary V 218 rfl rfl (by decide) (by decide)
theorem eq_call2_c_33 (V : Valuation τ sig (Elt F)) : val V call2_c_33 = ((constantI S_ 32 24#32)) :=
  at_nullary V 219 rfl rfl
theorem eq_call2_v130 (V : Valuation τ sig (Elt F)) : val V call2_v130 = ((broadcastInDim S4096x100000 ![] bcast_S_S4096x100000)) (val V call2_c_33) :=
  at_unary V 220 rfl rfl (by decide)
theorem eq_call2_v131 (V : Valuation τ sig (Elt F)) : val V call2_v131 = (Host.shli) (val V call2_v128) (val V call2_v130) :=
  at_binary V 221 rfl rfl (by decide) (by decide)
theorem eq_call2_c_34 (V : Valuation τ sig (Elt F)) : val V call2_c_34 = ((constantI S_ 32 8#32)) :=
  at_nullary V 222 rfl rfl
theorem eq_call2_v132 (V : Valuation τ sig (Elt F)) : val V call2_v132 = ((broadcastInDim S4096x100000 ![] bcast_S_S4096x100000)) (val V call2_c_34) :=
  at_unary V 223 rfl rfl (by decide)
theorem eq_call2_v133 (V : Valuation τ sig (Elt F)) : val V call2_v133 = (Host.shrui) (val V call2_v128) (val V call2_v132) :=
  at_binary V 224 rfl rfl (by decide) (by decide)
theorem eq_call2_v134 (V : Valuation τ sig (Elt F)) : val V call2_v134 = (ori) (val V call2_v131) (val V call2_v133) :=
  at_binary V 225 rfl rfl (by decide) (by decide)
theorem eq_call2_v135 (V : Valuation τ sig (Elt F)) : val V call2_v135 = (xori) (val V call2_v129) (val V call2_v134) :=
  at_binary V 226 rfl rfl (by decide) (by decide)
theorem eq_call2_v136 (V : Valuation τ sig (Elt F)) : val V call2_v136 = ((broadcastInDim S4096x100000 ![] bcast_S_S4096x100000)) (val V v21) :=
  at_unary V 227 rfl rfl (by decide)
theorem eq_call2_v137 (V : Valuation τ sig (Elt F)) : val V call2_v137 = (addi) (val V call2_v129) (val V call2_v136) :=
  at_binary V 228 rfl rfl (by decide) (by decide)
theorem eq_call2_v138 (V : Valuation τ sig (Elt F)) : val V call2_v138 = ((broadcastInDim S4096x100000 ![] bcast_S_S4096x100000)) (val V call2_v1) :=
  at_unary V 229 rfl rfl (by decide)
theorem eq_call2_v139 (V : Valuation τ sig (Elt F)) : val V call2_v139 = (addi) (val V call2_v135) (val V call2_v138) :=
  at_binary V 230 rfl rfl (by decide) (by decide)
theorem eq_call2_c_35 (V : Valuation τ sig (Elt F)) : val V call2_c_35 = ((constantI S_ 32 4#32)) :=
  at_nullary V 231 rfl rfl
theorem eq_call2_v140 (V : Valuation τ sig (Elt F)) : val V call2_v140 = ((broadcastInDim S4096x100000 ![] bcast_S_S4096x100000)) (val V call2_c_35) :=
  at_unary V 232 rfl rfl (by decide)
theorem eq_call2_v141 (V : Valuation τ sig (Elt F)) : val V call2_v141 = (addi) (val V call2_v139) (val V call2_v140) :=
  at_binary V 233 rfl rfl (by decide) (by decide)
theorem eq_call2_v142 (V : Valuation τ sig (Elt F)) : val V call2_v142 = (addi) (val V call2_v137) (val V call2_v141) :=
  at_binary V 234 rfl rfl (by decide) (by decide)
theorem eq_call2_c_36 (V : Valuation τ sig (Elt F)) : val V call2_c_36 = ((constantI S_ 32 13#32)) :=
  at_nullary V 235 rfl rfl
theorem eq_call2_v143 (V : Valuation τ sig (Elt F)) : val V call2_v143 = ((broadcastInDim S4096x100000 ![] bcast_S_S4096x100000)) (val V call2_c_36) :=
  at_unary V 236 rfl rfl (by decide)
theorem eq_call2_v144 (V : Valuation τ sig (Elt F)) : val V call2_v144 = (Host.shli) (val V call2_v141) (val V call2_v143) :=
  at_binary V 237 rfl rfl (by decide) (by decide)
theorem eq_call2_c_37 (V : Valuation τ sig (Elt F)) : val V call2_c_37 = ((constantI S_ 32 19#32)) :=
  at_nullary V 238 rfl rfl
theorem eq_call2_v145 (V : Valuation τ sig (Elt F)) : val V call2_v145 = ((broadcastInDim S4096x100000 ![] bcast_S_S4096x100000)) (val V call2_c_37) :=
  at_unary V 239 rfl rfl (by decide)
theorem eq_call2_v146 (V : Valuation τ sig (Elt F)) : val V call2_v146 = (Host.shrui) (val V call2_v141) (val V call2_v145) :=
  at_binary V 240 rfl rfl (by decide) (by decide)
theorem eq_call2_v147 (V : Valuation τ sig (Elt F)) : val V call2_v147 = (ori) (val V call2_v144) (val V call2_v146) :=
  at_binary V 241 rfl rfl (by decide) (by decide)
theorem eq_call2_v148 (V : Valuation τ sig (Elt F)) : val V call2_v148 = (xori) (val V call2_v142) (val V call2_v147) :=
  at_binary V 242 rfl rfl (by decide) (by decide)
theorem eq_call2_v149 (V : Valuation τ sig (Elt F)) : val V call2_v149 = (addi) (val V call2_v142) (val V call2_v148) :=
  at_binary V 243 rfl rfl (by decide) (by decide)
theorem eq_call2_c_38 (V : Valuation τ sig (Elt F)) : val V call2_c_38 = ((constantI S_ 32 15#32)) :=
  at_nullary V 244 rfl rfl
theorem eq_call2_v150 (V : Valuation τ sig (Elt F)) : val V call2_v150 = ((broadcastInDim S4096x100000 ![] bcast_S_S4096x100000)) (val V call2_c_38) :=
  at_unary V 245 rfl rfl (by decide)
theorem eq_call2_v151 (V : Valuation τ sig (Elt F)) : val V call2_v151 = (Host.shli) (val V call2_v148) (val V call2_v150) :=
  at_binary V 246 rfl rfl (by decide) (by decide)
theorem eq_call2_c_39 (V : Valuation τ sig (Elt F)) : val V call2_c_39 = ((constantI S_ 32 17#32)) :=
  at_nullary V 247 rfl rfl
theorem eq_call2_v152 (V : Valuation τ sig (Elt F)) : val V call2_v152 = ((broadcastInDim S4096x100000 ![] bcast_S_S4096x100000)) (val V call2_c_39) :=
  at_unary V 248 rfl rfl (by decide)
theorem eq_call2_v153 (V : Valuation τ sig (Elt F)) : val V call2_v153 = (Host.shrui) (val V call2_v148) (val V call2_v152) :=
  at_binary V 249 rfl rfl (by decide) (by decide)
theorem eq_call2_v154 (V : Valuation τ sig (Elt F)) : val V call2_v154 = (ori) (val V call2_v151) (val V call2_v153) :=
  at_binary V 250 rfl rfl (by decide) (by decide)
theorem eq_call2_v155 (V : Valuation τ sig (Elt F)) : val V call2_v155 = (xori) (val V call2_v149) (val V call2_v154) :=
  at_binary V 251 rfl rfl (by decide) (by decide)
theorem eq_call2_v156 (V : Valuation τ sig (Elt F)) : val V call2_v156 = (addi) (val V call2_v149) (val V call2_v155) :=
  at_binary V 252 rfl rfl (by decide) (by decide)
theorem eq_call2_c_40 (V : Valuation τ sig (Elt F)) : val V call2_c_40 = ((constantI S_ 32 26#32)) :=
  at_nullary V 253 rfl rfl
theorem eq_call2_v157 (V : Valuation τ sig (Elt F)) : val V call2_v157 = ((broadcastInDim S4096x100000 ![] bcast_S_S4096x100000)) (val V call2_c_40) :=
  at_unary V 254 rfl rfl (by decide)
theorem eq_call2_v158 (V : Valuation τ sig (Elt F)) : val V call2_v158 = (Host.shli) (val V call2_v155) (val V call2_v157) :=
  at_binary V 255 rfl rfl (by decide) (by decide)
theorem eq_call2_c_41 (V : Valuation τ sig (Elt F)) : val V call2_c_41 = ((constantI S_ 32 6#32)) :=
  at_nullary V 256 rfl rfl
theorem eq_call2_v159 (V : Valuation τ sig (Elt F)) : val V call2_v159 = ((broadcastInDim S4096x100000 ![] bcast_S_S4096x100000)) (val V call2_c_41) :=
  at_unary V 257 rfl rfl (by decide)
theorem eq_call2_v160 (V : Valuation τ sig (Elt F)) : val V call2_v160 = (Host.shrui) (val V call2_v155) (val V call2_v159) :=
  at_binary V 258 rfl rfl (by decide) (by decide)
theorem eq_call2_v161 (V : Valuation τ sig (Elt F)) : val V call2_v161 = (ori) (val V call2_v158) (val V call2_v160) :=
  at_binary V 259 rfl rfl (by decide) (by decide)
theorem eq_call2_v162 (V : Valuation τ sig (Elt F)) : val V call2_v162 = (xori) (val V call2_v156) (val V call2_v161) :=
  at_binary V 260 rfl rfl (by decide) (by decide)
theorem eq_call2_v163 (V : Valuation τ sig (Elt F)) : val V call2_v163 = (addi) (val V call2_v156) (val V call2_v162) :=
  at_binary V 261 rfl rfl (by decide) (by decide)
theorem eq_call2_c_42 (V : Valuation τ sig (Elt F)) : val V call2_c_42 = ((constantI S_ 32 6#32)) :=
  at_nullary V 262 rfl rfl
theorem eq_call2_v164 (V : Valuation τ sig (Elt F)) : val V call2_v164 = ((broadcastInDim S4096x100000 ![] bcast_S_S4096x100000)) (val V call2_c_42) :=
  at_unary V 263 rfl rfl (by decide)
theorem eq_call2_v165 (V : Valuation τ sig (Elt F)) : val V call2_v165 = (Host.shli) (val V call2_v162) (val V call2_v164) :=
  at_binary V 264 rfl rfl (by decide) (by decide)
theorem eq_call2_c_43 (V : Valuation τ sig (Elt F)) : val V call2_c_43 = ((constantI S_ 32 26#32)) :=
  at_nullary V 265 rfl rfl
theorem eq_call2_v166 (V : Valuation τ sig (Elt F)) : val V call2_v166 = ((broadcastInDim S4096x100000 ![] bcast_S_S4096x100000)) (val V call2_c_43) :=
  at_unary V 266 rfl rfl (by decide)
theorem eq_call2_v167 (V : Valuation τ sig (Elt F)) : val V call2_v167 = (Host.shrui) (val V call2_v162) (val V call2_v166) :=
  at_binary V 267 rfl rfl (by decide) (by decide)
theorem eq_call2_v168 (V : Valuation τ sig (Elt F)) : val V call2_v168 = (ori) (val V call2_v165) (val V call2_v167) :=
  at_binary V 268 rfl rfl (by decide) (by decide)
theorem eq_call2_v169 (V : Valuation τ sig (Elt F)) : val V call2_v169 = (xori) (val V call2_v163) (val V call2_v168) :=
  at_binary V 269 rfl rfl (by decide) (by decide)
theorem eq_call2_v170 (V : Valuation τ sig (Elt F)) : val V call2_v170 = ((broadcastInDim S4096x100000 ![] bcast_S_S4096x100000)) (val V call2_v1) :=
  at_unary V 270 rfl rfl (by decide)
theorem eq_v33_0 (V : Valuation τ sig (Elt F)) : val V v33_0 = (addi) (val V call2_v163) (val V call2_v170) :=
  at_binary V 271 rfl rfl (by decide) (by decide)
theorem eq_call2_v172 (V : Valuation τ sig (Elt F)) : val V call2_v172 = ((broadcastInDim S4096x100000 ![] bcast_S_S4096x100000)) (val V v19) :=
  at_unary V 272 rfl rfl (by decide)
theorem eq_call2_v173 (V : Valuation τ sig (Elt F)) : val V call2_v173 = (addi) (val V call2_v169) (val V call2_v172) :=
  at_binary V 273 rfl rfl (by decide) (by decide)
theorem eq_call2_c_44 (V : Valuation τ sig (Elt F)) : val V call2_c_44 = ((constantI S_ 32 5#32)) :=
  at_nullary V 274 rfl rfl
theorem eq_call2_v174 (V : Valuation τ sig (Elt F)) : val V call2_v174 = ((broadcastInDim S4096x100000 ![] bcast_S_S4096x100000)) (val V call2_c_44) :=
  at_unary V 275 rfl rfl (by decide)
theorem eq_v33_1 (V : Valuation τ sig (Elt F)) : val V v33_1 = (addi) (val V call2_v173) (val V call2_v174) :=
  at_binary V 276 rfl rfl (by decide) (by decide)
theorem eq_v34 (V : Valuation τ sig (Elt F)) : val V v34 = ((xori : (⟨S4096x100000, .i32⟩ : BufTy).Contents (Elt F) → (⟨S4096x100000, .i32⟩ : BufTy).Contents (Elt F) → (⟨S4096x100000, .i32⟩ : BufTy).Contents (Elt F))) (val V v33_0) (val V v33_1) :=
  at_binary V 277 rfl rfl (by decide) (by decide)
theorem eq_c_5 (V : Valuation τ sig (Elt F)) : val V c_5 = ((constantI S_ 32 9#32)) :=
  at_nullary V 278 rfl rfl
theorem eq_v35 (V : Valuation τ sig (Elt F)) : val V v35 = ((broadcastInDim S4096x100000 ![] bcast_S_S4096x100000 : (⟨S_, .i32⟩ : BufTy).Contents (Elt F) → (⟨S4096x100000, .i32⟩ : BufTy).Contents (Elt F))) (val V c_5) :=
  at_unary V 279 rfl rfl (by decide)
theorem eq_v36 (V : Valuation τ sig (Elt F)) : val V v36 = ((Host.shrui : (⟨S4096x100000, .i32⟩ : BufTy).Contents (Elt F) → (⟨S4096x100000, .i32⟩ : BufTy).Contents (Elt F) → (⟨S4096x100000, .i32⟩ : BufTy).Contents (Elt F))) (val V v34) (val V v35) :=
  at_binary V 280 rfl rfl (by decide) (by decide)
theorem eq_c_6 (V : Valuation τ sig (Elt F)) : val V c_6 = ((constantI S_ 32 1065353216#32)) :=
  at_nullary V 281 rfl rfl
theorem eq_v37 (V : Valuation τ sig (Elt F)) : val V v37 = ((broadcastInDim S4096x100000 ![] bcast_S_S4096x100000 : (⟨S_, .i32⟩ : BufTy).Contents (Elt F) → (⟨S4096x100000, .i32⟩ : BufTy).Contents (Elt F))) (val V c_6) :=
  at_unary V 282 rfl rfl (by decide)
theorem eq_v38 (V : Valuation τ sig (Elt F)) : val V v38 = ((ori : (⟨S4096x100000, .i32⟩ : BufTy).Contents (Elt F) → (⟨S4096x100000, .i32⟩ : BufTy).Contents (Elt F) → (⟨S4096x100000, .i32⟩ : BufTy).Contents (Elt F))) (val V v36) (val V v37) :=
  at_binary V 283 rfl rfl (by decide) (by decide)
theorem eq_v39 (V : Valuation τ sig (Elt F)) : val V v39 = ((bitcastToFloat .f32 : (⟨S4096x100000, .i32⟩ : BufTy).Contents (Elt F) → (⟨S4096x100000, .f32⟩ : BufTy).Contents (Elt F))) (val V v38) :=
  at_unary V 284 rfl rfl (by decide)
theorem eq_cst (V : Valuation τ sig (Elt F)) : val V cst = ((constant S_ .f32 0x3F800000#32)) :=
  at_nullary V 285 rfl rfl
theorem eq_v40 (V : Valuation τ sig (Elt F)) : val V v40 = ((broadcastInDim S4096x100000 ![] bcast_S_S4096x100000 : (⟨S_, .f32⟩ : BufTy).Contents (Elt F) → (⟨S4096x100000, .f32⟩ : BufTy).Contents (Elt F))) (val V cst) :=
  at_unary V 286 rfl rfl (by decide)
theorem eq_v41 (V : Valuation τ sig (Elt F)) : val V v41 = ((subf : (⟨S4096x100000, .f32⟩ : BufTy).Contents (Elt F) → (⟨S4096x100000, .f32⟩ : BufTy).Contents (Elt F) → (⟨S4096x100000, .f32⟩ : BufTy).Contents (Elt F))) (val V v39) (val V v40) :=
  at_binary V 287 rfl rfl (by decide) (by decide)
theorem eq_cst_7 (V : Valuation τ sig (Elt F)) : val V cst_7 = ((constant S_ .f32 0x3F800000#32)) :=
  at_nullary V 288 rfl rfl
theorem eq_v42 (V : Valuation τ sig (Elt F)) : val V v42 = ((broadcastInDim S4096x100000 ![] bcast_S_S4096x100000 : (⟨S_, .f32⟩ : BufTy).Contents (Elt F) → (⟨S4096x100000, .f32⟩ : BufTy).Contents (Elt F))) (val V cst_7) :=
  at_unary V 289 rfl rfl (by decide)
theorem eq_v43 (V : Valuation τ sig (Elt F)) : val V v43 = ((mulf : (⟨S4096x100000, .f32⟩ : BufTy).Contents (Elt F) → (⟨S4096x100000, .f32⟩ : BufTy).Contents (Elt F) → (⟨S4096x100000, .f32⟩ : BufTy).Contents (Elt F))) (val V v41) (val V v42) :=
  at_binary V 290 rfl rfl (by decide) (by decide)
theorem eq_cst_8 (V : Valuation τ sig (Elt F)) : val V cst_8 = ((constant S_ .f32 0x00800000#32)) :=
  at_nullary V 291 rfl rfl
theorem eq_v44 (V : Valuation τ sig (Elt F)) : val V v44 = ((broadcastInDim S4096x100000 ![] bcast_S_S4096x100000 : (⟨S_, .f32⟩ : BufTy).Contents (Elt F) → (⟨S4096x100000, .f32⟩ : BufTy).Contents (Elt F))) (val V cst_8) :=
  at_unary V 292 rfl rfl (by decide)
theorem eq_v45 (V : Valuation τ sig (Elt F)) : val V v45 = ((addf : (⟨S4096x100000, .f32⟩ : BufTy).Contents (Elt F) → (⟨S4096x100000, .f32⟩ : BufTy).Contents (Elt F) → (⟨S4096x100000, .f32⟩ : BufTy).Contents (Elt F))) (val V v43) (val V v44) :=
  at_binary V 293 rfl rfl (by decide) (by decide)
theorem eq_cst_9 (V : Valuation τ sig (Elt F)) : val V cst_9 = ((constant S_ .f32 0x00800000#32)) :=
  at_nullary V 294 rfl rfl
theorem eq_v46 (V : Valuation τ sig (Elt F)) : val V v46 = ((broadcastInDim S4096x100000 ![] bcast_S_S4096x100000 : (⟨S_, .f32⟩ : BufTy).Contents (Elt F) → (⟨S4096x100000, .f32⟩ : BufTy).Contents (Elt F))) (val V cst_9) :=
  at_unary V 295 rfl rfl (by decide)
theorem eq_v47 (V : Valuation τ sig (Elt F)) : val V v47 = ((maximumf : (⟨S4096x100000, .f32⟩ : BufTy).Contents (Elt F) → (⟨S4096x100000, .f32⟩ : BufTy).Contents (Elt F) → (⟨S4096x100000, .f32⟩ : BufTy).Contents (Elt F))) (val V v46) (val V v45) :=
  at_binary V 296 rfl rfl (by decide) (by decide)
theorem eq_v48 (V : Valuation τ sig (Elt F)) : val V v48 = ((Host.log : (⟨S4096x100000, .f32⟩ : BufTy).Contents (Elt F) → (⟨S4096x100000, .f32⟩ : BufTy).Contents (Elt F))) (val V v47) :=
  at_unary V 297 rfl rfl (by decide)
theorem eq_v49 (V : Valuation τ sig (Elt F)) : val V v49 = ((Host.negf : (⟨S4096x100000, .f32⟩ : BufTy).Contents (Elt F) → (⟨S4096x100000, .f32⟩ : BufTy).Contents (Elt F))) (val V v48) :=
  at_unary V 298 rfl rfl (by decide)
theorem eq_v50 (V : Valuation τ sig (Elt F)) : val V v50 = ((Host.log : (⟨S4096x100000, .f32⟩ : BufTy).Contents (Elt F) → (⟨S4096x100000, .f32⟩ : BufTy).Contents (Elt F))) (val V v49) :=
  at_unary V 299 rfl rfl (by decide)
theorem eq_v51 (V : Valuation τ sig (Elt F)) : val V v51 = ((Host.negf : (⟨S4096x100000, .f32⟩ : BufTy).Contents (Elt F) → (⟨S4096x100000, .f32⟩ : BufTy).Contents (Elt F))) (val V v50) :=
  at_unary V 300 rfl rfl (by decide)
theorem eq_v52 (V : Valuation τ sig (Elt F)) : val V v52 = ((addf : (⟨S4096x100000, .f32⟩ : BufTy).Contents (Elt F) → (⟨S4096x100000, .f32⟩ : BufTy).Contents (Elt F) → (⟨S4096x100000, .f32⟩ : BufTy).Contents (Elt F))) (val V v51) (val V v9) :=
  at_binary V 301 rfl rfl (by decide) (by decide)
theorem eq_call3_v0 (V : Valuation τ sig (Elt F)) : val V call3_v0 = ((iotaInDim S4096x100000 32 1)) :=
  at_nullary V 302 rfl rfl
theorem eq_call3_cst (V : Valuation τ sig (Elt F)) : val V call3_cst = ((constant S_ .f32 0xFF800000#32)) :=
  at_nullary V 303 rfl rfl
theorem eq_call3_c (V : Valuation τ sig (Elt F)) : val V call3_c = ((constantI S_ 32 0#32)) :=
  at_nullary V 304 rfl rfl
theorem eq_call3_v1_0 (V : Valuation τ sig (Elt F)) : val V call3_v1_0 = ((fun x y u v j => (Host.argReduce reducer_argmax_f32_i32 x y u v reducesTo_S4096x100000_S4096_d1 h_S_ j).1)) (val V v52) (val V call3_v0) (val V call3_cst) (val V call3_c) :=
  at_quaternary V 305 rfl rfl (by decide) (by decide) (by decide) (by decide)
theorem eq_v53 (V : Valuation τ sig (Elt F)) : val V v53 = ((fun x y u v j => (Host.argReduce reducer_argmax_f32_i32 x y u v reducesTo_S4096x100000_S4096_d1 h_S_ j).2)) (val V v52) (val V call3_v0) (val V call3_cst) (val V call3_c) :=
  at_quaternary V 306 rfl rfl (by decide) (by decide) (by decide) (by decide)
theorem eq_v54 (V : Valuation τ sig (Elt F)) : val V v54 = ((broadcastInDim S4096x1 ![0] bcast_S4096_S4096x1_0 : (⟨S4096, .i32⟩ : BufTy).Contents (Elt F) → (⟨S4096x1, .i32⟩ : BufTy).Contents (Elt F))) (val V v53) :=
  at_unary V 307 rfl rfl (by decide)
theorem eq_call4_c (V : Valuation τ sig (Elt F)) : val V call4_c = ((constantI S_ 32 0#32)) :=
  at_nullary V 308 rfl rfl
theorem eq_call4_v0 (V : Valuation τ sig (Elt F)) : val V call4_v0 = ((broadcastInDim S4096x1 ![] bcast_S_S4096x1)) (val V call4_c) :=
  at_unary V 309 rfl rfl (by decide)
theorem eq_call4_v1 (V : Valuation τ sig (Elt F)) : val V call4_v1 = ((cmpi .slt)) (val V v54) (val V call4_v0) :=
  at_binary V 310 rfl rfl (by decide) (by decide)
theorem eq_call4_c_0 (V : Valuation τ sig (Elt F)) : val V call4_c_0 = ((constantI S_ 32 100000#32)) :=
  at_nullary V 311 rfl rfl
theorem eq_call4_v2 (V : Valuation τ sig (Elt F)) : val V call4_v2 = ((broadcastInDim S4096x1 ![] bcast_S_S4096x1)) (val V call4_c_0) :=
  at_unary V 312 rfl rfl (by decide)
theorem eq_call4_v3 (V : Valuation τ sig (Elt F)) : val V call4_v3 = (addi) (val V v54) (val V call4_v2) :=
  at_binary V 313 rfl rfl (by decide) (by decide)
theorem eq_call4_v4 (V : Valuation τ sig (Elt F)) : val V call4_v4 = (select (α := Elt F .i32)) (val V call4_v1) (val V call4_v3) (val V v54) :=
  at_ternary V 314 rfl rfl (by decide) (by decide) (by decide)
theorem eq_call4_v5 (V : Valuation τ sig (Elt F)) : val V call4_v5 = shapeCast S4096x1x1 (val V call4_v4) shapeCasts_S4096x1_S4096x1x1 := by
  have h := at_reshape (x := call4_v4) (y := call4_v5) (he := rfl) (hn := shapeCasts_S4096x1_S4096x1x1) V 315 rfl rfl (by decide)
  rw [h]
theorem eq_call4_c_1 (V : Valuation τ sig (Elt F)) : val V call4_c_1 = ((constantI S1 32 99999#32)) :=
  at_nullary V 316 rfl rfl
theorem eq_call4_c_2 (V : Valuation τ sig (Elt F)) : val V call4_c_2 = ((constantI S_ 32 0#32)) :=
  at_nullary V 317 rfl rfl
theorem eq_call4_v6 (V : Valuation τ sig (Elt F)) : val V call4_v6 = ((broadcastInDim S4096x1x1 ![] bcast_S_S4096x1x1)) (val V call4_c_2) :=
  at_unary V 318 rfl rfl (by decide)
theorem eq_call4_v7 (V : Valuation τ sig (Elt F)) : val V call4_v7 = ((cmpi .sge)) (val V call4_v5) (val V call4_v6) :=
  at_binary V 319 rfl rfl (by decide) (by decide)
theorem eq_call4_v8 (V : Valuation τ sig (Elt F)) : val V call4_v8 = ((broadcastInDim S1x1x1 ![2] bcast_S1_S1x1x1_2)) (val V call4_c_1) :=
  at_unary V 320 rfl rfl (by decide)
theorem eq_call4_v9 (V : Valuation τ sig (Elt F)) : val V call4_v9 = ((broadcastInDim S4096x1x1 ![0, 1, 2] bcast_S1x1x1_S4096x1x1_0_1_2)) (val V call4_v8) :=
  at_unary V 321 rfl rfl (by decide)
theorem eq_call4_v10 (V : Valuation τ sig (Elt F)) : val V call4_v10 = ((cmpi .sle)) (val V call4_v5) (val V call4_v9) :=
  at_binary V 322 rfl rfl (by decide) (by decide)
theorem eq_call4_v11 (V : Valuation τ sig (Elt F)) : val V call4_v11 = (andi) (val V call4_v7) (val V call4_v10) :=
  at_binary V 323 rfl rfl (by decide) (by decide)
theorem eq_call4_c_3 (V : Valuation τ sig (Elt F)) : val V call4_c_3 = ((constantI S_ 1 1#1)) :=
  at_nullary V 324 rfl rfl
theorem eq_call4_v12 (V : Valuation τ sig (Elt F)) : val V call4_v12 = ((fun x v => Host.reduce IntOp.andi x v reducesTo_S4096x1x1_S4096x1_d2 h_S_)) (val V call4_v11) (val V call4_c_3) :=
  at_binary V 325 rfl rfl (by decide) (by decide)
theorem eq_call4_v13 (V : Valuation τ sig (Elt F)) : val V call4_v13 = ((fun x i => Host.gather gather_S4096x100000_S4096x1x1_S4096x1_n_1_0_0_1_2_11 x i)) (val V v10) (val V call4_v5) :=
  at_binary V 326 rfl rfl (by decide) (by decide)
theorem eq_call4_cst (V : Valuation τ sig (Elt F)) : val V call4_cst = ((constant S_ .f32 0x7FC00000#32)) :=
  at_nullary V 327 rfl rfl
theorem eq_call4_v14 (V : Valuation τ sig (Elt F)) : val V call4_v14 = ((broadcastInDim S4096x1 ![] bcast_S_S4096x1)) (val V call4_cst) :=
  at_unary V 328 rfl rfl (by decide)
theorem eq_v55 (V : Valuation τ sig (Elt F)) : val V v55 = (select (α := Elt F .f32)) (val V call4_v12) (val V call4_v13) (val V call4_v14) :=
  at_ternary V 329 rfl rfl (by decide) (by decide) (by decide)
theorem eq_v56 (V : Valuation τ sig (Elt F)) : val V v56 = shapeCast _ (val V v55) shapeCasts_S4096x1_S4096 :=
  at_reshape V 330 rfl rfl (by decide)
theorem eq_v57 (V : Valuation τ sig (Elt F)) : val V v57 = ((Host.exp : (⟨S4096x100000, .f32⟩ : BufTy).Contents (Elt F) → (⟨S4096x100000, .f32⟩ : BufTy).Contents (Elt F))) (val V v10) :=
  at_unary V 331 rfl rfl (by decide)
theorem eq_v58 (V : Valuation τ sig (Elt F)) : val V v58 = ((mulf : (⟨S4096x100000, .f32⟩ : BufTy).Contents (Elt F) → (⟨S4096x100000, .f32⟩ : BufTy).Contents (Elt F) → (⟨S4096x100000, .f32⟩ : BufTy).Contents (Elt F))) (val V v57) (val V v10) :=
  at_binary V 332 rfl rfl (by decide) (by decide)
theorem eq_cst_10 (V : Valuation τ sig (Elt F)) : val V cst_10 = ((constant S_ .f32 0x00000000#32)) :=
  at_nullary V 333 rfl rfl
theorem eq_v59 (V : Valuation τ sig (Elt F)) : val V v59 = (((fun x v => Host.reduceAdd x v reducesTo_S4096x100000_S4096_d1 h_S_) : (⟨S4096x100000, .f32⟩ : BufTy).Contents (Elt F) → (⟨S_, .f32⟩ : BufTy).Contents (Elt F) → (⟨S4096, .f32⟩ : BufTy).Contents (Elt F))) (val V v58) (val V cst_10) :=
  at_binary V 334 rfl rfl (by decide) (by decide)
theorem eq_v60 (V : Valuation τ sig (Elt F)) : val V v60 = ((Host.negf : (⟨S4096, .f32⟩ : BufTy).Contents (Elt F) → (⟨S4096, .f32⟩ : BufTy).Contents (Elt F))) (val V v59) :=
  at_unary V 335 rfl rfl (by decide)
theorem eq_call5_v0 (V : Valuation τ sig (Elt F)) : val V call5_v0 = ((iotaInDim S4096x100000 32 1)) :=
  at_nullary V 336 rfl rfl
theorem eq_call5_cst (V : Valuation τ sig (Elt F)) : val V call5_cst = ((constant S_ .f32 0xFF800000#32)) :=
  at_nullary V 337 rfl rfl
theorem eq_call5_c (V : Valuation τ sig (Elt F)) : val V call5_c = ((constantI S_ 32 0#32)) :=
  at_nullary V 338 rfl rfl
theorem eq_call5_v1_0 (V : Valuation τ sig (Elt F)) : val V call5_v1_0 = ((fun x y u v j => (Host.argReduce reducer_argmax_f32_i32 x y u v reducesTo_S4096x100000_S4096_d1 h_S_ j).1)) (val V v9) (val V call5_v0) (val V call5_cst) (val V call5_c) :=
  at_quaternary V 339 rfl rfl (by decide) (by decide) (by decide) (by decide)
theorem eq_v61 (V : Valuation τ sig (Elt F)) : val V v61 = ((fun x y u v j => (Host.argReduce reducer_argmax_f32_i32 x y u v reducesTo_S4096x100000_S4096_d1 h_S_ j).2)) (val V v9) (val V call5_v0) (val V call5_cst) (val V call5_c) :=
  at_quaternary V 340 rfl rfl (by decide) (by decide) (by decide) (by decide)

end Cert.ReferenceIdeal.Line

end
-- ==== Proof.RefScores.lean ====
/- The reference's scores and log-probabilities, element by element, over the extended reals. -/
module

public import proofs.«01_k».proof.Proof.RefEqs
public import proofs.«01_k».proof.Proof.Spec
public import Idealize.ShloMosaic.Lib.Pointwise
public import Idealize.ShloMosaic.Lib.IdealHost

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo Idealize.ShloMosaic.Tactic Cert.Spec

variable (V : Valuation τ sig (Elt Ideal))

/-- The arguments read as matrices. -/
def inputs : Inputs where
  noise R k := val V arg0 (ix2 R k)
  word R k := val V arg1 (ix2 R k)
  w1 i k := val V arg2 (ix2 i k)
  b1 k := val V arg3 (ix1 k)
  w2 k n := val V arg4 (ix2 k n)

theorem row_apply (R : Fin 4096) (k : Fin 200) : val V v0 (ix2 R k) = (inputs V).row R k := by
  rw [eq_v0]
  pointwise
  rfl

theorem hidden_apply (R : Fin 4096) (k : Fin 512) : val V v5 (ix2 R k) = (inputs V).hidden R k := by
  rw [eq_v5, eq_v4, eq_v1, eq_v3, eq_v2, eq_call0_v0, eq_call0_cst]
  generalize hx : val V v0 = x
  pointwise [dot_S4096x200_S200x512_S4096x512_1_0_0_1_n_n]
  subst hx
  simp only [row_apply]
  rfl

theorem score_apply (hb : ∀ n : Fin 100000, val V arg5 (ix1 n) = (0 : EReal)) (R : Fin 4096) (n : Fin 100000) :
    val V v9 (ix2 R n) = (inputs V).score R n.val := by
  rw [eq_v9, eq_v6, eq_v8, eq_v7]
  generalize hx : val V v5 = x
  pointwise [dot_S4096x512_S512x100000_S4096x100000_1_0_0_1_n_n]
  subst hx
  simp only [hidden_apply, hb, add_zero]
  unfold Inputs.score
  rw [dif_pos n.isLt]
  rfl

/-- The greatest score of a row, as the reference folds it. -/
def top (R : Fin 4096) : EReal := val V call1_v2 (ix1 R)

theorem ofBits_neg_inf : Ideal.ofBits .f32 0xFF800000#32 = ⊥ := by
  show Ideal.ieee 8 23 (0xFF800000#32) = _
  simp only [Ideal.ieee, show ((0xFF800000#32).extractLsb' (8 + 23) 1 == 1#1) = true from rfl,
    show ((0xFF800000#32).extractLsb' 23 8).toNat = 255 from rfl, show ((0xFF800000#32).extractLsb' 0 23).toNat = 0 from rfl]
  simp

theorem max_bot_apply (y : FVec Ideal S4096 .f32) (R : Fin 4096) :
    maximumf (broadcastInDim S4096 ![] bcast_S_S4096 (constant (F := Ideal) S_ .f32 0xFF800000#32)) y (ix1 R) = y (ix1 R) := by
  have h : maximumf (broadcastInDim S4096 ![] bcast_S_S4096 (constant (F := Ideal) S_ .f32 0xFF800000#32)) y (ix1 R)
    = max (Ideal.ofBits .f32 0xFF800000#32) (y (ix1 R)) := rfl
  rw [h, ofBits_neg_inf, max_bot_left]

/-- A maximum along the rows lies between any of its row's elements and any bound of all elements. -/
theorem reduce_max_apply (x : FVec Ideal S4096x100000 .f32) (R : Fin 4096) :
    (∀ B : EReal, (∀ i, x i ≤ B) → Host.reduce FloatOps.maximumf x (constant (F := Ideal) S_ .f32 0xFF800000#32)
      reducesTo_S4096x100000_S4096_d1 h_S_ (ix1 R) ≤ B)
    ∧ ∀ n : Fin 100000, x (ix2 R n) ≤ Host.reduce FloatOps.maximumf x (constant (F := Ideal) S_ .f32 0xFF800000#32)
      reducesTo_S4096x100000_S4096_d1 h_S_ (ix1 R) := by
  rw [Host.reduce_eq_fold]
  have hf : constant (F := Ideal) S_ .f32 0xFF800000#32 (Shape.Idx.first h_S_) = ⊥ := ofBits_neg_inf
  rw [hf]
  have hm : (FloatOps.maximumf : Ideal .f32 → Ideal .f32 → Ideal .f32) = (max : EReal → EReal → EReal) := rfl
  constructor
  · intro B hB
    refine (Finset.fold_max_le (α := S4096x100000.Idx) (β := EReal) (f := x) B).mpr ⟨bot_le, fun i _ => hB i⟩
  · intro n
    refine (Finset.le_fold_max (α := S4096x100000.Idx) (β := EReal) (f := x) _).mpr (Or.inr ⟨ix2 R n, ?_, le_rfl⟩)
    rw [Finset.mem_filter]
    refine ⟨Finset.mem_univ _, ?_⟩
    rw [Shape.ReducesTo.fiber_r2_a1]
    exact ⟨n, rfl⟩

theorem idx2_eq {a b : Nat} (i : (⟨2, ![a, b]⟩ : Shape).Idx) : ∃ (r : Fin a) (l : Fin b), i = ix2 r l :=
  ⟨i 0, i 1, by funext x; match x with | ⟨0, _⟩ => rfl | ⟨1, _⟩ => rfl⟩

/-- The greatest score of a row is real when the scores are. -/
theorem top_real {s : Fin 4096 → ℕ → ℝ} {B : ℝ} (hs : ∀ (R : Fin 4096) (n : Fin 100000), val V v9 (ix2 R n) = (s R n.val : ℝ))
    (hB : ∀ R n, n < 100000 → s R n ≤ B) (R : Fin 4096) : ∃ M : ℝ, top V R = M := by
  have e : top V R = Host.reduce FloatOps.maximumf (val V v9) (constant (F := Ideal) S_ .f32 0xFF800000#32)
      reducesTo_S4096x100000_S4096_d1 h_S_ (ix1 R) := by
    unfold top
    rw [eq_call1_v2, eq_call1_v1, eq_call1_cst_0, eq_call1_v0, eq_call1_cst]
    exact max_bot_apply _ R
  obtain ⟨h1, h2⟩ := reduce_max_apply (val V v9) R
  rw [← e] at h1 h2
  have hu : top V R ≤ (B : EReal) := h1 _ fun i => by
    obtain ⟨r, l, rfl⟩ := idx2_eq i
    rw [hs]; exact_mod_cast hB r l.val l.isLt
  have hl := h2 ⟨0, by norm_num⟩
  rw [hs] at hl
  induction h : top V R using EReal.rec with
  | bot => rw [h] at hl; exact absurd hl (by simp)
  | coe r => exact ⟨r, rfl⟩
  | top => rw [h] at hu; exact absurd hu (by simp)

theorem shifted_apply (R : Fin 4096) (n : Fin 100000) : val V call1_v5 (ix2 R n) = val V v9 (ix2 R n) - top V R := by
  unfold top
  rw [eq_call1_v5, eq_call1_v4, eq_call1_v3]
  generalize val V v9 = x
  generalize val V call1_v2 = y
  pointwise

theorem logp_apply (R : Fin 4096) (n : Fin 100000) : val V v10 (ix2 R n)
    = val V v9 (ix2 R n) - top V R - Ideal.log (∑ k : Fin 100000, Ideal.exp (val V v9 (ix2 R k) - top V R)) := by
  have h : val V v10 (ix2 R n) = val V call1_v5 (ix2 R n) - Ideal.log (∑ k : Fin 100000, Ideal.exp (val V call1_v5 (ix2 R k))) := by
    rw [eq_v10, eq_call1_v10, eq_call1_v9, eq_call1_v8, eq_call1_v7, eq_call1_cst_1, eq_call1_v6]
    generalize val V call1_v5 = x
    pointwise
  rw [h]
  simp only [shifted_apply]

theorem entropy_apply (R : Fin 4096) : val V v60 (ix1 R)
    = -∑ k : Fin 100000, Ideal.exp (val V v10 (ix2 R k)) * val V v10 (ix2 R k) := by
  rw [eq_v60, eq_v59, eq_cst_10, eq_v58, eq_v57]
  generalize val V v10 = x
  pointwise

end Cert.ReferenceIdeal.Line

end
-- ==== Proof.RefDraws.lean ====
/- The reference's draws are the draws of `Gumbel`, group of rounds by group of rounds. -/
module

public import proofs.«01_k».proof.Proof.RefEqs
public import proofs.«01_k».proof.Proof.Spec
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo Idealize.ShloMosaic.Tactic Cert.Spec Cert.Gumbel
open Cert.Spec.Inputs (flat)

variable (V : Valuation τ sig (Elt Ideal))

theorem key0 : val V v19 = fun _ => 0#32 := by
  rw [eq_v19, eq_v18, eq_v17, eq_v13, eq_v16, eq_v12, eq_v15, eq_v11, eq_v14, eq_c, eq_c_0, eq_c_1]
  funext j
  pointwise
  rfl

theorem key1 : val V v21 = fun _ => 42#32 := by
  rw [eq_v21, eq_v20, eq_v17, eq_v13, eq_v16, eq_v12, eq_v15, eq_v11, eq_v14, eq_c, eq_c_0, eq_c_1]
  funext j
  pointwise
  rfl

theorem key2 : val V call2_v1 = fun _ => 466689008#32 := by
  rw [eq_call2_v1, eq_call2_v0, eq_call2_c, key0, key1]
  funext j
  show IntOp.xori (IntOp.xori 0#32 42#32) 466688986#32 = 466689008#32
  decide

theorem place_apply (R : Fin 4096) (n : Fin 100000) : val V v28 (ix2 R n) = BitVec.ofNat 64 (R.val * 100000 + n.val) := by
  rw [eq_v28, eq_v25, eq_v27, eq_v24, eq_v22, eq_v26, eq_v23, eq_c_2, eq_c_3]
  show 100000#64 * BitVec.ofNat 64 R.val + 1#64 * BitVec.ofNat 64 n.val = _
  apply BitVec.eq_of_toNat_eq
  simp only [BitVec.toNat_add, BitVec.toNat_mul, BitVec.toNat_ofNat]
  omega

theorem hi_apply (R : Fin 4096) (n : Fin 100000) : val V v32 (ix2 R n) = 0#32 := by
  rw [eq_v32, eq_v30, eq_v29, eq_c_4]
  have h := place_apply V R n
  generalize val V v28 = x at h
  show (IntOp.shrui .host (x (ix2 R n)) 32#64).setWidth 32 = 0#32
  rw [h]
  have e : IntOp.shrui .host (BitVec.ofNat 64 (R.val * 100000 + n.val)) 32#64 = BitVec.ofNat 64 (R.val * 100000 + n.val) >>> 32 := by
    unfold IntOp.shrui; rw [if_pos (by decide)]; rfl
  rw [e]
  apply BitVec.eq_of_toNat_eq
  simp only [BitVec.toNat_setWidth, BitVec.toNat_ushiftRight, BitVec.toNat_ofNat, Nat.shiftRight_eq_div_pow]
  have hx : R.val * 100000 + n.val < 2 ^ 32 := by omega
  rw [Nat.mod_eq_of_lt (show R.val * 100000 + n.val < 2 ^ 64 by omega), Nat.div_eq_of_lt hx]

theorem lo_apply (R : Fin 4096) (n : Fin 100000) : val V v31 (ix2 R n) = BitVec.ofNat 32 (R.val * 100000 + n.val) := by
  rw [eq_v31]
  have h := place_apply V R n
  generalize val V v28 = x at h
  show (x (ix2 R n)).setWidth 32 = _
  rw [h]
  apply BitVec.eq_of_toNat_eq
  simp only [BitVec.toNat_setWidth, BitVec.toNat_ofNat]
  omega

/-- The host's shifts by less than the width are the kernel's. -/
theorem host_shl (x a : BitVec 32) (ha : a.toNat < 32) : IntOp.shli .host x a = IntOp.shli .vector x a := by
  unfold IntOp.shli; rw [if_pos ha, if_pos ha]
theorem host_shr (x a : BitVec 32) (ha : a.toNat < 32) : IntOp.shrui .host x a = IntOp.shrui .vector x a := by
  unfold IntOp.shrui; rw [if_pos ha, if_pos ha]

/-- One round on whole arrays, read at an index. -/
theorem hround {s : Shape} (X Y : IVec s 32) (a b : BitVec 32) (ha : a.toNat < 32) (hb : b.toNat < 32)
    (h : S_.BroadcastsInDim s (![] : Fin 0 → Fin s.rank)) (j : s.Idx) :
    (addi X Y j, xori (addi X Y) (ori (Host.shli Y (broadcastInDim s ![] h (constantI S_ 32 a)))
      (Host.shrui Y (broadcastInDim s ![] h (constantI S_ 32 b)))) j) = turn a b (X j, Y j) := by
  show (IntOp.addi (X j) (Y j), IntOp.xori (IntOp.addi (X j) (Y j)) (IntOp.ori (IntOp.shli .host (Y j) a) (IntOp.shrui .host (Y j) b)))
    = _
  rw [host_shl _ _ ha, host_shr _ _ hb]
  rfl

/-- The keys on whole arrays, read at an index. -/
theorem hinj {s : Shape} (c d e : BitVec 32) {f : BitVec 32} (hf : d + e = f) (X Y : IVec s 32)
    (h : S_.BroadcastsInDim s (![] : Fin 0 → Fin s.rank)) (j : s.Idx) :
    (addi X (broadcastInDim s ![] h (fun _ => c : IVec S_ 32)) j,
      addi (addi Y (broadcastInDim s ![] h (fun _ => d : IVec S_ 32))) (broadcastInDim s ![] h (constantI S_ 32 e)) j) = inj c f (X j, Y j) := by
  show (X j + c, Y j + d + e) = (X j + c, Y j + f)
  rw [BitVec.add_assoc, hf]

theorem hinjR {s : Shape} (d e : BitVec 32) {f : BitVec 32} (hf : d + e = f) (X Y : IVec s 32)
    (h : S_.BroadcastsInDim s (![] : Fin 0 → Fin s.rank)) (j : s.Idx) :
    (addi X (broadcastInDim s ![] h (fun _ => 0#32 : IVec S_ 32)) j,
      addi (addi Y (broadcastInDim s ![] h (fun _ => d : IVec S_ 32))) (broadcastInDim s ![] h (constantI S_ 32 e)) j) = injR f (X j, Y j) := by
  show (X j + 0#32, Y j + d + e) = (X j, Y j + f)
  rw [BitVec.add_assoc, hf, BitVec.add_zero]

section Rounds
variable (j : S4096x100000.Idx)

theorem round1 : (val V call2_v6 j, val V call2_v12 j) = turn 13#32 19#32 (val V call2_v3 j, val V call2_v5 j) := by
  rw [eq_call2_v12, eq_call2_v11, eq_call2_v8, eq_call2_v10, eq_call2_v7, eq_call2_v9, eq_call2_c_0, eq_call2_c_1, eq_call2_v6]
  exact hround _ _ _ _ (by decide) (by decide) _ j

theorem round2 : (val V call2_v13 j, val V call2_v19 j) = turn 15#32 17#32 (val V call2_v6 j, val V call2_v12 j) := by
  rw [eq_call2_v19, eq_call2_v18, eq_call2_v15, eq_call2_v17, eq_call2_v14, eq_call2_v16, eq_call2_c_2, eq_call2_c_3, eq_call2_v13]
  exact hround _ _ _ _ (by decide) (by decide) _ j

theorem round3 : (val V call2_v20 j, val V call2_v26 j) = turn 26#32 6#32 (val V call2_v13 j, val V call2_v19 j) := by
  rw [eq_call2_v26, eq_call2_v25, eq_call2_v22, eq_call2_v24, eq_call2_v21, eq_call2_v23, eq_call2_c_4, eq_call2_c_5, eq_call2_v20]
  exact hround _ _ _ _ (by decide) (by decide) _ j

theorem round4 : (val V call2_v27 j, val V call2_v33 j) = turn 6#32 26#32 (val V call2_v20 j, val V call2_v26 j) := by
  rw [eq_call2_v33, eq_call2_v32, eq_call2_v29, eq_call2_v31, eq_call2_v28, eq_call2_v30, eq_call2_c_6, eq_call2_c_7, eq_call2_v27]
  exact hround _ _ _ _ (by decide) (by decide) _ j

theorem round5 : (val V call2_v40 j, val V call2_v46 j) = turn 17#32 15#32 (val V call2_v35 j, val V call2_v39 j) := by
  rw [eq_call2_v46, eq_call2_v45, eq_call2_v42, eq_call2_v44, eq_call2_v41, eq_call2_v43, eq_call2_c_9, eq_call2_c_10, eq_call2_v40]
  exact hround _ _ _ _ (by decide) (by decide) _ j

theorem round6 : (val V call2_v47 j, val V call2_v53 j) = turn 29#32 3#32 (val V call2_v40 j, val V call2_v46 j) := by
  rw [eq_call2_v53, eq_call2_v52, eq_call2_v49, eq_call2_v51, eq_call2_v48, eq_call2_v50, eq_call2_c_11, eq_call2_c_12, eq_call2_v47]
  exact hround _ _ _ _ (by decide) (by decide) _ j

theorem round7 : (val V call2_v54 j, val V call2_v60 j) = turn 16#32 16#32 (val V call2_v47 j, val V call2_v53 j) := by
  rw [eq_call2_v60, eq_call2_v59, eq_call2_v56, eq_call2_v58, eq_call2_v55, eq_call2_v57, eq_call2_c_13, eq_call2_c_14, eq_call2_v54]
  exact hround _ _ _ _ (by decide) (by decide) _ j

theorem round8 : (val V call2_v61 j, val V call2_v67 j) = turn 24#32 8#32 (val V call2_v54 j, val V call2_v60 j) := by
  rw [eq_call2_v67, eq_call2_v66, eq_call2_v63, eq_call2_v65, eq_call2_v62, eq_call2_v64, eq_call2_c_15, eq_call2_c_16, eq_call2_v61]
  exact hround _ _ _ _ (by decide) (by decide) _ j

theorem round9 : (val V call2_v74 j, val V call2_v80 j) = turn 13#32 19#32 (val V call2_v69 j, val V call2_v73 j) := by
  rw [eq_call2_v80, eq_call2_v79, eq_call2_v76, eq_call2_v78, eq_call2_v75, eq_call2_v77, eq_call2_c_18, eq_call2_c_19, eq_call2_v74]
  exact hround _ _ _ _ (by decide) (by decide) _ j

theorem round10 : (val V call2_v81 j, val V call2_v87 j) = turn 15#32 17#32 (val V call2_v74 j, val V call2_v80 j) := by
  rw [eq_call2_v87, eq_call2_v86, eq_call2_v83, eq_call2_v85, eq_call2_v82, eq_call2_v84, eq_call2_c_20, eq_call2_c_21, eq_call2_v81]
  exact hround _ _ _ _ (by decide) (by decide) _ j

theorem round11 : (val V call2_v88 j, val V call2_v94 j) = turn 26#32 6#32 (val V call2_v81 j, val V call2_v87 j) := by
  rw [eq_call2_v94, eq_call2_v93, eq_call2_v90, eq_call2_v92, eq_call2_v89, eq_call2_v91, eq_call2_c_22, eq_call2_c_23, eq_call2_v88]
  exact hround _ _ _ _ (by decide) (by decide) _ j

theorem round12 : (val V call2_v95 j, val V call2_v101 j) = turn 6#32 26#32 (val V call2_v88 j, val V call2_v94 j) := by
  rw [eq_call2_v101, eq_call2_v100, eq_call2_v97, eq_call2_v99, eq_call2_v96, eq_call2_v98, eq_call2_c_24, eq_call2_c_25, eq_call2_v95]
  exact hround _ _ _ _ (by decide) (by decide) _ j

theorem round13 : (val V call2_v108 j, val V call2_v114 j) = turn 17#32 15#32 (val V call2_v103 j, val V call2_v107 j) := by
  rw [eq_call2_v114, eq_call2_v113, eq_call2_v110, eq_call2_v112, eq_call2_v109, eq_call2_v111, eq_call2_c_27, eq_call2_c_28, eq_call2_v108]
  exact hround _ _ _ _ (by decide) (by decide) _ j

theorem round14 : (val V call2_v115 j, val V call2_v121 j) = turn 29#32 3#32 (val V call2_v108 j, val V call2_v114 j) := by
  rw [eq_call2_v121, eq_call2_v120, eq_call2_v117, eq_call2_v119, eq_call2_v116, eq_call2_v118, eq_call2_c_29, eq_call2_c_30, eq_call2_v115]
  exact hround _ _ _ _ (by decide) (by decide) _ j

theorem round15 : (val V call2_v122 j, val V call2_v128 j) = turn 16#32 16#32 (val V call2_v115 j, val V call2_v121 j) := by
  rw [eq_call2_v128, eq_call2_v127, eq_call2_v124, eq_call2_v126, eq_call2_v123, eq_call2_v125, eq_call2_c_31, eq_call2_c_32, eq_call2_v122]
  exact hround _ _ _ _ (by decide) (by decide) _ j

theorem round16 : (val V call2_v129 j, val V call2_v135 j) = turn 24#32 8#32 (val V call2_v122 j, val V call2_v128 j) := by
  rw [eq_call2_v135, eq_call2_v134, eq_call2_v131, eq_call2_v133, eq_call2_v130, eq_call2_v132, eq_call2_c_33, eq_call2_c_34, eq_call2_v129]
  exact hround _ _ _ _ (by decide) (by decide) _ j

theorem round17 : (val V call2_v142 j, val V call2_v148 j) = turn 13#32 19#32 (val V call2_v137 j, val V call2_v141 j) := by
  rw [eq_call2_v148, eq_call2_v147, eq_call2_v144, eq_call2_v146, eq_call2_v143, eq_call2_v145, eq_call2_c_36, eq_call2_c_37, eq_call2_v142]
  exact hround _ _ _ _ (by decide) (by decide) _ j

theorem round18 : (val V call2_v149 j, val V call2_v155 j) = turn 15#32 17#32 (val V call2_v142 j, val V call2_v148 j) := by
  rw [eq_call2_v155, eq_call2_v154, eq_call2_v151, eq_call2_v153, eq_call2_v150, eq_call2_v152, eq_call2_c_38, eq_call2_c_39, eq_call2_v149]
  exact hround _ _ _ _ (by decide) (by decide) _ j

theorem round19 : (val V call2_v156 j, val V call2_v162 j) = turn 26#32 6#32 (val V call2_v149 j, val V call2_v155 j) := by
  rw [eq_call2_v162, eq_call2_v161, eq_call2_v158, eq_call2_v160, eq_call2_v157, eq_call2_v159, eq_call2_c_40, eq_call2_c_41, eq_call2_v156]
  exact hround _ _ _ _ (by decide) (by decide) _ j

theorem round20 : (val V call2_v163 j, val V call2_v169 j) = turn 6#32 26#32 (val V call2_v156 j, val V call2_v162 j) := by
  rw [eq_call2_v169, eq_call2_v168, eq_call2_v165, eq_call2_v167, eq_call2_v164, eq_call2_v166, eq_call2_c_42, eq_call2_c_43, eq_call2_v163]
  exact hround _ _ _ _ (by decide) (by decide) _ j

theorem inject1 : (val V call2_v35 j, val V call2_v39 j) = inj 42#32 466689009#32 (val V call2_v27 j, val V call2_v33 j) := by
  rw [eq_call2_v35, eq_call2_v34, eq_call2_v39, eq_call2_v37, eq_call2_v36, eq_call2_v38, eq_call2_c_8, key1, key2]
  exact hinj _ _ _ (by decide) _ _ _ j

theorem inject2 : (val V call2_v69 j, val V call2_v73 j) = inj 466689008#32 2#32 (val V call2_v61 j, val V call2_v67 j) := by
  rw [eq_call2_v69, eq_call2_v68, eq_call2_v73, eq_call2_v71, eq_call2_v70, eq_call2_v72, eq_call2_c_17, key2, key0]
  exact hinj _ _ _ (by decide) _ _ _ j

theorem inject3 : (val V call2_v103 j, val V call2_v107 j) = injR 45#32 (val V call2_v95 j, val V call2_v101 j) := by
  rw [eq_call2_v103, eq_call2_v102, eq_call2_v107, eq_call2_v105, eq_call2_v104, eq_call2_v106, eq_call2_c_26, key0, key1]
  exact hinjR _ _ (by decide) _ _ _ j

theorem inject4 : (val V call2_v137 j, val V call2_v141 j) = inj 42#32 466689012#32 (val V call2_v129 j, val V call2_v135 j) := by
  rw [eq_call2_v137, eq_call2_v136, eq_call2_v141, eq_call2_v139, eq_call2_v138, eq_call2_v140, eq_call2_c_35, key1, key2]
  exact hinj _ _ _ (by decide) _ _ _ j

theorem inject5 : (val V v33_0 j, val V v33_1 j) = inj 466689008#32 5#32 (val V call2_v163 j, val V call2_v169 j) := by
  rw [eq_v33_0, eq_call2_v170, eq_v33_1, eq_call2_v173, eq_call2_v172, eq_call2_v174, eq_call2_c_44, key2, key0]
  exact hinj _ _ _ (by decide) _ _ _ j

end Rounds

/-- The first words. -/
theorem first_apply (R : Fin 4096) (n : Fin 100000) : val V call2_v3 (ix2 R n) = 0#32 := by
  rw [eq_call2_v3, eq_call2_v2, key0]
  have h := hi_apply V R n
  generalize val V v32 = x at h
  show x (ix2 R n) + 0#32 = 0#32
  rw [h]; rfl
theorem second_apply (R : Fin 4096) (n : Fin 100000) : val V call2_v5 (ix2 R n) = flat R n.val := by
  rw [eq_call2_v5, eq_call2_v4, key1]
  have h := lo_apply V R n
  generalize val V v31 = x at h
  show x (ix2 R n) + 42#32 = _
  rw [h]
  unfold flat
  apply BitVec.eq_of_toNat_eq
  simp only [BitVec.toNat_add, BitVec.toNat_ofNat]
  omega

theorem words_apply (R : Fin 4096) (n : Fin 100000) : (val V v33_0 (ix2 R n), val V v33_1 (ix2 R n))
    = g5 (g4 (g3 (g2 (g1 (flat R n.val))))) := by
  have h0 : turn 13#32 19#32 (val V call2_v3 (ix2 R n), val V call2_v5 (ix2 R n))
      = (flat R n.val, IntOp.xori (flat R n.val) (rot (flat R n.val) 13#32 19#32)) := by
    rw [first_apply, second_apply, turn_mk]
    have e : IntOp.addi 0#32 (flat R n.val) = flat R n.val := BitVec.zero_add _
    rw [e]; rfl
  rw [inject5 V _, round20 V _, round19 V _, round18 V _, round17 V _, inject4 V _, round16 V _, round15 V _, round14 V _, round13 V _, inject3 V _, round12 V _, round11 V _, round10 V _, round9 V _, inject2 V _, round8 V _, round7 V _, round6 V _, round5 V _, inject1 V _, round4 V _, round3 V _, round2 V _, round1 V _, h0]
  unfold g5 g4 g3 g2 g1 even4 odd3
  with_reducible rfl

/-- From the random words to numbers in [0, 1), on whole arrays. -/
theorem hunit {s : Shape} (w : IVec s 32) (h : S_.BroadcastsInDim s (![] : Fin 0 → Fin s.rank)) (j : s.Idx) :
    subf (bitcastToFloat (F := Ideal) .f32 (ori (Host.shrui w (broadcastInDim s ![] h (constantI S_ 32 9#32)))
        (broadcastInDim s ![] h (constantI S_ 32 1065353216#32))))
      (broadcastInDim s ![] h (constant (F := Ideal) S_ .f32 0x3F800000#32)) j = unit (w j) := by
  have e : Host.shrui w (broadcastInDim s ![] h (constantI S_ 32 9#32)) = fun i => IntOp.shrui .vector (w i) 9#32 :=
    funext fun i => host_shr (w i) 9#32 (by decide)
  rw [e]
  rfl

/-- The two logarithms, on whole arrays. -/
theorem hofUnit (u : FVec Ideal S4096x100000 .f32) (R : Fin 4096) (n : Fin 100000) :
    Host.negf (Host.log (Host.negf (Host.log (maximumf
      (broadcastInDim S4096x100000 ![] bcast_S_S4096x100000 (constant (F := Ideal) S_ .f32 0x00800000#32))
      (addf (mulf u (broadcastInDim S4096x100000 ![] bcast_S_S4096x100000 (constant (F := Ideal) S_ .f32 0x3F800000#32)))
        (broadcastInDim S4096x100000 ![] bcast_S_S4096x100000 (constant (F := Ideal) S_ .f32 0x00800000#32))))))) (ix2 R n)
      = ofUnit (u (ix2 R n)) := by
  pointwise
  unfold ofUnit
  rw [zero_sub, zero_sub]

theorem draw_apply (R : Fin 4096) (n : Fin 100000) : val V v51 (ix2 R n) = gum (flat R n.val) := by
  have hu : val V v41 (ix2 R n) = unit (bits (flat R n.val)) := by
    have h := words_apply V R n
    rw [eq_v41, eq_v40, eq_cst, eq_v39, eq_v38, eq_v37, eq_c_6, eq_v36, eq_v35, eq_c_5, eq_v34]
    generalize val V v33_0 = x at h ⊢
    generalize val V v33_1 = y at h ⊢
    have hb : bits (flat R n.val) = xori x y (ix2 R n) := by
      unfold bits; rw [← h]; rfl
    rw [hb]
    exact hunit _ _ _
  rw [eq_v51, eq_v50, eq_v49, eq_v48, eq_v47, eq_v46, eq_cst_9, eq_v45, eq_v44, eq_cst_8, eq_v43, eq_v42, eq_cst_7]
  unfold gum
  rw [← hu]
  exact hofUnit _ R n

end Cert.ReferenceIdeal.Line

end
-- ==== Proof.RefPick.lean ====
/- The reference's choice of the largest element of a row, and the gather at the chosen columns. -/
module

public import proofs.«01_k».proof.Proof.RefScores
public import proofs.«01_k».proof.Proof.RefDraws
public import proofs.«01_k».proof.Proof.PreRead
public import Idealize.ShloMosaic.Lib.ReduceAll

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo Idealize.ShloMosaic.Tactic Cert.Spec Cert.Argmax

/-- A pair that loses against another: a smaller value, or the same value at a later column. -/
def Beaten (y z : EReal × BitVec 32) : Prop := y.1 < z.1 ∨ (y.1 = z.1 ∧ z.2.toInt < y.2.toInt)

/-- The comparison of two pairs, spelt as a choice. -/
theorem red_eq (a b : EReal × BitVec 32) : reducer_argmax_f32_i32 (F := Ideal) a b
    = if b.1 < a.1 then a else if a.1 = b.1 ∧ a.2.toInt < b.2.toInt then (b.1, a.2) else b := by
  obtain ⟨a1, a2⟩ := a
  obtain ⟨b1, b2⟩ := b
  have hne : Ideal.cmp .une a1 a1 = 0#1 := by simp [Ideal.cmp]
  by_cases h1 : b1 < a1
  · have e1 : Ideal.cmp .ogt a1 b1 = 1#1 := by simp [Ideal.cmp, h1]
    have e2 : ∀ c : BitVec 1, IntOp.ori 1#1 c = 1#1 := by decide
    simp only [reducer_argmax_f32_i32, Ideal.cmpf_def, hne, e1, e2, h1, if_true]
    rfl
  · have e1 : Ideal.cmp .ogt a1 b1 = 0#1 := by simp [Ideal.cmp, h1]
    have e2 : ∀ c : BitVec 1, IntOp.ori 0#1 c = c := by decide
    have e3 : ∀ c : BitVec 1, IntOp.andi 1#1 c = c := by decide
    have e4 : ∀ c : BitVec 1, IntOp.andi 0#1 c = 0#1 := by decide
    by_cases h2 : a1 = b1
    · subst h2
      have e5 : Ideal.cmp .oeq a1 a1 = 1#1 := by simp [Ideal.cmp]
      by_cases h3 : a2.toInt < b2.toInt
      · have e6 : IntOp.cmpi .slt a2 b2 = 1#1 := by simp [IntOp.cmpi, BitVec.slt, h3]
        simp only [reducer_argmax_f32_i32, Ideal.cmpf_def, hne, e1, e2, e3, e5, e6, h1, h3, if_false, and_self, if_true]
        rfl
      · have e6 : IntOp.cmpi .slt a2 b2 = 0#1 := by simp [IntOp.cmpi, BitVec.slt, h3]
        simp only [reducer_argmax_f32_i32, Ideal.cmpf_def, hne, e1, e2, e3, e5, e6, h1, h3, if_false, and_false]
        rfl
    · have e5 : Ideal.cmp .oeq a1 b1 = 0#1 := by simp [Ideal.cmp, h2]
      simp only [reducer_argmax_f32_i32, Ideal.cmpf_def, hne, e1, e2, e4, e5, h1, h2, if_false, false_and]
      rfl

theorem red_left {y z : EReal × BitVec 32} (h : Beaten y z) : reducer_argmax_f32_i32 (F := Ideal) y z = z := by
  rw [red_eq]
  rcases h with h | ⟨h, h'⟩
  · rw [if_neg (not_lt.mpr h.le), if_neg fun e => h.ne e.1]
  · rw [if_neg (not_lt.mpr h.le), if_neg fun e => absurd e.2 (not_lt.mpr h'.le)]

theorem red_right {y z : EReal × BitVec 32} (h : Beaten y z) : reducer_argmax_f32_i32 (F := Ideal) z y = z := by
  rw [red_eq]
  rcases h with h | ⟨h, h'⟩
  · rw [if_pos h]
  · rw [if_neg (not_lt.mpr h.ge), if_pos ⟨h.symm, h'⟩, h]

theorem red_self (z : EReal × BitVec 32) : reducer_argmax_f32_i32 (F := Ideal) z z = z := by
  rw [red_eq, if_neg (lt_irrefl _), if_neg fun e => lt_irrefl _ e.2]

theorem red_beaten {a b z : EReal × BitVec 32} (ha : Beaten a z) (hb : Beaten b z) :
    Beaten (reducer_argmax_f32_i32 (F := Ideal) a b) z := by
  rw [red_eq]
  split
  · exact ha
  · split
    · next h =>
      rcases ha with h' | ⟨h', h''⟩
      · exact Or.inl (by rw [← h.1]; exact h')
      · exact Or.inr ⟨by rw [← h.1]; exact h', h''⟩
    · exact hb

/-- A list in which one pair beats all others folds to it. -/
theorem foldl_red {z : EReal × BitVec 32} : ∀ (l : List (EReal × BitVec 32)) (init : EReal × BitVec 32),
    (∀ y ∈ l, y = z ∨ Beaten y z) → (init = z ∨ Beaten init z) → (init = z ∨ z ∈ l) →
    l.foldl (reducer_argmax_f32_i32 (F := Ideal)) init = z
  | [], init, _, _, hz => by
    rcases hz with h | h
    · exact h
    · simp at h
  | a :: l, init, hl, hi, hz => by
    rw [List.foldl_cons]
    have ha := hl a (List.mem_cons_self ..)
    refine foldl_red l _ (fun y hy => hl y (List.mem_cons_of_mem _ hy)) ?_ ?_
    · rcases hi with rfl | hi <;> rcases ha with rfl | ha
      · exact Or.inl (red_self _)
      · exact Or.inl (red_right ha)
      · exact Or.inl (red_left hi)
      · exact Or.inr (red_beaten hi ha)
    · rcases hi with rfl | hi
      · rcases ha with rfl | ha
        · exact Or.inl (red_self _)
        · exact Or.inl (red_right ha)
      · rcases hz with rfl | hz
        · rcases ha with rfl | ha
          · exact Or.inl (red_self _)
          · exact Or.inl (red_right ha)
        · rcases List.mem_cons.mp hz with rfl | hz
          · exact Or.inl (red_left hi)
          · exact Or.inr hz

theorem toInt_ofNat {n : ℕ} (h : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega

/-- The reference's index of the largest element of a row. -/
theorem pick_apply (x : FVec Ideal S4096x100000 .f32) (R : Fin 4096) {f : ℕ → EReal} (hx : ∀ n : Fin 100000, x (ix2 R n) = f n.val)
    {A : ℕ} (hA : First f 100000 A) (hb : ⊥ < f A) :
    (Host.argReduce (reducer_argmax_f32_i32 (F := Ideal)) x (iotaInDim S4096x100000 32 1) (constant (F := Ideal) S_ .f32 0xFF800000#32)
      (constantI S_ 32 0#32) reducesTo_S4096x100000_S4096_d1 h_S_ (ix1 R)).2 = BitVec.ofNat 32 A := by
  rw [Ideal.argReduce_eq_reduce2, Host.reduce2_eq_foldl_fiber]
  have key : ∀ n : Fin 100000, (f n.val, BitVec.ofNat 32 n.val) = (f A, BitVec.ofNat 32 A)
      ∨ Beaten (f n.val, BitVec.ofNat 32 n.val) (f A, BitVec.ofNat 32 A) := fun n => by
    have hn := n.isLt
    have hAl := hA.lt
    rcases lt_trichotomy n.val A with h | h | h
    · exact Or.inr (Or.inl (hA.first _ h))
    · exact Or.inl (by rw [h])
    · rcases (hA.le n.val hn).lt_or_eq with h' | h'
      · exact Or.inr (Or.inl h')
      · refine Or.inr (Or.inr ⟨h', ?_⟩)
        show (BitVec.ofNat 32 A).toInt < (BitVec.ofNat 32 n.val).toInt
        rw [toInt_ofNat (by omega), toInt_ofNat (by omega)]; exact_mod_cast h
  have hel : ∀ n : Fin 100000, (x (ix2 R n), iotaInDim S4096x100000 32 1 (ix2 R n)) = (f n.val, BitVec.ofNat 32 n.val) := fun n => by
    rw [hx]; rfl
  refine congrArg Prod.snd (foldl_red (z := (f A, BitVec.ofNat 32 A)) _ _ ?_ ?_ ?_)
  · intro y hy
    unfold Host.argReduceFiber at hy
    obtain ⟨k, hk, rfl⟩ := List.mem_map.mp hy
    have hk' := (List.mem_filter.mp hk).2
    rw [decide_eq_true_eq, Shape.ReducesTo.fiber_r2_a1] at hk'
    obtain ⟨n, hn⟩ := hk'
    rw [← hn]
    have e := hel n
    exact e ▸ key n
  · right; left; show Ideal.ofBits .f32 0xFF800000#32 < f A; rw [ofBits_neg_inf]; exact hb
  · right
    unfold Host.argReduceFiber
    refine List.mem_map.mpr ⟨S4096x100000.rowMajor (ix2 R ⟨A, hA.lt⟩), ?_, ?_⟩
    · rw [List.mem_filter]
      refine ⟨List.mem_finRange _, ?_⟩
      rw [decide_eq_true_eq, Equiv.symm_apply_apply, Shape.ReducesTo.fiber_r2_a1]
      exact ⟨⟨A, hA.lt⟩, rfl⟩
    · rw [Equiv.symm_apply_apply]; exact hel ⟨A, hA.lt⟩

end Cert.ReferenceIdeal.Line

end
-- ==== Proof.RefValue.lean ====
/- The reference's four results, as functions of its arguments. -/
module

public import proofs.«01_k».proof.Proof.RefPick

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo Idealize.ShloMosaic.Tactic Cert.Spec Cert.Argmax

/-- The gather's element in row `R`: the operand's element in that row at the index's column. -/
theorem gather_apply {α : Type} (x : S4096x100000.Idx → α) (ix : IVec S4096x1x1 32) (R : Fin 4096) :
    Host.gather gather_S4096x100000_S4096x1x1_S4096x1_n_1_0_0_1_2_11 x ix (ix2 R 0)
      = x (ix2 R ⟨min (ix (ix3 R 0 0)).toInt.toNat 99999, by omega⟩) := by
  show x (gather_S4096x100000_S4096x1x1_S4096x1_n_1_0_0_1_2_11.operandIdx (ix2 R 0) ix) = _
  refine congrArg x (funext fun a => Fin.ext ?_)
  generalize hd : gather_S4096x100000_S4096x1x1_S4096x1_n_1_0_0_1_2_11 = d
  show d.start (ix2 R 0) ix a + d.batchCoord (ix2 R 0) a + d.offCoord (ix2 R 0) a = _
  have hoff : d.offCoord (ix2 R 0) a = 0 := by
    refine GatherDims.offCoord_eq_zero _ _ _ fun h => ?_
    have h' := (GatherDims.mem_sKept _ _).mp h
    subst hd
    match a with
    | ⟨0, _⟩ => exact h'.2 (List.mem_singleton.mpr rfl)
    | ⟨1, _⟩ => exact h'.1 (List.mem_singleton.mpr rfl)
  rw [hoff, Nat.add_zero]
  subst hd
  match a with
  | ⟨0, _⟩ =>
    have h0 : (⟨0, by decide⟩ : Fin S4096x100000.rank) ∈ gather_S4096x100000_S4096x1x1_S4096x1_n_1_0_0_1_2_11.operandBatchingDims :=
      List.mem_singleton.mpr rfl
    rw [GatherDims.start_batching _ _ _ _ h0, Nat.zero_add]
    unfold GatherDims.batchCoord
    rw [dif_pos h0]
    rfl
  | ⟨1, _⟩ =>
    have h1 : (⟨1, by decide⟩ : Fin S4096x100000.rank) ∉ gather_S4096x100000_S4096x1x1_S4096x1_n_1_0_0_1_2_11.operandBatchingDims :=
      fun h => absurd (List.mem_singleton.mp h) (by decide)
    have h2 : (⟨1, by decide⟩ : Fin S4096x100000.rank) ∈ gather_S4096x100000_S4096x1x1_S4096x1_n_1_0_0_1_2_11.startIndexMap :=
      List.mem_singleton.mpr rfl
    rw [GatherDims.batchCoord_eq_zero _ _ _ h1, Nat.add_zero]
    unfold GatherDims.start
    rw [dif_pos h2]
    have e : gather_S4096x100000_S4096x1x1_S4096x1_n_1_0_0_1_2_11.siIdx (ix2 R 0)
        ⟨List.idxOf (⟨1, by decide⟩ : Fin S4096x100000.rank) gather_S4096x100000_S4096x1x1_S4096x1_n_1_0_0_1_2_11.startIndexMap,
          List.idxOf_lt_length_iff.2 h2⟩ = ix3 R 0 0 := by
      funext b
      refine Fin.ext ?_
      match b with
      | ⟨0, _⟩ => rfl
      | ⟨1, _⟩ => rfl
      | ⟨2, _⟩ => rfl
    rw [e]
    rfl

section
variable (V : Valuation τ sig (Elt Ideal)) (hb : ∀ n : Fin 100000, val V arg5 (ix1 n) = (0 : EReal)) (hg : (inputs V).Good) (R : Fin 4096)
include hb

theorem drawn_apply (n : Fin 100000) : val V v52 (ix2 R n) = (inputs V).drawn R n.val := by
  rw [eq_v52]
  have e : ∀ x y : FVec Ideal S4096x100000 .f32, addf x y (ix2 R n) = ((x (ix2 R n) : EReal) + (y (ix2 R n) : EReal) : EReal) := fun _ _ => rfl
  refine (e (val V v51) (val V v9)).trans ?_
  rw [draw_apply, score_apply V hb, add_comm]
  rfl

include hg

theorem action_apply : val V v53 (ix1 R) = BitVec.ofNat 32 ((inputs V).action R) := by
  rw [eq_v53, eq_call3_v0, eq_call3_cst, eq_call3_c]
  have hA := (inputs V).action_first R
  exact pick_apply (val V v52) R (drawn_apply V hb R) hA (lt_of_le_of_lt bot_le (PreRead.low_lt_drawn hg R hA.lt))

theorem best_apply : val V v61 (ix1 R) = BitVec.ofNat 32 ((inputs V).best R) := by
  rw [eq_v61, eq_call5_v0, eq_call5_cst, eq_call5_c]
  have hA := (inputs V).best_first R
  exact pick_apply (val V v9) R (score_apply V hb R) hA (lt_of_le_of_lt bot_le (PreRead.low_lt_score hg R hA.lt))

/-- The real scores, and the reference's greatest score real. -/
theorem reals : ∃ (s : ℕ → ℝ) (M : ℝ), (∀ n < 100000, (inputs V).score R n = s n) ∧ top V R = M := by
  choose s hs hB using hg
  obtain ⟨M, hM⟩ := top_real V (s := fun R n => if h : n < 100000 then s R n h else 0) (B := 2 ^ 77)
    (fun R n => by dsimp only; rw [score_apply V hb, dif_pos n.isLt, hs R n.val n.isLt])
    (fun R n h => by rw [dif_pos h]; exact (abs_le.mp (hB R n h)).2) R
  exact ⟨fun n => if h : n < 100000 then s R n h else 0, M, fun n h => by dsimp only; rw [dif_pos h, hs R n h], hM⟩

theorem logp_score {M : ℝ} (hM : top V R = M) (n : Fin 100000) : val V v10 (ix2 R n)
    = (inputs V).score R n.val - M - Ideal.log (∑ k ∈ Finset.range 100000, Ideal.exp ((inputs V).score R k - M)) := by
  rw [logp_apply, hM, Finset.sum_range]
  simp only [score_apply V hb]

theorem entropy_value : val V v60 (ix1 R) = (inputs V).entropy R := by
  obtain ⟨s, M, hs, hM⟩ := reals V hb hg R
  rw [Line.entropy_apply]
  have h := entropy_eq hs M (lp := fun n => (inputs V).score R n - M - Ideal.log (∑ k ∈ Finset.range 100000, Ideal.exp ((inputs V).score R k - M)))
    (fun n _ => rfl)
  rw [Finset.sum_range] at h
  simp only [logp_score V hb hg R hM]
  exact h

/-- The columns the reference gathers at. -/
theorem column_apply (R : Fin 4096) (y z : Fin 1) : val V call4_v5 (ix3 R y z) = BitVec.ofNat 32 ((inputs V).action R) := by
  have hA := ((inputs V).action_first R).lt
  have h54 : ∀ z : Fin 1, val V v54 (ix2 R z) = BitVec.ofNat 32 ((inputs V).action R) := fun z => by
    rw [← action_apply V hb hg R, eq_v54]
    generalize val V v53 = x
    pointwise
  have h4 : val V call4_v4 (ix2 R 0) = BitVec.ofNat 32 ((inputs V).action R) := by
    rw [eq_call4_v4, eq_call4_v1, eq_call4_v0, eq_call4_c]
    have h := h54 0
    generalize val V v54 = x at h ⊢
    generalize val V call4_v3 = w
    have e : select (α := BitVec 32) (cmpi .slt x (broadcastInDim S4096x1 ![] bcast_S_S4096x1 (constantI S_ 32 0#32))) w x (ix2 R 0)
      = Scalar.select (IntOp.cmpi .slt (x (ix2 R 0)) 0#32) (w (ix2 R 0)) (x (ix2 R 0)) := rfl
    refine e.trans ?_
    rw [h]
    have hlt : ¬ (BitVec.ofNat 32 ((inputs V).action R)).toInt < (0#32 : BitVec 32).toInt := by
      rw [toInt_ofNat (by omega)]; simp
    have e0 : IntOp.cmpi .slt (BitVec.ofNat 32 ((inputs V).action R)) 0#32 = 0#1 := by
      simp only [IntOp.cmpi, BitVec.slt, hlt, decide_false]
      rfl
    rw [e0]
    rfl
  rw [eq_call4_v5, ← h4]
  generalize val V call4_v4 = x
  pointwise

theorem inside_apply (i : S4096x1x1.Idx) : val V call4_v11 i = (1#1 : BitVec 1) := by
  obtain ⟨a, b, c, rfl⟩ : ∃ (a : Fin 4096) (b c : Fin 1), i = ix3 a b c :=
    ⟨i 0, i 1, i 2, by funext x; match x with | ⟨0, _⟩ => rfl | ⟨1, _⟩ => rfl | ⟨2, _⟩ => rfl⟩
  have hA := ((inputs V).action_first a).lt
  have h := column_apply V hb hg a b c
  rw [eq_call4_v11, eq_call4_v7, eq_call4_v10, eq_call4_v9, eq_call4_v8, eq_call4_c_1, eq_call4_v6, eq_call4_c_2]
  generalize val V call4_v5 = x at h ⊢
  have e : andi (cmpi .sge x (broadcastInDim S4096x1x1 ![] bcast_S_S4096x1x1 (constantI S_ 32 0#32)))
      (cmpi .sle x (broadcastInDim S4096x1x1 ![0, 1, 2] bcast_S1x1x1_S4096x1x1_0_1_2 (broadcastInDim S1x1x1 ![2] bcast_S1_S1x1x1_2 (constantI S1 32 99999#32))))
      (ix3 a b c) = IntOp.andi (IntOp.cmpi .sge (x (ix3 a b c)) 0#32) (IntOp.cmpi .sle (x (ix3 a b c)) 99999#32) := rfl
  refine e.trans ?_
  rw [h]
  have h1 : IntOp.cmpi .sge (BitVec.ofNat 32 ((inputs V).action a)) 0#32 = 1#1 := by
    have : (0#32 : BitVec 32).toInt ≤ (BitVec.ofNat 32 ((inputs V).action a)).toInt := by
      rw [toInt_ofNat (n := (inputs V).action a) (by omega)]; simp
    simp only [IntOp.cmpi, BitVec.sle, this, decide_true]
    rfl
  have h2 : IntOp.cmpi .sle (BitVec.ofNat 32 ((inputs V).action a)) 99999#32 = 1#1 := by
    have : (BitVec.ofNat 32 ((inputs V).action a)).toInt ≤ (99999#32 : BitVec 32).toInt := by
      rw [toInt_ofNat (by omega), show (99999#32 : BitVec 32).toInt = 99999 from by decide]; omega
    simp only [IntOp.cmpi, BitVec.sle, this, decide_true]
    rfl
  rw [h1, h2]
  rfl

theorem logProb_value : val V v56 (ix1 R) = (inputs V).logProb R := by
  obtain ⟨s, M, hs, hM⟩ := reals V hb hg R
  have hA := ((inputs V).action_first R).lt
  have e1 : val V v56 (ix1 R) = val V v55 (ix2 R 0) := by
    rw [eq_v56]
    generalize val V v55 = x
    pointwise
  have hin : val V call4_v12 (ix2 R 0) = (1#1 : BitVec 1) := by
    rw [eq_call4_v12, eq_call4_c_3]
    exact Host.reduce_andi_one (val V call4_v11) _ _ _ _ rfl (inside_apply V hb hg)
  have e2 : val V v55 (ix2 R 0) = val V call4_v13 (ix2 R 0) := by
    rw [eq_v55]
    generalize val V call4_v12 = p at hin ⊢
    generalize val V call4_v13 = x
    generalize val V call4_v14 = y
    have e : select (α := EReal) p x y (ix2 R 0) = Scalar.select (p (ix2 R 0)) (x (ix2 R 0)) (y (ix2 R 0)) := rfl
    refine e.trans ?_
    rw [hin]
    rfl
  have e3 : val V call4_v13 (ix2 R 0) = val V v10 (ix2 R ⟨(inputs V).action R, hA⟩) := by
    rw [eq_call4_v13]
    have hc := column_apply V hb hg R 0 0
    generalize val V call4_v5 = ix at hc ⊢
    generalize val V v10 = x
    refine (gather_apply x ix R).trans (congrArg x ?_)
    have e : min (ix (ix3 R 0 0)).toInt.toNat 99999 = (inputs V).action R := by
      rw [hc, toInt_ofNat (by omega)]; simp; omega
    exact congrArg (ix2 R) (Fin.ext e)
  rw [e1, e2, e3, logp_score V hb hg R hM]
  exact logProb_eq hs M hA

end

end Cert.ReferenceIdeal.Line

end
-- ==== Proof.RefEnd.lean ====
/- The four results of the reference's run, as functions of its arguments. -/
module

public import proofs.«01_k».proof.Proof.RefValue
public import proofs.«01_k».proof.Proof.RefFrame

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo Cert.Spec

/-- An index of a vector of results. -/
theorem vector_idx (i : S4096.Idx) : ∃ R : Fin 4096, i = ix1 R :=
  ⟨i 0, by funext a; match a with | ⟨0, _⟩ => rfl⟩

variable (m : (ℓ : Loc nD τ sig) → Buf (Elt Ideal) ℓ) (ρ : Dev nD → PrngReg)

/-- The reference's run: its four results, its arguments unchanged. -/
theorem run_value (hb : ∀ (c : Dev nD) (n : Fin 100000), val (launchContents m c) arg5 (ix1 n) = (0 : EReal))
    (hg : ∀ c, (inputs (launchContents m c)).Good) :
    θ_run (defs (F := Ideal)) (onTc (τ := τ) (main (F := Ideal))) ⟨m, fun _ => 0, ρ⟩ fun r => ∀ c : Dev nD,
      r.2.mem ((c.tc : Thread nD τ).loc main_v53) = (fun i => BitVec.ofNat 32 ((inputs (launchContents m c)).action (i 0)) : IVec S4096 32)
      ∧ r.2.mem ((c.tc : Thread nD τ).loc main_v56) = (fun i => (inputs (launchContents m c)).logProb (i 0) : FVec Ideal S4096 .f32)
      ∧ r.2.mem ((c.tc : Thread nD τ).loc main_v60) = (fun i => (inputs (launchContents m c)).entropy (i 0) : FVec Ideal S4096 .f32)
      ∧ r.2.mem ((c.tc : Thread nD τ).loc main_v61) = (fun i => BitVec.ofNat 32 ((inputs (launchContents m c)).best (i 0)) : IVec S4096 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ?_) (run m ρ)
  have k : ∀ {T : BufTy} (x : TRef sig T), num x.ref < 6 → r.2.mem ((c.tc : Thread nD τ).loc x.ref) = m ((c.tc : Thread nD τ).loc x.ref) :=
    fun x hx => (h c x.ref).trans (arg_keeps _ x hx)
  have e53 : val (launchContents m c) v53 = (fun i => BitVec.ofNat 32 ((inputs (launchContents m c)).action (i 0)) : IVec S4096 32) := by
    funext i; obtain ⟨R, rfl⟩ := vector_idx i; exact action_apply _ (hb c) (hg c) R
  have e56 : val (launchContents m c) v56 = (fun i => (inputs (launchContents m c)).logProb (i 0) : FVec Ideal S4096 .f32) := by
    funext i; obtain ⟨R, rfl⟩ := vector_idx i; exact logProb_value _ (hb c) (hg c) R
  have e60 : val (launchContents m c) v60 = (fun i => (inputs (launchContents m c)).entropy (i 0) : FVec Ideal S4096 .f32) := by
    funext i; obtain ⟨R, rfl⟩ := vector_idx i; exact entropy_value _ (hb c) (hg c) R
  have e61 : val (launchContents m c) v61 = (fun i => BitVec.ofNat 32 ((inputs (launchContents m c)).best (i 0)) : IVec S4096 32) := by
    funext i; obtain ⟨R, rfl⟩ := vector_idx i; exact best_apply _ (hb c) (hg c) R
  exact ⟨(h c v53.ref).trans e53, (h c v56.ref).trans e56, (h c v60.ref).trans e60, (h c v61.ref).trans e61,
    k arg0 (by decide), k arg1 (by decide), k arg2 (by decide), k arg3 (by decide), k arg4 (by decide), k arg5 (by decide)⟩

end Cert.ReferenceIdeal.Line

end
-- ==== Proof.Equal.lean ====
/- The kernel's results are the reference's. -/
module

public import proofs.«01_k».proof.Defs
public import proofs.«01_k».proof.Proof.KernelIdealEnd
public import proofs.«01_k».proof.Proof.RefEnd
public import proofs.«01_k».proof.Proof.PreRead

@[expose] public section

set_option maxRecDepth 16384

noncomputable section

namespace Cert.Equal

open Idealize.ShloMosaic Idealize.ShloMosaic.TcCoe Idealize.SL.Sem Idealize.ShloMosaic.StableHlo Cert.Spec
open Cert.ReferenceIdeal.Line (val val_arg arg0 arg1 arg2 arg3 arg4 arg5)

/-- Under the precondition the kernel's arguments give real scores. -/
theorem good (m : (ℓ : Loc Cert.KernelIdeal.nD Cert.KernelIdeal.τ Cert.KernelIdeal.sig) → Buf (Elt Ideal) ℓ)
    (h : Pre_KernelIdeal_in_range m) (c : Dev Cert.KernelIdeal.nD) : (Cert.KernelIdeal.Read.inputs m c).Good := by
  obtain ⟨h0, h1, h2, h3, h4, -⟩ := PreRead.read (h c)
  exact PreRead.good (fun _ _ => h0 _) (fun _ _ => h1 _) (fun _ _ => h2 _) (fun _ => h3 _) (fun _ _ => h4 _)

/-- The algebraic claim. -/
theorem algebraic : Cert.algebraic_KernelIdeal_ReferenceIdeal_pre_in_range := by
  intro m g m' g' hpre hargs
  have hg := good m hpre
  have ei : ∀ c, Cert.ReferenceIdeal.Line.inputs (launchContents m' c) = Cert.KernelIdeal.Read.inputs m c := fun c => by
    obtain ⟨a0, a1, a2, a3, a4, -⟩ := hargs c
    have e0 := (val_arg (launchContents m' c) arg0 (by decide)).trans a0
    have e1 := (val_arg (launchContents m' c) arg1 (by decide)).trans a1
    have e2 := (val_arg (launchContents m' c) arg2 (by decide)).trans a2
    have e3 := (val_arg (launchContents m' c) arg3 (by decide)).trans a3
    have e4 := (val_arg (launchContents m' c) arg4 (by decide)).trans a4
    unfold Cert.ReferenceIdeal.Line.inputs Cert.KernelIdeal.Read.inputs
    rw [e0, e1, e2, e3, e4]
  have eb : ∀ c (n : Fin 100000), val (launchContents m' c) arg5 (ix1 n) = (0 : EReal) := fun c n => by
    have e5 := (val_arg (launchContents m' c) arg5 (by decide)).trans (hargs c).2.2.2.2.2
    obtain ⟨-, -, -, -, -, h5⟩ := PreRead.read (hpre c)
    exact (congrFun e5 (ix1 n)).trans (h5 _)
  have hr := Cert.ReferenceIdeal.Line.run_value m' g' eb (fun c => (ei c).symm ▸ hg c)
  simp only [ei] at hr
  exact ⟨_, _, _, _, Cert.KernelIdeal.Read.run_value m g hg, hr⟩

end Cert.Equal

end
-- ==== Proof.lean ====
/- The claims of this certificate, from what the modules under proof/Proof show. -/
module

public import proofs.«01_k».proof.Defs
public import proofs.«01_k».proof.Proof.KernelFrame
public import proofs.«01_k».proof.Proof.KernelIdealFrame
public import proofs.«01_k».proof.Proof.RefFrame
public import proofs.«01_k».proof.Proof.Equal
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m ρ _ => Cert.Kernel.Run.quiescent m ρ,
  fun m ρ _ => Cert.KernelIdeal.Run.quiescent m ρ,
  fun m ρ _ => Cert.KernelIdeal.Run.quiescent m ρ,
  fun m ρ _ => Cert.ReferenceIdeal.Line.quiescent m ρ,
  fun m ρ _ => Cert.ReferenceIdeal.Line.quiescent m ρ,
  IdealRules.named_const.statement Cert.KernelIdeal.κ "pad" .f32 0xF149F2CA#32 ⊥ rfl,
  Cert.Equal.algebraic⟩

end Cert.Proof

end
